-- ==== Defs.lean ====
def Pre_Kernel [hPre_first_in_range : Cert.Pre_first_in_range.Facts] (m : (ℓ : Loc Cert.Kernel.nD Cert.Kernel.τ Cert.Kernel.sig) → Buf (Elt Bits) ℓ) : Prop :=
  ∀ c : Dev Cert.Kernel.nD,
    (Cert.Pre_first_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_first_in_range : Cert.Pre_first_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_first_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_first_in_range : Cert.Pre_first_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_first_in_range : Cert.Pre_first_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v45_3)) (v1 : (c : Dev Cert.Kernel4Ideal.nD) → Buf (Elt Ideal) ((c.tc : Thread Cert.Kernel4Ideal.nD Cert.Kernel4Ideal.τ).loc Cert.Kernel4Ideal.main_v45_4)) (v2 : (c : Dev Cert.Kernel4Ideal.nD) → Buf (Elt Ideal) ((c.tc : Thread Cert.Kernel4Ideal.nD Cert.Kernel4Ideal.τ).loc Cert.Kernel4Ideal.main_v45_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v45_3) = v0 c
          ∧ r.2.mem ((c.tc : Thread Cert.Kernel4Ideal.nD Cert.Kernel4Ideal.τ).loc Cert.Kernel4Ideal.main_v45_4) = v1 c
          ∧ r.2.mem ((c.tc : Thread Cert.Kernel4Ideal.nD Cert.Kernel4Ideal.τ).loc Cert.Kernel4Ideal.main_v45_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_first_in_range : Cert.Pre_first_in_range.Facts) (hPre_finite : Cert.Pre_finite.Facts),
    quiescent_Kernel (hKernel := hKernel) (hPre_first_in_range := hPre_first_in_range)
    ∧ quiescent_KernelIdeal (hKernelIdeal := hKernelIdeal) (hPre_first_in_range := hPre_first_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S64 : Shape := ⟨1, ![64]⟩
abbrev S2x8192x8x64 : Shape := ⟨4, ![2, 8192, 8, 64]⟩
abbrev S2x8192x8 : Shape := ⟨3, ![2, 8192, 8]⟩
abbrev S1x1x1x1 : Shape := ⟨4, ![1, 1, 1, 1]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  bcast_S_S2x8192x8 : S_.BroadcastsInDim S2x8192x8 (![] : Fin 0 → Fin S2x8192x8.rank)
  reducesTo_S2x8192x8_S_d0_1_2 : S2x8192x8.ReducesTo [0, 1, 2] S_
  bcast_S_S1x1x1x1 : S_.BroadcastsInDim S1x1x1x1 (![] : Fin 0 → Fin S1x1x1x1.rank)
  reducesTo_S1x1x1x1_S_d0_1_2_3 : S1x1x1x1.ReducesTo [0, 1, 2, 3] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S64 32) (arg1 : IVec S_ 32) : IVec S64 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S64 32 := broadcastInDim S64 ![] bcast_S_S64 v2
  let v4 : IVec S64 32 := Host.remsi arg0 v3
  let c_1 : IVec S_ 32 := constantI S_ 32 0#32
  let v5 : IVec S64 32 := broadcastInDim S64 ![] bcast_S_S64 c_1
  let v6 : IVec S64 1 := cmpi .ne v4 v5
  let c_2 : IVec S_ 32 := constantI S_ 32 0#32
  let v7 : IVec S64 32 := broadcastInDim S64 ![] bcast_S_S64 c_2
  let v8 : IVec S64 1 := cmpi .slt v4 v7
  let c_3 : IVec S_ 32 := constantI S_ 32 0#32
  let v9 : IVec S_ 1 := cmpi .slt v2 c_3
  let v10 : IVec S64 1 := broadcastInDim S64 ![] bcast_S_S64 v9
  let v11 : IVec S64 1 := cmpi .ne v8 v10
  let v12 : IVec S64 1 := andi v11 v6
  let v13 : IVec S64 32 := broadcastInDim S64 ![] bcast_S_S64 v2
  let v14 : IVec S64 32 := addi v4 v13
  let v15 : IVec S64 32 := select v12 v14 v4
  v15

def fn_part1 {F : FTy → Type} [FloatOps F] (main_arg3 : FVec F S2x8192x8x64 .f32) (main_arg4 : FVec F S2x8192x8 .f32) (main_arg5 : FVec F S1x1x1x1 .f32) (main_v13 : IVec S_ 1) (main_v16 : IVec S2x8192x8x64 1) : IVec S_ 1 :=
  let main_c_5 : IVec S_ 1 := constantI S_ 1 1#1
  let main_v17 : IVec S_ 1 := (fun x v => Host.reduce IntOp.andi x v reducesTo_S2x8192x8x64_S_d0_1_2_3 h_S_) main_v16 main_c_5
  let main_v18 : IVec S_ 1 := andi main_v13 main_v17
  let main_v19 : FVec F S2x8192x8x64 .f32 := Host.absf main_arg3
  let main_cst_6 : FVec F S_ .f32 := constant S_ .f32 0x7F800000#32
  let main_v20 : FVec F S2x8192x8x64 .f32 := broadcastInDim S2x8192x8x64 ![] bcast_S_S2x8192x8x64 main_cst_6
  let main_v21 : IVec S2x8192x8x64 1 := cmpf .olt main_v19 main_v20
  let main_c_7 : IVec S_ 1 := constantI S_ 1 1#1
  let main_v22 : IVec S_ 1 := (fun x v => Host.reduce IntOp.andi x v reducesTo_S2x8192x8x64_S_d0_1_2_3 h_S_) main_v21 main_c_7
  let main_v23 : IVec S_ 1 := andi main_v18 main_v22
  let main_v24 : FVec F S2x8192x8 .f32 := Host.absf main_arg4
  let main_cst_8 : FVec F S_ .f32 := constant S_ .f32 0x7F800000#32
  let main_v25 : FVec F S2x8192x8 .f32 := broadcastInDim S2x8192x8 ![] bcast_S_S2x8192x8 main_cst_8
  let main_v26 : IVec S2x8192x8 1 := cmpf .olt main_v24 main_v25
  let main_c_9 : IVec S_ 1 := constantI S_ 1 1#1
  let main_v27 : IVec S_ 1 := (fun x v => Host.reduce IntOp.andi x v reducesTo_S2x8192x8_S_d0_1_2 h_S_) main_v26 main_c_9
  let main_v28 : IVec S_ 1 := andi main_v23 main_v27
  let main_v29 : FVec F S1x1x1x1 .f32 := Host.absf main_arg5
  let main_cst_10 : FVec F S_ .f32 := constant S_ .f32 0x7F800000#32
  let main_v30 : FVec F S1x1x1x1 .f32 := broadcastInDim S1x1x1x1 ![] bcast_S_S1x1x1x1 main_cst_10
  let main_v31 : IVec S1x1x1x1 1 := cmpf .olt main_v29 main_v30
  let main_c_11 : IVec S_ 1 := constantI S_ 1 1#1
  let main_v32 : IVec S_ 1 := (fun x v => Host.reduce IntOp.andi x v reducesTo_S1x1x1x1_S_d0_1_2_3 h_S_) main_v31 main_c_11
  let main_v33 : IVec S_ 1 := andi main_v28 main_v32
  main_v33

def fn {F : FTy → Type} [FloatOps F] (main_arg0 : IVec S64 32) (main_arg1 : FVec F S2x8192x8x64 .f32) (main_arg2 : FVec F S2x8192x8x64 .f32) (main_arg3 : FVec F S2x8192x8x64 .f32) (main_arg4 : FVec F S2x8192x8 .f32) (main_arg5 : FVec F S1x1x1x1 .f32) : IVec S_ 1 :=
  let main_v0 : IVec S64 32 := iotaInDim S64 32 0
  let main_c : IVec S_ 32 := constantI S_ 32 8#32
  let main_v1 : IVec S64 32 := fn_remainder (F := F) main_v0 main_c
  let main_c_0 : IVec S_ 32 := constantI S_ 32 0#32
  let main_v2 : IVec S64 32 := broadcastInDim S64 ![] bcast_S_S64 main_c_0
  let main_v3 : IVec S64 1 := cmpi .sge main_arg0 main_v2
  let main_c_1 : IVec S_ 32 := constantI S_ 32 2#32
  let main_v4 : IVec S64 32 := broadcastInDim S64 ![] bcast_S_S64 main_c_1
  let main_v5 : IVec S64 32 := muli main_v4 main_v1
  let main_v6 : IVec S64 1 := cmpi .sle main_arg0 main_v5
  let main_v7 : IVec S64 1 := andi main_v3 main_v6
  let main_c_2 : IVec S_ 1 := constantI S_ 1 1#1
  let main_v8 : IVec S_ 1 := (fun x v => Host.reduce IntOp.andi x v reducesTo_S64_S_d0 h_S_) main_v7 main_c_2
  let main_v9 : FVec F S2x8192x8x64 .f32 := Host.absf main_arg1
  let main_cst : FVec F S_ .f32 := constant S_ .f32 0x7F800000#32
  let main_v10 : FVec F S2x8192x8x64 .f32 := broadcastInDim S2x8192x8x64 ![] bcast_S_S2x8192x8x64 main_cst
  let main_v11 : IVec S2x8192x8x64 1 := cmpf .olt main_v9 main_v10
  let main_c_3 : IVec S_ 1 := constantI S_ 1 1#1
  let main_v12 : IVec S_ 1 := (fun x v => Host.reduce IntOp.andi x v reducesTo_S2x8192x8x64_S_d0_1_2_3 h_S_) main_v11 main_c_3
  let main_v13 : IVec S_ 1 := andi main_v8 main_v12
  let main_v14 : FVec F S2x8192x8x64 .f32 := Host.absf main_arg2
  let main_cst_4 : FVec F S_ .f32 := constant S_ .f32 0x7F800000#32
  let main_v15 : FVec F S2x8192x8x64 .f32 := broadcastInDim S2x8192x8x64 ![] bcast_S_S2x8192x8x64 main_cst_4
  let main_v16 : IVec S2x8192x8x64 1 := cmpf .olt main_v14 main_v15
  fn_part1 (F := F) main_arg3 main_arg4 main_arg5 main_v13 main_v16
-- ==== Pre_first_in_range.lean ====
abbrev S64 : Shape := ⟨1, ![64]⟩
abbrev S2x8192x8x64 : Shape := ⟨4, ![2, 8192, 8, 64]⟩
abbrev S2x8192x8 : Shape := ⟨3, ![2, 8192, 8]⟩
abbrev S1x1x1x1 : Shape := ⟨4, ![1, 1, 1, 1]⟩
abbrev S_ : Shape := ⟨0, ![]⟩

class Facts : Prop where
  bcast_S_S64 : S_.BroadcastsInDim S64 (![] : Fin 0 → Fin S64.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S64 32) (arg1 : IVec S_ 32) : IVec S64 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S64 32 := broadcastInDim S64 ![] bcast_S_S64 v2
  let v4 : IVec S64 32 := Host.remsi arg0 v3
  let c_1 : IVec S_ 32 := constantI S_ 32 0#32
  let v5 : IVec S64 32 := broadcastInDim S64 ![] bcast_S_S64 c_1
  let v6 : IVec S64 1 := cmpi .ne v4 v5
  let c_2 : IVec S_ 32 := constantI S_ 32 0#32
  let v7 : IVec S64 32 := broadcastInDim S64 ![] bcast_S_S64 c_2
  let v8 : IVec S64 1 := cmpi .slt v4 v7
  let c_3 : IVec S_ 32 := constantI S_ 32 0#32
  let v9 : IVec S_ 1 := cmpi .slt v2 c_3
  let v10 : IVec S64 1 := broadcastInDim S64 ![] bcast_S_S64 v9
  let v11 : IVec S64 1 := cmpi .ne v8 v10
  let v12 : IVec S64 1 := andi v11 v6
  let v13 : IVec S64 32 := broadcastInDim S64 ![] bcast_S_S64 v2
  let v14 : IVec S64 32 := addi v4 v13
  let v15 : IVec S64 32 := select v12 v14 v4
  v15

def fn {F : FTy → Type} [FloatOps F] (main_arg0 : IVec S64 32) (main_arg1 : FVec F S2x8192x8x64 .f32) (main_arg2 : FVec F S2x8192x8x64 .f32) (main_arg3 : FVec F S2x8192x8x64 .f32) (main_arg4 : FVec F S2x8192x8 .f32) (main_arg5 : FVec F S1x1x1x1 .f32) : IVec S64 1 :=
  let main_v0 : IVec S64 32 := iotaInDim S64 32 0
  let main_c : IVec S_ 32 := constantI S_ 32 8#32
  let main_v1 : IVec S64 32 := fn_remainder (F := F) main_v0 main_c
  let main_c_0 : IVec S_ 32 := constantI S_ 32 0#32
  let main_v2 : IVec S64 32 := broadcastInDim S64 ![] bcast_S_S64 main_c_0
  let main_v3 : IVec S64 1 := cmpi .sge main_arg0 main_v2
  let main_c_1 : IVec S_ 32 := constantI S_ 32 2#32
  let main_v4 : IVec S64 32 := broadcastInDim S64 ![] bcast_S_S64 main_c_1
  let main_v5 : IVec S64 32 := muli main_v4 main_v1
  let main_v6 : IVec S64 1 := cmpi .sle main_arg0 main_v5
  let main_v7 : IVec S64 1 := andi main_v3 main_v6
  main_v7
-- ==== Kernel.lean ====
abbrev S64 : Shape := ⟨1, ![64]⟩
abbrev S2x8192x8x64 : Shape := ⟨4, ![2, 8192, 8, 64]⟩
abbrev S2x8192x8 : Shape := ⟨3, ![2, 8192, 8]⟩
abbrev S1x1x1x1 : Shape := ⟨4, ![1, 1, 1, 1]⟩
abbrev S2x8192x8x1 : Shape := ⟨4, ![2, 8192, 8, 1]⟩
abbrev S_ : Shape := ⟨0, ![]⟩
abbrev S2x8192x8x3 : Shape := ⟨4, ![2, 8192, 8, 3]⟩
abbrev S2x8192x8x57 : Shape := ⟨4, ![2, 8192, 8, 57]⟩
abbrev S2x8192x8x128 : Shape := ⟨4, ![2, 8192, 8, 128]⟩
abbrev S16384x1024 : Shape := ⟨2, ![16384, 1024]⟩
abbrev S2x8192x8x63 : Shape := ⟨4, ![2, 8192, 8, 63]⟩
abbrev S16384x512 : Shape := ⟨2, ![16384, 512]⟩
abbrev S1024x256 : Shape := ⟨2, ![1024, 256]⟩
abbrev S8192x256 : Shape := ⟨2, ![8192, 256]⟩
abbrev S1024x128 : Shape := ⟨2, ![1024, 128]⟩
abbrev S1 : Shape := ⟨1, ![1]⟩
abbrev S512x128 : Shape := ⟨2, ![512, 128]⟩
abbrev S1024x512 : Shape := ⟨2, ![1024, 512]⟩
abbrev S1024x1024 : Shape := ⟨2, ![1024, 1024]⟩
abbrev S512x512 : Shape := ⟨2, ![512, 512]⟩
abbrev S512x1 : Shape := ⟨2, ![512, 1]⟩
abbrev S512x1024 : Shape := ⟨2, ![512, 1024]⟩

abbrev nBuf : Space → Nat
  | .hbm => 46
  | .vmem => 8
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8192x8, .f32⟩
  | .hbm, ⟨4, _⟩ => ⟨S1x1x1x1, .f32⟩
  | .hbm, ⟨5, _⟩ => ⟨S2x8192x8, .bf16⟩
  | .hbm, ⟨6, _⟩ => ⟨S2x8192x8, .f32⟩
  | .hbm, ⟨7, _⟩ => ⟨S2x8192x8, .f32⟩
  | .hbm, ⟨8, _⟩ => ⟨S2x8192x8, .bf16⟩
  | .hbm, ⟨9, _⟩ => ⟨S2x8192x8, .f32⟩
  | .hbm, ⟨10, _⟩ => ⟨S2x8192x8, .f32⟩
  | .hbm, ⟨11, _⟩ => ⟨S2x8192x8, .f32⟩
  | .hbm, ⟨12, _⟩ => ⟨S2x8192x8, .bf16⟩
  | .hbm, ⟨13, _⟩ => ⟨S2x8192x8, .f32⟩
  | .hbm, ⟨14, _⟩ => ⟨S2x8192x8x1, .f32⟩
  | .hbm, ⟨15, _⟩ => ⟨S2x8192x8x1, .f32⟩
  | .hbm, ⟨16, _⟩ => ⟨S2x8192x8x1, .f32⟩
  | .hbm, ⟨17, _⟩ => ⟨S_, .f32⟩
  | .hbm, ⟨18, _⟩ => ⟨S2x8192x8x64, .f32⟩
  | .hbm, ⟨19, _⟩ => ⟨S2x8192x8x64, .f32⟩
  | .hbm, ⟨20, _⟩ => ⟨S_, .f32⟩
  | .hbm, ⟨21, _⟩ => ⟨S2x8192x8x3, .f32⟩
  | .hbm, ⟨22, _⟩ => ⟨S_, .f32⟩
  | .hbm, ⟨23, _⟩ => ⟨S2x8192x8x1, .f32⟩
  | .hbm, ⟨24, _⟩ => ⟨S_, .f32⟩
  | .hbm, ⟨25, _⟩ => ⟨S2x8192x8x57, .f32⟩
  | .hbm, ⟨26, _⟩ => ⟨S2x8192x8x128, .f32⟩
  | .hbm, ⟨27, _⟩ => ⟨S16384x1024, .f32⟩
  | .hbm, ⟨28, _⟩ => ⟨S16384x1024, .bf16⟩
  | .hbm, ⟨29, _⟩ => ⟨S_, .f32⟩
  | .hbm, ⟨30, _⟩ => ⟨S2x8192x8x3, .f32⟩
  | .hbm, ⟨31, _⟩ => ⟨S1x1x1x1, .f32⟩
  | .hbm, ⟨32, _⟩ => ⟨S2x8192x8x1, .f32⟩
  | .hbm, ⟨33, _⟩ => ⟨S_, .f32⟩
  | .hbm, ⟨34, _⟩ => ⟨S2x8192x8x57, .f32⟩
  | .hbm, ⟨35, _⟩ => ⟨S2x8192x8x128, .f32⟩
  | .hbm, ⟨36, _⟩ => ⟨S16384x1024, .f32⟩
  | .hbm, ⟨37, _⟩ => ⟨S16384x1024, .bf16⟩
  | .hbm, ⟨38, _⟩ => ⟨S_, .f32⟩
  | .hbm, ⟨39, _⟩ => ⟨S2x8192x8x1, .f32⟩
  | .hbm, ⟨40, _⟩ => ⟨S_, .f32⟩
  | .hbm, ⟨41, _⟩ => ⟨S2x8192x8x63, .f32⟩
  | .hbm, ⟨42, _⟩ => ⟨S2x8192x8x128, .f32⟩
  | .hbm, ⟨43, _⟩ => ⟨S16384x1024, .f32⟩
  | .hbm, ⟨44, _⟩ => ⟨S16384x1024, .bf16⟩
  | .hbm, ⟨45, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1024x128, .bf16⟩
  | .local _ .vmem, ⟨7, _⟩ => ⟨S1024x128, .bf16⟩
  | .local _ .smem, ⟨0, _⟩ => ⟨S64, .i32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c8_i32 : BitVec 32 := 8#32
  let v2 : BitVec 32 := Scalar.muli v1 c8_i32
  let arg2 : BitVec 32 := BitVec.ofNat 32 (i 2).val
  let v3 : BitVec 32 := Scalar.addi v2 arg2
  let v4 : Index := Scalar.indexCast v3
  ![v4.toNat]
def k0_mult1 (v5 : BitVec 32) : BitVec 32 :=
  let c512_i32_53 : BitVec 32 := 512#32
  let v155 : BitVec 32 := Scalar.muli v5 c512_i32_53
  v155
def k0_cond1 (v5 : BitVec 32) : BitVec 1 :=
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi v5 v8
  let c0_i32_1 : BitVec 32 := 0#32
  let v11 : BitVec 1 := Scalar.cmpi .slt v9 c0_i32_1
  let c0_i32_2 : BitVec 32 := 0#32
  let v12 : BitVec 1 := Scalar.cmpi .slt v8 c0_i32_2
  let v13 : BitVec 1 := Scalar.xori v11 v12
  let c0_i32_0 : BitVec 32 := 0#32
  let v10 : BitVec 1 := Scalar.cmpi .ne v9 c0_i32_0
  let v14 : BitVec 1 := Scalar.andi v13 v10
  let v15 : BitVec 32 := Scalar.addi v9 v8
  let v16 : BitVec 32 := Scalar.select v14 v15 v9
  let c1_i32_3 : BitVec 32 := 1#32
  let v17 : BitVec 1 := Scalar.cmpi .eq v16 c1_i32_3
  let v18 : BitVec 32 := Scalar.extui v17
  let c0_i32_4 : BitVec 32 := 0#32
  let v19 : BitVec 1 := Scalar.cmpi .ne v18 c0_i32_4
  v19

def k0_off2 (v5 : BitVec 32) : Fin 2 → Nat :=
  let c512_i32_53 : BitVec 32 := 512#32
  let v155 : BitVec 32 := Scalar.muli v5 c512_i32_53
  let v156 : BitVec 32 := v155
  let v159 : Index := Scalar.indexCast v156
  let c0_56 : Index := 0#32
  ![v159.toNat, 0]
def k0_off3 (v5 : BitVec 32) : Fin 2 → Nat :=
  let c512_i32_53 : BitVec 32 := 512#32
  let v155 : BitVec 32 := Scalar.muli v5 c512_i32_53
  let v156 : BitVec 32 := v155
  let v173 : Index := Scalar.indexCast v156
  let c128_63 : Index := 128#32
  ![v173.toNat, 128]
@[reducible] def k0_t1_loop (i : grid0.Coords) (v5 : BitVec 32) : Scf.Loop 32 :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let arg2 : BitVec 32 := BitVec.ofNat 32 (i 2).val
  let v39 : BitVec 32 := Scalar.subi arg2 v38
  let c1_i32_13 : BitVec 32 := 1#32
  let v41 : BitVec 32 := Scalar.divsi v39 c1_i32_13
  let v42 : BitVec 32 := Scalar.muli v41 c1_i32_13
  let v43 : BitVec 32 := Scalar.addi v38 v42
  let c1_i32_14 : BitVec 32 := 1#32
  ⟨v38, v43, c1_i32_14⟩
def k0_mult2 (i : grid0.Coords) (v5 : BitVec 32) (k0_t1 : Fin (k0_t1_loop i v5).trips) : BitVec 32 :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let c1_i32_14 : BitVec 32 := 1#32
  let arg8 : BitVec 32 := Scf.iv v38 c1_i32_14 k0_t1
  let c1024_i32_53 : BitVec 32 := 1024#32
  let v155 : BitVec 32 := Scalar.muli arg8 c1024_i32_53
  v155
def k0_off4 (i : grid0.Coords) (v5 : BitVec 32) (k0_t1 : Fin (k0_t1_loop i v5).trips) : Fin 2 → Nat :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let c1_i32_14 : BitVec 32 := 1#32
  let arg8 : BitVec 32 := Scf.iv v38 c1_i32_14 k0_t1
  let c1024_i32_53 : BitVec 32 := 1024#32
  let v155 : BitVec 32 := Scalar.muli arg8 c1024_i32_53
  let v156 : BitVec 32 := v155
  let v159 : Index := Scalar.indexCast v156
  let c0_56 : Index := 0#32
  ![v159.toNat, 0]
def k0_off5 (i : grid0.Coords) (v5 : BitVec 32) (k0_t1 : Fin (k0_t1_loop i v5).trips) : Fin 2 → Nat :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let c1_i32_14 : BitVec 32 := 1#32
  let arg8 : BitVec 32 := Scf.iv v38 c1_i32_14 k0_t1
  let c1024_i32_53 : BitVec 32 := 1024#32
  let v155 : BitVec 32 := Scalar.muli arg8 c1024_i32_53
  let v156 : BitVec 32 := v155
  let v174 : Index := Scalar.indexCast v156
  let c128_63 : Index := 128#32
  ![v174.toNat, 128]
@[reducible] def k0_t2_loop (i : grid0.Coords) (v5 : BitVec 32) : Scf.Loop 32 :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let arg2 : BitVec 32 := BitVec.ofNat 32 (i 2).val
  let v39 : BitVec 32 := Scalar.subi arg2 v38
  let c1_i32_13 : BitVec 32 := 1#32
  let v41 : BitVec 32 := Scalar.divsi v39 c1_i32_13
  let v42 : BitVec 32 := Scalar.muli v41 c1_i32_13
  let v43 : BitVec 32 := Scalar.addi v38 v42
  let v40 : BitVec 32 := Scalar.addi v38 v39
  let c1_i32_15 : BitVec 32 := 1#32
  ⟨v43, v40, c1_i32_15⟩
def k0_mult3 (i : grid0.Coords) (v5 : BitVec 32) (k0_t2 : Fin (k0_t2_loop i v5).trips) : BitVec 32 :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let arg2 : BitVec 32 := BitVec.ofNat 32 (i 2).val
  let v39 : BitVec 32 := Scalar.subi arg2 v38
  let c1_i32_13 : BitVec 32 := 1#32
  let v41 : BitVec 32 := Scalar.divsi v39 c1_i32_13
  let v42 : BitVec 32 := Scalar.muli v41 c1_i32_13
  let v43 : BitVec 32 := Scalar.addi v38 v42
  let c1_i32_15 : BitVec 32 := 1#32
  let arg8 : BitVec 32 := Scf.iv v43 c1_i32_15 k0_t2
  let c1024_i32_53 : BitVec 32 := 1024#32
  let v155 : BitVec 32 := Scalar.muli arg8 c1024_i32_53
  v155
def k0_off6 (i : grid0.Coords) (v5 : BitVec 32) (k0_t2 : Fin (k0_t2_loop i v5).trips) : Fin 2 → Nat :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let arg2 : BitVec 32 := BitVec.ofNat 32 (i 2).val
  let v39 : BitVec 32 := Scalar.subi arg2 v38
  let c1_i32_13 : BitVec 32 := 1#32
  let v41 : BitVec 32 := Scalar.divsi v39 c1_i32_13
  let v42 : BitVec 32 := Scalar.muli v41 c1_i32_13
  let v43 : BitVec 32 := Scalar.addi v38 v42
  let c1_i32_15 : BitVec 32 := 1#32
  let arg8 : BitVec 32 := Scf.iv v43 c1_i32_15 k0_t2
  let c1024_i32_53 : BitVec 32 := 1024#32
  let v155 : BitVec 32 := Scalar.muli arg8 c1024_i32_53
  let v156 : BitVec 32 := v155
  let v159 : Index := Scalar.indexCast v156
  let c0_56 : Index := 0#32
  ![v159.toNat, 0]
def k0_off7 (i : grid0.Coords) (v5 : BitVec 32) (k0_t2 : Fin (k0_t2_loop i v5).trips) : Fin 2 → Nat :=
  let c1_i32_5 : BitVec 32 := 1#32
  let v21 : BitVec 32 := Scalar.addi v5 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let arg2 : BitVec 32 := BitVec.ofNat 32 (i 2).val
  let v39 : BitVec 32 := Scalar.subi arg2 v38
  let c1_i32_13 : BitVec 32 := 1#32
  let v41 : BitVec 32 := Scalar.divsi v39 c1_i32_13
  let v42 : BitVec 32 := Scalar.muli v41 c1_i32_13
  let v43 : BitVec 32 := Scalar.addi v38 v42
  let c1_i32_15 : BitVec 32 := 1#32
  let arg8 : BitVec 32 := Scf.iv v43 c1_i32_15 k0_t2
  let c1024_i32_53 : BitVec 32 := 1024#32
  let v155 : BitVec 32 := Scalar.muli arg8 c1024_i32_53
  let v156 : BitVec 32 := v155
  let v174 : Index := Scalar.indexCast v156
  let c128_63 : Index := 128#32
  ![v174.toNat, 128]

def k0_chk1 (i : grid0.Coords) (v5 : BitVec 32) : Prop :=
  (∀ (k0_h1 : k0_cond1 v5 = 1#1), 512 ∣ (k0_mult1 v5).toNat) ∧
  (∀ (k0_h1 : k0_cond1 v5 = 1#1), ∀ a, (k0_off2 v5) a + S512x128.size a ≤ S8192x256.size a) ∧
  (∀ (k0_h1 : k0_cond1 v5 = 1#1), ∀ a, (k0_off3 v5) a + S512x128.size a ≤ S8192x256.size a) ∧
  ((k0_t1_loop i v5).OK) ∧
  (∀ k0_t1 : Fin (k0_t1_loop i v5).trips, 1024 ∣ (k0_mult2 i v5 k0_t1).toNat) ∧
  (∀ k0_t1 : Fin (k0_t1_loop i v5).trips, ∀ a, (k0_off4 i v5 k0_t1) a + S1024x128.size a ≤ S8192x256.size a) ∧
  (∀ k0_t1 : Fin (k0_t1_loop i v5).trips, ∀ a, (k0_off5 i v5 k0_t1) a + S1024x128.size a ≤ S8192x256.size a) ∧
  ((k0_t2_loop i v5).OK) ∧
  (∀ k0_t2 : Fin (k0_t2_loop i v5).trips, 1024 ∣ (k0_mult3 i v5 k0_t2).toNat) ∧
  (∀ k0_t2 : Fin (k0_t2_loop i v5).trips, ∀ a, (k0_off6 i v5 k0_t2) a + S1024x128.size a ≤ S8192x256.size a) ∧
  (∀ k0_t2 : Fin (k0_t2_loop i v5).trips, ∀ a, (k0_off7 i v5 k0_t2) a + S1024x128.size a ≤ S8192x256.size a)
theorem k0_mult1_dvd : ∀ (i : grid0.Coords) (v5 : BitVec 32) (k0_hw1 : k0_chk1 i v5), ∀ (k0_h1 : k0_cond1 v5 = 1#1), 512 ∣ (k0_mult1 v5).toNat := fun i v5 k0_hw1 k0_h1 => k0_hw1.1 k0_h1
theorem k0_off2_inb : ∀ (i : grid0.Coords) (v5 : BitVec 32) (k0_hw1 : k0_chk1 i v5), ∀ (k0_h1 : k0_cond1 v5 = 1#1), ∀ a, (k0_off2 v5) a + S512x128.size a ≤ S8192x256.size a := fun i v5 k0_hw1 k0_h1 => k0_hw1.2.1 k0_h1
theorem k0_off3_inb : ∀ (i : grid0.Coords) (v5 : BitVec 32) (k0_hw1 : k0_chk1 i v5), ∀ (k0_h1 : k0_cond1 v5 = 1#1), ∀ a, (k0_off3 v5) a + S512x128.size a ≤ S8192x256.size a := fun i v5 k0_hw1 k0_h1 => k0_hw1.2.2.1 k0_h1
theorem k0_t1_ok : ∀ (i : grid0.Coords) (v5 : BitVec 32) (k0_hw1 : k0_chk1 i v5), (k0_t1_loop i v5).OK := fun i v5 k0_hw1 => k0_hw1.2.2.2.1
theorem k0_mult2_dvd : ∀ (i : grid0.Coords) (v5 : BitVec 32) (k0_hw1 : k0_chk1 i v5) (k0_t1 : Fin (k0_t1_loop i v5).trips), 1024 ∣ (k0_mult2 i v5 k0_t1).toNat := fun i v5 k0_hw1 k0_t1 => k0_hw1.2.2.2.2.1 k0_t1
theorem k0_off4_inb : ∀ (i : grid0.Coords) (v5 : BitVec 32) (k0_hw1 : k0_chk1 i v5) (k0_t1 : Fin (k0_t1_loop i v5).trips), ∀ a, (k0_off4 i v5 k0_t1) a + S1024x128.size a ≤ S8192x256.size a := fun i v5 k0_hw1 k0_t1 => k0_hw1.2.2.2.2.2.1 k0_t1
theorem k0_off5_inb : ∀ (i : grid0.Coords) (v5 : BitVec 32) (k0_hw1 : k0_chk1 i v5) (k0_t1 : Fin (k0_t1_loop i v5).trips), ∀ a, (k0_off5 i v5 k0_t1) a + S1024x128.size a ≤ S8192x256.size a := fun i v5 k0_hw1 k0_t1 => k0_hw1.2.2.2.2.2.2.1 k0_t1
theorem k0_t2_ok : ∀ (i : grid0.Coords) (v5 : BitVec 32) (k0_hw1 : k0_chk1 i v5), (k0_t2_loop i v5).OK := fun i v5 k0_hw1 => k0_hw1.2.2.2.2.2.2.2.1
theorem k0_mult3_dvd : ∀ (i : grid0.Coords) (v5 : BitVec 32) (k0_hw1 : k0_chk1 i v5) (k0_t2 : Fin (k0_t2_loop i v5).trips), 1024 ∣ (k0_mult3 i v5 k0_t2).toNat := fun i v5 k0_hw1 k0_t2 => k0_hw1.2.2.2.2.2.2.2.2.1 k0_t2
theorem k0_off6_inb : ∀ (i : grid0.Coords) (v5 : BitVec 32) (k0_hw1 : k0_chk1 i v5) (k0_t2 : Fin (k0_t2_loop i v5).trips), ∀ a, (k0_off6 i v5 k0_t2) a + S1024x128.size a ≤ S8192x256.size a := fun i v5 k0_hw1 k0_t2 => k0_hw1.2.2.2.2.2.2.2.2.2.1 k0_t2
theorem k0_off7_inb : ∀ (i : grid0.Coords) (v5 : BitVec 32) (k0_hw1 : k0_chk1 i v5) (k0_t2 : Fin (k0_t2_loop i v5).trips), ∀ a, (k0_off7 i v5 k0_t2) a + S1024x128.size a ≤ S8192x256.size a := fun i v5 k0_hw1 k0_t2 => k0_hw1.2.2.2.2.2.2.2.2.2.2 k0_t2

def k0_mult4 (i : grid0.Coords) : BitVec 32 :=
  let arg2 : BitVec 32 := BitVec.ofNat 32 (i 2).val
  let c1024_i32 : BitVec 32 := 1024#32
  let v46 : BitVec 32 := Scalar.muli arg2 c1024_i32
  v46
def k0_off8 (i : grid0.Coords) : Fin 2 → Nat :=
  let arg2 : BitVec 32 := BitVec.ofNat 32 (i 2).val
  let c1024_i32 : BitVec 32 := 1024#32
  let v46 : BitVec 32 := Scalar.muli arg2 c1024_i32
  let v47 : BitVec 32 := v46
  let v57 : Index := Scalar.indexCast v47
  let c0_18 : Index := 0#32
  ![v57.toNat, 0]
def k0_off9 (i : grid0.Coords) : Fin 2 → Nat :=
  let arg2 : BitVec 32 := BitVec.ofNat 32 (i 2).val
  let c1024_i32 : BitVec 32 := 1024#32
  let v46 : BitVec 32 := Scalar.muli arg2 c1024_i32
  let v47 : BitVec 32 := v46
  let v78 : Index := Scalar.indexCast v47
  let c128_25 : Index := 128#32
  ![v78.toNat, 128]
def k0_off10 (i : grid0.Coords) : Fin 2 → Nat :=
  let arg2 : BitVec 32 := BitVec.ofNat 32 (i 2).val
  let c1024_i32 : BitVec 32 := 1024#32
  let v46 : BitVec 32 := Scalar.muli arg2 c1024_i32
  let v47 : BitVec 32 := v46
  let v110 : Index := Scalar.indexCast v47
  let c0_35 : Index := 0#32
  ![v110.toNat, 0]
def k0_off11 (i : grid0.Coords) : Fin 2 → Nat :=
  let arg2 : BitVec 32 := BitVec.ofNat 32 (i 2).val
  let c1024_i32 : BitVec 32 := 1024#32
  let v46 : BitVec 32 := Scalar.muli arg2 c1024_i32
  let v47 : BitVec 32 := v46
  let v131 : Index := Scalar.indexCast v47
  let c128_43 : Index := 128#32
  ![v131.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S64 : Shape := ⟨1, ![64]⟩
abbrev S2x8192x8x64 : Shape := ⟨4, ![2, 8192, 8, 64]⟩
abbrev S2x8192x8 : Shape := ⟨3, ![2, 8192, 8]⟩
abbrev S1x1x1x1 : Shape := ⟨4, ![1, 1, 1, 1]⟩
abbrev S2x8x8192x64 : Shape := ⟨4, ![2, 8, 8192, 64]⟩
abbrev S2x8x8192 : Shape := ⟨3, ![2, 8, 8192]⟩
abbrev S2x8x8192x8192 : Shape := ⟨4, ![2, 8, 8192, 8192]⟩
abbrev S_ : Shape := ⟨0, ![]⟩
abbrev S2x8x8192x1 : Shape := ⟨4, ![2, 8, 8192, 1]⟩
abbrev S2x8x1x8192 : Shape := ⟨4, ![2, 8, 1, 8192]⟩
abbrev S8192 : Shape := ⟨1, ![8192]⟩
abbrev S2x4x1x8x1 : Shape := ⟨5, ![2, 4, 1, 8, 1]⟩
abbrev S2x4x2x8x1024 : Shape := ⟨5, ![2, 4, 2, 8, 1024]⟩
abbrev S1x8192 : Shape := ⟨2, ![1, 8192]⟩
abbrev S8192x1 : Shape := ⟨2, ![8192, 1]⟩
abbrev S8192x8192 : Shape := ⟨2, ![8192, 8192]⟩
abbrev S1x1x1x8192 : Shape := ⟨4, ![1, 1, 1, 8192]⟩
abbrev S1x1x8192x8192 : Shape := ⟨4, ![1, 1, 8192, 8192]⟩
abbrev S16384x512 : Shape := ⟨2, ![16384, 512]⟩

abbrev nBuf : Space → Nat
  | .hbm => 61
  | .vmem => 0
  | .smem => 0
  | _ => 0

abbrev bufTy : (tb : Table) → Fin (tcTables nBuf tb) → BufTy
  | .hbm, ⟨0, _⟩ => ⟨S64, .i32⟩
  | .hbm, ⟨1, _⟩ => ⟨S2x8192x8x64, .f32⟩
  | .hbm, ⟨2, _⟩ => ⟨S2x8192x8x64, .f32⟩
  | .hbm, ⟨3, _⟩ => ⟨S2x8192x8x64, .f32⟩
  | .hbm, ⟨4, _⟩ => ⟨S2x8192x8, .f32⟩
  | .hbm, ⟨5, _⟩ => ⟨S1x1x1x1, .f32⟩
  | .hbm, ⟨6, _⟩ => ⟨S2x8x8192x64, .f32⟩
  | .hbm, ⟨7, _⟩ => ⟨S2x8x8192x64, .f32⟩
  | .hbm, ⟨8, _⟩ => ⟨S2x8x8192x64, .f32⟩
  | .hbm, ⟨9, _⟩ => ⟨S2x8x8192, .f32⟩
  | .hbm, ⟨10, _⟩ => ⟨S2x8x8192x8192, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S2x8x8192x1, .f32⟩
  | .hbm, ⟨15, _⟩ => ⟨S2x8x8192x8192, .f32⟩
  | .hbm, ⟨16, _⟩ => ⟨S2x8x8192x8192, .f32⟩
  | .hbm, ⟨17, _⟩ => ⟨S2x8x1x8192, .f32⟩
  | .hbm, ⟨18, _⟩ => ⟨S2x8x8192x8192, .f32⟩
  | .hbm, ⟨19, _⟩ => ⟨S2x8x8192x8192, .f32⟩
  | .hbm, ⟨20, _⟩ => ⟨S8192, .i32⟩
  | .hbm, ⟨21, _⟩ => ⟨S2x4x1x8x1, .i32⟩
  | .hbm, ⟨22, _⟩ => ⟨S_, .i32⟩
  | .hbm, ⟨23, _⟩ => ⟨S2x4x1x8x1, .i32⟩
  | .hbm, ⟨24, _⟩ => ⟨S2x4x1x8x1, .i32⟩
  | .hbm, ⟨25, _⟩ => ⟨S2x4x2x8x1024, .i32⟩
  | .hbm, ⟨26, _⟩ => ⟨S2x8x8192x1, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S1x1x1x8192, .i32⟩
  | .hbm, ⟨33, _⟩ => ⟨S2x8x8192x8192, .i32⟩
  | .hbm, ⟨34, _⟩ => ⟨S2x8x8192x8192, .i32⟩
  | .hbm, ⟨35, _⟩ => ⟨S2x8x8192x8192, .i1⟩
  | .hbm, ⟨36, _⟩ => ⟨S1x1x8192x8192, .i1⟩
  | .hbm, ⟨37, _⟩ => ⟨S2x8x8192x8192, .i1⟩
  | .hbm, ⟨38, _⟩ => ⟨S2x8x8192x8192, .i1⟩
  | .hbm, ⟨39, _⟩ => ⟨S_, .f32⟩
  | .hbm, ⟨40, _⟩ => ⟨S_, .f32⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S_, .f32⟩
  | .hbm, ⟨46, _⟩ => ⟨S2x8x8192, .f32⟩
  | .hbm, ⟨47, _⟩ => ⟨S2x8x8192, .f32⟩
  | .hbm, ⟨48, _⟩ => ⟨S2x8x8192x1, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S2x8x8192, .f32⟩
  | .hbm, ⟨54, _⟩ => ⟨S2x8x8192x1, .f32⟩
  | .hbm, ⟨55, _⟩ => ⟨S2x8x8192x8192, .f32⟩
  | .hbm, ⟨56, _⟩ => ⟨S2x8x8192x8192, .f32⟩
  | .hbm, ⟨57, _⟩ => ⟨S2x8x8192x64, .f32⟩
  | .hbm, ⟨58, _⟩ => ⟨S2x8192x8x64, .f32⟩
  | .hbm, ⟨59, _⟩ => ⟨S16384x512, .f32⟩
  | .hbm, ⟨60, _⟩ => ⟨S16384x512, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S512x1024 : Shape := ⟨2, ![512, 1024]⟩
abbrev S16x1024 : Shape := ⟨2, ![16, 1024]⟩
abbrev S528x1024 : Shape := ⟨2, ![528, 1024]⟩
abbrev S2x528x256 : Shape := ⟨3, ![2, 528, 256]⟩
abbrev S512x2816 : Shape := ⟨2, ![512, 2816]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1024x256 : Shape := ⟨2, ![1024, 256]⟩
abbrev S528x256 : Shape := ⟨2, ![528, 256]⟩
abbrev S1x528x256 : Shape := ⟨3, ![1, 528, 256]⟩
abbrev S1x256 : Shape := ⟨2, ![1, 256]⟩
abbrev S1x512x256 : Shape := ⟨3, ![1, 512, 256]⟩
abbrev S512x256 : Shape := ⟨2, ![512, 256]⟩
abbrev S512x1536 : Shape := ⟨2, ![512, 1536]⟩
abbrev S1536x1024 : Shape := ⟨2, ![1536, 1024]⟩
abbrev S512x1280 : Shape := ⟨2, ![512, 1280]⟩
abbrev S1280x1024 : Shape := ⟨2, ![1280, 1024]⟩

abbrev nBuf : Space → Nat
  | .hbm => 12
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1x5632, .f32⟩
  | .hbm, ⟨9, _⟩ => ⟨S1024x5632, .bf16⟩
  | .hbm, ⟨10, _⟩ => ⟨S2816x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S528x1024, .bf16⟩
  | .local _ .vmem, ⟨12, _⟩ => ⟨S2x528x256, .f32⟩
  | .local _ .vmem, ⟨13, _⟩ => ⟨S2x528x256, .f32⟩
  | .local _ .vmem, ⟨14, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x5632, .f32⟩
  | .hbm, ⟨23, _⟩ => ⟨S_, .i32⟩
  | .hbm, ⟨24, _⟩ => ⟨S_, .f32⟩
  | .hbm, ⟨25, _⟩ => ⟨S2x8194x5632, .f32⟩
  | .hbm, ⟨26, _⟩ => ⟨S1x5632, .f32⟩
  | .hbm, ⟨27, _⟩ => ⟨S5632, .f32⟩
  | .hbm, ⟨28, _⟩ => ⟨S2x8192x5632, .f32⟩
  | .hbm, ⟨29, _⟩ => ⟨S1x1x5632, .f32⟩
  | .hbm, ⟨30, _⟩ => ⟨S2x8192x5632, .f32⟩
  | .hbm, ⟨31, _⟩ => ⟨S2x8192x5632, .f32⟩
  | .hbm, ⟨32, _⟩ => ⟨S_, .f32⟩
  | .hbm, ⟨33, _⟩ => ⟨S2x8192x5632, .f32⟩
  | .hbm, ⟨34, _⟩ => ⟨S2x8192x5632, .f32⟩
  | .hbm, ⟨35, _⟩ => ⟨S1x5632, .f32⟩
  | .hbm, ⟨36, _⟩ => ⟨S5632, .f32⟩
  | .hbm, ⟨37, _⟩ => ⟨S2x8192x5632, .f32⟩
  | .hbm, ⟨38, _⟩ => ⟨S1x1x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S1x5632, .f32⟩
  | .hbm, ⟨43, _⟩ => ⟨S5632, .f32⟩
  | .hbm, ⟨44, _⟩ => ⟨S2x8192x5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S1x1x5632, .f32⟩
  | .hbm, ⟨50, _⟩ => ⟨S2x8192x5632, .f32⟩
  | .hbm, ⟨51, _⟩ => ⟨S2x8192x5632, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S_, .f32⟩
  | .hbm, ⟨57, _⟩ => ⟨S2x8192x2816, .f32⟩
  | .hbm, ⟨58, _⟩ => ⟨S2x8192x2816, .f32⟩
  | .hbm, ⟨59, _⟩ => ⟨S_, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S2x8192x1024, .f32⟩
  | .hbm, ⟨65, _⟩ => ⟨S2x8192x1024, .f32⟩
  | .hbm, ⟨66, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x256 : Shape := ⟨2, ![16384, 256]⟩
abbrev S16384x2048 : Shape := ⟨2, ![16384, 2048]⟩
abbrev S1024 : Shape := ⟨1, ![1024]⟩
abbrev S1024x1024 : Shape := ⟨2, ![1024, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1024x512 : Shape := ⟨2, ![1024, 512]⟩
abbrev S1024x256 : Shape := ⟨2, ![1024, 256]⟩
abbrev S256x256 : Shape := ⟨2, ![256, 256]⟩
abbrev S1x256 : Shape := ⟨2, ![1, 256]⟩
abbrev S512x1024 : Shape := ⟨2, ![512, 1024]⟩
abbrev S256x1024 : Shape := ⟨2, ![256, 1024]⟩

abbrev nBuf : Space → Nat
  | .hbm => 20
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S16384x2048, .bf16⟩
  | .hbm, ⟨5, _⟩ => ⟨S1024, .f32⟩
  | .hbm, ⟨6, _⟩ => ⟨S1024x1024, .f32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .bf16⟩
  | .hbm, ⟨17, _⟩ => ⟨S1x1024, .f32⟩
  | .hbm, ⟨18, _⟩ => ⟨S1024x1024, .bf16⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1x1024, .f32⟩
  | .local _ .vmem, ⟨13, _⟩ => ⟨S512x512, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S16384x512 : Shape := ⟨2, ![16384, 512]⟩
abbrev S16384x256 : Shape := ⟨2, ![16384, 256]⟩
abbrev S16384x2048 : Shape := ⟨2, ![16384, 2048]⟩
abbrev S1024 : Shape := ⟨1, ![1024]⟩
abbrev S1024x1024 : Shape := ⟨2, ![1024, 1024]⟩
abbrev S512 : Shape := ⟨1, ![512]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S8x64 : Shape := ⟨2, ![8, 64]⟩
abbrev S1x8x64 : Shape := ⟨3, ![1, 8, 64]⟩
abbrev S256 : Shape := ⟨1, ![256]⟩
abbrev S16384x4x64 : Shape := ⟨3, ![16384, 4, 64]⟩
abbrev S16384x4 : Shape := ⟨2, ![16384, 4]⟩
abbrev S16384x4x1 : Shape := ⟨3, ![16384, 4, 1]⟩
abbrev S4x64 : Shape := ⟨2, ![4, 64]⟩
abbrev S1x4x64 : Shape := ⟨3, ![1, 4, 64]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S16384x2048, .bf16⟩
  | .hbm, ⟨5, _⟩ => ⟨S1024, .f32⟩
  | .hbm, ⟨6, _⟩ => ⟨S1024x1024, .f32⟩
  | .hbm, ⟨7, _⟩ => ⟨S16384x256, .bf16⟩
  | .hbm, ⟨8, _⟩ => ⟨S16384x256, .f32⟩
  | .hbm, ⟨9, _⟩ => ⟨S16384x256, .bf16⟩
  | .hbm, ⟨10, _⟩ => ⟨S16384x256, .f32⟩
  | .hbm, ⟨11, _⟩ => ⟨S512, .f32⟩
  | .hbm, ⟨12, _⟩ => ⟨S16384x512, .f32⟩
  | .hbm, ⟨13, _⟩ => ⟨S16384x8x64, .f32⟩
  | .hbm, ⟨14, _⟩ => ⟨S16384x8x64, .f32⟩
  | .hbm, ⟨15, _⟩ => ⟨S_, .f32⟩
  | .hbm, ⟨16, _⟩ => ⟨S16384x8, .f32⟩
  | .hbm, ⟨17, _⟩ => ⟨S16384x8x1, .f32⟩
  | .hbm, ⟨18, _⟩ => ⟨S_, .f32⟩
  | .hbm, ⟨19, _⟩ => ⟨S16384x8x1, .f32⟩
  | .hbm, ⟨20, _⟩ => ⟨S16384x8x1, .f32⟩
  | .hbm, ⟨21, _⟩ => ⟨S_, .f32⟩
  | .hbm, ⟨22, _⟩ => ⟨S16384x8x1, .f32⟩
  | .hbm, ⟨23, _⟩ => ⟨S16384x8x1, .f32⟩
  | .hbm, ⟨24, _⟩ => ⟨S16384x8x1, .f32⟩
  | .hbm, ⟨25, _⟩ => ⟨S16384x8x64, .f32⟩
  | .hbm, ⟨26, _⟩ => ⟨S16384x8x64, .f32⟩
  | .hbm, ⟨27, _⟩ => ⟨S8x64, .f32⟩
  | .hbm, ⟨28, _⟩ => ⟨S1x8x64, .f32⟩
  | .hbm, ⟨29, _⟩ => ⟨S16384x8x64, .f32⟩
  | .hbm, ⟨30, _⟩ => ⟨S16384x8x64, .f32⟩
  | .hbm, ⟨31, _⟩ => ⟨S16384x512, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S_, .f32⟩
  | .hbm, ⟨38, _⟩ => ⟨S16384x256, .f32⟩
  | .hbm, ⟨39, _⟩ => ⟨S16384x256, .f32⟩
  | .hbm, ⟨40, _⟩ => ⟨S256, .f32⟩
  | .hbm, ⟨41, _⟩ => ⟨S16384x256, .f32⟩
  | .hbm, ⟨42, _⟩ => ⟨S16384x4x64, .f32⟩
  | .hbm, ⟨43, _⟩ => ⟨S16384x4x64, .f32⟩
  | .hbm, ⟨44, _⟩ => ⟨S_, .f32⟩
  | .hbm, ⟨45, _⟩ => ⟨S16384x4, .f32⟩
  | .hbm, ⟨46, _⟩ => ⟨S16384x4x1, .f32⟩
  | .hbm, ⟨47, _⟩ => ⟨S_, .f32⟩
  | .hbm, ⟨48, _⟩ => ⟨S16384x4x1, .f32⟩
  | .hbm, ⟨49, _⟩ => ⟨S16384x4x1, .f32⟩
  | .hbm, ⟨50, _⟩ => ⟨S_, .f32⟩
  | .hbm, ⟨51, _⟩ => ⟨S16384x4x1, .f32⟩
  | .hbm, ⟨52, _⟩ => ⟨S16384x4x1, .f32⟩
  | .hbm, ⟨53, _⟩ => ⟨S16384x4x1, .f32⟩
  | .hbm, ⟨54, _⟩ => ⟨S16384x4x64, .f32⟩
  | .hbm, ⟨55, _⟩ => ⟨S16384x4x64, .f32⟩
  | .hbm, ⟨56, _⟩ => ⟨S4x64, .f32⟩
  | .hbm, ⟨57, _⟩ => ⟨S1x4x64, .f32⟩
  | .hbm, ⟨58, _⟩ => ⟨S16384x4x64, .f32⟩
  | .hbm, ⟨59, _⟩ => ⟨S16384x4x64, .f32⟩
  | .hbm, ⟨60, _⟩ => ⟨S16384x256, .f32⟩
  | .hbm, ⟨61, _⟩ => ⟨S16384x256, .f32⟩
  | .hbm, ⟨62, _⟩ => ⟨S16384x256, .f32⟩
  | .hbm, ⟨63, _⟩ => ⟨S16384x256, .f32⟩
  | .hbm, ⟨64, _⟩ => ⟨S_, .f32⟩
  | .hbm, ⟨65, _⟩ => ⟨S16384x256, .f32⟩
  | .hbm, ⟨66, _⟩ => ⟨S16384x256, .f32⟩
  | .hbm, ⟨67, _⟩ => ⟨S_, .f32⟩
  | .hbm, ⟨68, _⟩ => ⟨S16384x256, .f32⟩
  | .hbm, ⟨69, _⟩ => ⟨S16384x256, .f32⟩
  | .hbm, ⟨70, _⟩ => ⟨S16384x256, .f32⟩
  | .hbm, ⟨71, _⟩ => ⟨S256, .f32⟩
  | .hbm, ⟨72, _⟩ => ⟨S16384x256, .f32⟩
  | .hbm, ⟨73, _⟩ => ⟨S16384x4x64, .f32⟩
  | .hbm, ⟨74, _⟩ => ⟨S16384x4x64, .f32⟩
  | .hbm, ⟨75, _⟩ => ⟨S_, .f32⟩
  | .hbm, ⟨76, _⟩ => ⟨S16384x4, .f32⟩
  | .hbm, ⟨77, _⟩ => ⟨S16384x4x1, .f32⟩
  | .hbm, ⟨78, _⟩ => ⟨S_, .f32⟩
  | .hbm, ⟨79, _⟩ => ⟨S16384x4x1, .f32⟩
  | .hbm, ⟨80, _⟩ => ⟨S16384x4x1, .f32⟩
  | .hbm, ⟨81, _⟩ => ⟨S_, .f32⟩
  | .hbm, ⟨82, _⟩ => ⟨S16384x4x1, .f32⟩
  | .hbm, ⟨83, _⟩ => ⟨S16384x4x1, .f32⟩
  | .hbm, ⟨84, _⟩ => ⟨S16384x4x1, .f32⟩
  | .hbm, ⟨85, _⟩ => ⟨S16384x4x64, .f32⟩
  | .hbm, ⟨86, _⟩ => ⟨S16384x4x64, .f32⟩
  | .hbm, ⟨87, _⟩ => ⟨S4x64, .f32⟩
  | .hbm, ⟨88, _⟩ => ⟨S1x4x64, .f32⟩
  | .hbm, ⟨89, _⟩ => ⟨S16384x4x64, .f32⟩
  | .hbm, ⟨90, _⟩ => ⟨S16384x4x64, .f32⟩
  | .hbm, ⟨91, _⟩ => ⟨S16384x256, .f32⟩
  | .hbm, ⟨92, _⟩ => ⟨S16384x256, .f32⟩
  | .hbm, ⟨93, _⟩ => ⟨S16384x1024, .f32⟩
  | .hbm, ⟨94, _⟩ => ⟨S16384x1024, .f32⟩
  | .hbm, ⟨95, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3600 : Shape := ⟨2, ![1024, 3600]⟩
abbrev S3600 : Shape := ⟨1, ![3600]⟩
abbrev S64 : Shape := ⟨1, ![64]⟩
abbrev S1x128 : Shape := ⟨2, ![1, 128]⟩
abbrev S512 : Shape := ⟨1, ![512]⟩
abbrev S_ : Shape := ⟨0, ![]⟩
abbrev S512x1 : Shape := ⟨2, ![512, 1]⟩
abbrev S128 : Shape := ⟨1, ![128]⟩
abbrev S512x128 : Shape := ⟨2, ![512, 128]⟩
abbrev S1x512 : Shape := ⟨2, ![1, 512]⟩
abbrev S512x512 : Shape := ⟨2, ![512, 512]⟩
abbrev S1x1024 : Shape := ⟨2, ![1, 1024]⟩
abbrev S1024x112 : Shape := ⟨2, ![1024, 112]⟩
abbrev S1024x1536 : Shape := ⟨2, ![1024, 1536]⟩
abbrev S1024x768 : Shape := ⟨2, ![1024, 768]⟩
abbrev S1024x1280 : Shape := ⟨2, ![1024, 1280]⟩
abbrev S1024x8 : Shape := ⟨2, ![1024, 8]⟩
abbrev S1024x3712 : Shape := ⟨2, ![1024, 3712]⟩
abbrev S112 : Shape := ⟨1, ![112]⟩
abbrev S1536 : Shape := ⟨1, ![1536]⟩
abbrev S768 : Shape := ⟨1, ![768]⟩
abbrev S1280 : Shape := ⟨1, ![1280]⟩
abbrev S8 : Shape := ⟨1, ![8]⟩
abbrev S3712 : Shape := ⟨1, ![3712]⟩
abbrev S1x3712 : Shape := ⟨2, ![1, 3712]⟩
abbrev S1x64 : Shape := ⟨2, ![1, 64]⟩
abbrev S8x64 : Shape := ⟨2, ![8, 64]⟩
abbrev S16384x2048 : Shape := ⟨2, ![16384, 2048]⟩
abbrev S16384x128 : Shape := ⟨2, ![16384, 128]⟩
abbrev S32x8x128 : Shape := ⟨3, ![32, 8, 128]⟩
abbrev S512x1024 : Shape := ⟨2, ![512, 1024]⟩
abbrev S512x2048 : Shape := ⟨2, ![512, 2048]⟩
abbrev S1x8x128 : Shape := ⟨3, ![1, 8, 128]⟩
abbrev S1024x128 : Shape := ⟨2, ![1024, 128]⟩
abbrev S1024x512 : Shape := ⟨2, ![1024, 512]⟩
abbrev S8x128 : Shape := ⟨2, ![8, 128]⟩

abbrev nBuf : Space → Nat
  | .hbm => 62
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3600, .f32⟩
  | .hbm, ⟨3, _⟩ => ⟨S3600, .f32⟩
  | .hbm, ⟨4, _⟩ => ⟨S64, .f32⟩
  | .hbm, ⟨5, _⟩ => ⟨S64, .f32⟩
  | .hbm, ⟨6, _⟩ => ⟨S1x128, .f32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S128, .i32⟩
  | .hbm, ⟨13, _⟩ => ⟨S1x128, .i32⟩
  | .hbm, ⟨14, _⟩ => ⟨S512x128, .i32⟩
  | .hbm, ⟨15, _⟩ => ⟨S512x128, .i32⟩
  | .hbm, ⟨16, _⟩ => ⟨S512x128, .i1⟩
  | .hbm, ⟨17, _⟩ => ⟨S512x128, .bf16⟩
  | .hbm, ⟨18, _⟩ => ⟨S512, .i32⟩
  | .hbm, ⟨19, _⟩ => ⟨S512x1, .i32⟩
  | .hbm, ⟨20, _⟩ => ⟨S512, .i32⟩
  | .hbm, ⟨21, _⟩ => ⟨S1x512, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .bf16⟩
  | .hbm, ⟨26, _⟩ => ⟨S1x1024, .f32⟩
  | .hbm, ⟨27, _⟩ => ⟨S_, .f32⟩
  | .hbm, ⟨28, _⟩ => ⟨S1024x112, .f32⟩
  | .hbm, ⟨29, _⟩ => ⟨S1024x1536, .f32⟩
  | .hbm, ⟨30, _⟩ => ⟨S1024x768, .f32⟩
  | .hbm, ⟨31, _⟩ => ⟨S1024x1280, .f32⟩
  | .hbm, ⟨32, _⟩ => ⟨S1024x8, .f32⟩
  | .hbm, ⟨33, _⟩ => ⟨S1024x8, .f32⟩
  | .hbm, ⟨34, _⟩ => ⟨S1024x3712, .f32⟩
  | .hbm, ⟨35, _⟩ => ⟨S1024x3712, .bf16⟩
  | .hbm, ⟨36, _⟩ => ⟨S_, .f32⟩
  | .hbm, ⟨37, _⟩ => ⟨S112, .f32⟩
  | .hbm, ⟨38, _⟩ => ⟨S1536, .f32⟩
  | .hbm, ⟨39, _⟩ => ⟨S768, .f32⟩
  | .hbm, ⟨40, _⟩ => ⟨S1280, .f32⟩
  | .hbm, ⟨41, _⟩ => ⟨S8, .f32⟩
  | .hbm, ⟨42, _⟩ => ⟨S8, .f32⟩
  | .hbm, ⟨43, _⟩ => ⟨S3712, .f32⟩
  | .hbm, ⟨44, _⟩ => ⟨S1x3712, .f32⟩
  | .hbm, ⟨45, _⟩ => ⟨S1x64, .f32⟩
  | .hbm, ⟨46, _⟩ => ⟨S8x64, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S16384x1024, .bf16⟩
  | .hbm, ⟨57, _⟩ => ⟨S16384x1024, .bf16⟩
  | .hbm, ⟨58, _⟩ => ⟨S16384x1024, .bf16⟩
  | .hbm, ⟨59, _⟩ => ⟨S16384x2048, .bf16⟩
  | .hbm, ⟨60, _⟩ => ⟨S16384x128, .f32⟩
  | .hbm, ⟨61, _⟩ => ⟨S32x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S1x3712, .f32⟩
  | .local _ .vmem, ⟨5, _⟩ => ⟨S1x512, .f32⟩
  | .local _ .vmem, ⟨6, _⟩ => ⟨S1x512, .f32⟩
  | .local _ .vmem, ⟨7, _⟩ => ⟨S512x128, .bf16⟩
  | .local _ .vmem, ⟨8, _⟩ => ⟨S512x512, .bf16⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S512x128, .f32⟩
  | .local _ .vmem, ⟨19, _⟩ => ⟨S512x128, .f32⟩
  | .local _ .vmem, ⟨20, _⟩ => ⟨S1x8x128, .f32⟩
  | .local _ .vmem, ⟨21, _⟩ => ⟨S1x8x128, .f32⟩
  | .local _ .vmem, ⟨22, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev main_v45_3 : Ref sig .tc := ⟨.hbm, 59, rfl⟩
abbrev main_v45_4 : Ref sig .tc := ⟨.hbm, 60, rfl⟩
abbrev main_v45_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3712 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S1024 : Shape := ⟨1, ![1024]⟩
abbrev S1024x3600 : Shape := ⟨2, ![1024, 3600]⟩
abbrev S3600 : Shape := ⟨1, ![3600]⟩
abbrev S64 : Shape := ⟨1, ![64]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3600 : Shape := ⟨2, ![16384, 3600]⟩
abbrev S1x3600 : Shape := ⟨2, ![1, 3600]⟩
abbrev S16384x768 : Shape := ⟨2, ![16384, 768]⟩
abbrev S16384x1280 : Shape := ⟨2, ![16384, 1280]⟩
abbrev S16384x2048 : Shape := ⟨2, ![16384, 2048]⟩
abbrev S16384x8 : Shape := ⟨2, ![16384, 8]⟩
abbrev S16384x112 : Shape := ⟨2, ![16384, 112]⟩
abbrev S16384x128 : Shape := ⟨2, ![16384, 128]⟩
abbrev S16384x512 : Shape := ⟨2, ![16384, 512]⟩
abbrev S16384x8x64 : Shape := ⟨3, ![16384, 8, 64]⟩
abbrev S16384x8x1 : Shape := ⟨3, ![16384, 8, 1]⟩
abbrev S16384x8x63 : Shape := ⟨3, ![16384, 8, 63]⟩
abbrev S16384x8x128 : Shape := ⟨3, ![16384, 8, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3600, .f32⟩
  | .hbm, ⟨3, _⟩ => ⟨S3600, .f32⟩
  | .hbm, ⟨4, _⟩ => ⟨S64, .f32⟩
  | .hbm, ⟨5, _⟩ => ⟨S64, .f32⟩
  | .hbm, ⟨6, _⟩ => ⟨S1x128, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x3600, .f32⟩
  | .hbm, ⟨24, _⟩ => ⟨S1x3600, .f32⟩
  | .hbm, ⟨25, _⟩ => ⟨S16384x3600, .f32⟩
  | .hbm, ⟨26, _⟩ => ⟨S16384x3600, .f32⟩
  | .hbm, ⟨27, _⟩ => ⟨S16384x768, .f32⟩
  | .hbm, ⟨28, _⟩ => ⟨S16384x1280, .f32⟩
  | .hbm, ⟨29, _⟩ => ⟨S16384x2048, .f32⟩
  | .hbm, ⟨30, _⟩ => ⟨S16384x8, .f32⟩
  | .hbm, ⟨31, _⟩ => ⟨S16384x8, .f32⟩
  | .hbm, ⟨32, _⟩ => ⟨S_, .f32⟩
  | .hbm, ⟨33, _⟩ => ⟨S16384x112, .f32⟩
  | .hbm, ⟨34, _⟩ => ⟨S16384x128, .f32⟩
  | .hbm, ⟨35, _⟩ => ⟨S16384x512, .f32⟩
  | .hbm, ⟨36, _⟩ => ⟨S16384x8x64, .f32⟩
  | .hbm, ⟨37, _⟩ => ⟨S_, .f32⟩
  | .hbm, ⟨38, _⟩ => ⟨S16384x8x1, .f32⟩
  | .hbm, ⟨39, _⟩ => ⟨S_, .f32⟩
  | .hbm, ⟨40, _⟩ => ⟨S16384x8x63, .f32⟩
  | .hbm, ⟨41, _⟩ => ⟨S16384x8x128, .f32⟩
  | .hbm, ⟨42, _⟩ => ⟨S16384x2048, .bf16⟩
  | .hbm, ⟨43, _⟩ => ⟨S16384x1024, .f32⟩
  | .hbm, ⟨44, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Ffn.Words.lean ====
module

public import Idealize.ShloMosaic.Lib.Pointwise

@[expose] public section

noncomputable section

namespace Cert.Proof.Ffn

open Idealize.ShloMosaic

/-! # The feed-forward part, element by element

Both programs are shown to compute `total`: the residual stream plus the second product of the gated products of
the convolved first product of the normalised rows. Nothing here asks the numbers to be finite. -/

/-- The gated product of two numbers: `g` times its logistic, times `u`. -/
def swi (g u : EReal) : EReal := g * Ideal.div 1 (1 + Ideal.exp (0 - g)) * u

/-- An element of a row `x` after the root-mean-square norm with gain `g`. -/
def rms (x g : Fin 1024 → EReal) (k : Fin 1024) : EReal :=
  x k * Ideal.rsqrt (Ideal.div (∑ l : Fin 1024, x l * x l) (Scalar.ofBits (F := Ideal) .f32 0x44800000#32) + Scalar.ofBits (F := Ideal) .f32 0x358637BD#32) * g k

section Total

variable (X : (⟨3, ![2, 8192, 1024]⟩ : Shape).Idx → EReal) (g : (⟨1, ![1024]⟩ : Shape).Idx → EReal) (U : (⟨2, ![1024, 5632]⟩ : Shape).Idx → EReal)
  (C : (⟨2, ![3, 5632]⟩ : Shape).Idx → EReal) (B : (⟨1, ![5632]⟩ : Shape).Idx → EReal) (D : (⟨2, ![2816, 1024]⟩ : Shape).Idx → EReal)

/-- The first product at position `t` of sequence `b`, column `j`. -/
def first (b : Fin 2) (t : Fin 8192) (j : Fin 5632) : EReal :=
  ∑ k : Fin 1024, rms (fun l => X (ix3 b t l)) (fun l => g (ix1 l)) k * U (ix2 k j)

/-- The first product with two positions of zeros before each sequence. -/
def padded (b : Fin 2) (p : ℕ) (j : Fin 5632) : EReal :=
  if h : 2 ≤ p ∧ p - 2 < 8192 then first X g U b ⟨p - 2, h.2⟩ j else 0

/-- The convolution over a position and the two before it. -/
def mixed (b : Fin 2) (t : ℕ) (j : Fin 5632) : EReal :=
  B (ix1 j) + C (ix2 2 j) * padded X g U b (t + 2) j + C (ix2 1 j) * padded X g U b (t + 1) j + C (ix2 0 j) * padded X g U b t j

/-- The result at position `t` of sequence `b`, column `q`. -/
def total (b : Fin 2) (t : Fin 8192) (q : Fin 1024) : EReal :=
  X (ix3 b t q) + ∑ k : Fin 2816, swi (mixed X g U C B b t ⟨k.val, by have := k.isLt; omega⟩)
    (mixed X g U C B b t ⟨2816 + k.val, by have := k.isLt; omega⟩) * D (ix2 k q)

end Total

end Cert.Proof.Ffn
-- ==== Proof.Ffn.Chunk.lean ====
module

public import proofs.«01_k».proof.Proof.Gen.Kernel2Ideal.Value
public import Idealize.ShloMosaic.Lib.Pipeline.ValueKit
public import proofs.«01_k».proof.Proof.Ffn.Words

@[expose] public section

set_option maxRecDepth 16384
set_option maxHeartbeats 4000000

noncomputable section

namespace Cert.Proof.Ffn

open Cert.Kernel2Ideal Cert.Kernel2Ideal.Gen
open Idealize.ShloMosaic Idealize.ShloMosaic.TcCoe Idealize.ShloMosaic.Tactic
open Idealize.ShloMosaic.Pipeline

/-! # One chunk of 256 columns: two projections, two convolutions and their gated product -/

/-- A chunk's gated product, from its rows of biases and weights and its shifted projections. -/
def gated (b w2 : Vec Ideal S1x256 .f32) (u2 : Vec Ideal S1x512x256 .f32) (w1 : Vec Ideal S1x256 .f32) (u1 : Vec Ideal S1x512x256 .f32)
    (w0 : Vec Ideal S1x256 .f32) (u0 : Vec Ideal S1x512x256 .f32)
    (b' w2' : Vec Ideal S1x256 .f32) (u2' : Vec Ideal S1x512x256 .f32) (w1' : Vec Ideal S1x256 .f32) (u1' : Vec Ideal S1x512x256 .f32)
    (w0' : Vec Ideal S1x256 .f32) (u0' : Vec Ideal S1x512x256 .f32) : FVec Ideal S512x256 .bf16 :=
  k0_pay12 (k0_pay10 b w2 u2 w1 u1 w0 u0) (k0_pay11 b') w2' u2' w1' u1' w0' u0'

theorem conv_at (b w2 : Vec Ideal S1x256 .f32) (u2 : Vec Ideal S1x512x256 .f32) (w1 : Vec Ideal S1x256 .f32) (u1 : Vec Ideal S1x512x256 .f32)
    (w0 : Vec Ideal S1x256 .f32) (u0 : Vec Ideal S1x512x256 .f32) (r : Fin 512) (q : Fin 256) :
    k0_pay10 b w2 u2 w1 u1 w0 u0 (ix2 r q) = (b (ix2 0 q) : EReal) + w2 (ix2 0 q) * u2 (ix3 0 r q) + w1 (ix2 0 q) * u1 (ix3 0 r q) + w0 (ix2 0 q) * u0 (ix3 0 r q) := by
  pointwise [k0_pay10]

theorem bias_at (b : Vec Ideal S1x256 .f32) (q : Fin 256) : k0_pay11 b (ix2 0 q) = (b (ix2 0 q) : EReal) := by
  pointwise [k0_pay11]

theorem gate_at (g : FVec Ideal S512x256 .f32) (b' : FVec Ideal S1x256 .f32) (w2' : Vec Ideal S1x256 .f32) (u2' : Vec Ideal S1x512x256 .f32) (w1' : Vec Ideal S1x256 .f32) (u1' : Vec Ideal S1x512x256 .f32)
    (w0' : Vec Ideal S1x256 .f32) (u0' : Vec Ideal S1x512x256 .f32) (r : Fin 512) (q : Fin 256) :
    k0_pay12 g b' w2' u2' w1' u1' w0' u0' (ix2 r q) = swi (g (ix2 r q)) ((b' (ix2 0 q) : EReal) + w2' (ix2 0 q) * u2' (ix3 0 r q) + w1' (ix2 0 q) * u1' (ix3 0 r q) + w0' (ix2 0 q) * u0' (ix3 0 r q)) := by
  pointwise [k0_pay12, swi]

theorem up_at (H : Vec Ideal S528x1024 .bf16) (W : Vec Ideal S1024x256 .bf16) (r : Fin 528) (q : Fin 256) :
    k0_pay5 H W (ix3 0 r q) = ∑ k : Fin 1024, (H (ix2 r k) : EReal) * W (ix2 k q) := by
  pointwise [k0_pay5]

theorem down_at (v1 : FVec Ideal S512x1024 .f32) (a : Vec Ideal S512x1536 .bf16) (d : Vec Ideal S1536x1024 .bf16) (a' : Vec Ideal S512x1280 .bf16) (d' : Vec Ideal S1280x1024 .bf16) (r : Fin 512) (q : Fin 1024) :
    k0_pay62 v1 a d a' d' (ix2 r q) = (v1 (ix2 r q) : EReal) + ∑ k : Fin 1536, a (ix2 r k) * d (ix2 k q) + ∑ k : Fin 1280, a' (ix2 r k) * d' (ix2 k q) := by
  pointwise [k0_pay62]

/-! # The rows, normalised -/

theorem own_at (x : Vec Ideal S512x1024 .f32) (r : Fin 512) (k : Fin 1024) : k0_pay1 x (ix2 r k) = (x (ix2 r k) : EReal) := by
  pointwise [k0_pay1]

theorem rows_at (x : Vec Ideal S512x1024 .f32) (g : Vec Ideal S1x1024 .f32) (r : Fin 512) (k : Fin 1024) :
    k0_pay4 (k0_pay1 x) (k0_pay3 x) g (ix2 r k) = rms (fun l => x (ix2 r l)) (fun l => g (ix2 0 l)) k := by
  pointwise [k0_pay4, k0_pay1, k0_pay3, rms]

/-- The blocks that begin a sequence are those whose number is a multiple of 16. -/
theorem first_at : ∀ n : Fin 32,
    Scalar.cmpi .eq
      (Scalar.select
        (Scalar.andi
          (Scalar.xori
            (Scalar.cmpi .slt (Scalar.remsi (BitVec.ofNat 32 n.val) (Scalar.select (Scalar.cmpi .eq 16#32 0#32) 1#32 16#32)) 0#32)
            (Scalar.cmpi .slt (Scalar.select (Scalar.cmpi .eq 16#32 0#32) 1#32 16#32) 0#32))
          (Scalar.cmpi .ne (Scalar.remsi (BitVec.ofNat 32 n.val) (Scalar.select (Scalar.cmpi .eq 16#32 0#32) 1#32 16#32)) 0#32))
        (Scalar.addi (Scalar.remsi (BitVec.ofNat 32 n.val) (Scalar.select (Scalar.cmpi .eq 16#32 0#32) 1#32 16#32))
          (Scalar.select (Scalar.cmpi .eq 16#32 0#32) 1#32 16#32))
        (Scalar.remsi (BitVec.ofNat 32 n.val) (Scalar.select (Scalar.cmpi .eq 16#32 0#32) 1#32 16#32)))
      0#32 = if n.val % 16 = 0 then 1#1 else 0#1 := by decide +kernel

theorem halo_at (i : grid0.Coords) (x : Vec Ideal S16x1024 .f32) (g : Vec Ideal S1x1024 .f32) (r : Fin 16) (k : Fin 1024) :
    k0_pay2 i x g (ix2 r k) = if (i 0).val % 16 = 0 then 0 else rms (fun l => x (ix2 r l)) (fun l => g (ix2 0 l)) k := by
  pointwise [k0_pay2, rms]
  refine (congrArg (fun b => Scalar.select b _ _) (first_at (i 0))).trans ?_
  by_cases h : (i 0).val % 16 = 0
  · rw [if_pos h, if_pos h]; rfl
  · rw [if_neg h, if_neg h]; rfl

/-! # Reading the scratch buffers back -/

section Pieces

variable {s : Shape} {e : EltTy} {sp : Space}

/-- An index inside the last piece reads that piece. -/
theorem canon_hit (off size : Fin s.rank → ℕ) (inb : ∀ a, off a + size a ≤ s.size a) (w : (Rect.unit off size inb).shape.Idx → Elt Ideal e)
    (L : List (View.Piece (Elt Ideal) s e)) (y : s.Idx) (x : (Rect.unit off size inb).shape.Idx) (h : ∀ a, (y a).val = off a + (x a).val) :
    View.canon (⟨Rect.unit off size inb, w⟩ :: L) y = w x := by
  have hy : y = (Rect.unit off size inb).emb x := funext fun a => Fin.ext ((h a).trans (Rect.idx_unit_val off size inb x a).symm)
  rw [hy]; exact View.canon_cons_emb _ w L x

/-- An index that lies before or after the last piece on some axis reads the earlier pieces. -/
theorem canon_miss (off size : Fin s.rank → ℕ) (inb : ∀ a, off a + size a ≤ s.size a) (w : (Rect.unit off size inb).shape.Idx → Elt Ideal e)
    (L : List (View.Piece (Elt Ideal) s e)) (y : s.Idx) (a : Fin s.rank) (h : (y a).val < off a ∨ off a + size a ≤ (y a).val) :
    View.canon (⟨Rect.unit off size inb, w⟩ :: L) y = View.canon L y := by
  refine View.canon_cons_of_not_mem _ L fun hm => ?_
  obtain ⟨x, hx⟩ := (Rect.unit off size inb).exists_idx_of_mem hm
  have hv : (y a).val = off a + (x a).val := by rw [← hx]; exact Rect.idx_unit_val off size inb x a
  have hlt : (x a).val < size a := (x a).isLt
  omega

/-- A load through a box reads the pieces at the box's indices. -/
theorem readCov_at (v : View sig .tc sp s e) (L : List (View.Piece (Elt Ideal) s e)) (off size : Fin s.rank → ℕ) (inb : ∀ a, off a + size a ≤ s.size a)
    (x : (Rect.unit off size inb).shape.Idx) (y : s.Idx) (h : ∀ a, (y a).val = off a + (x a).val) :
    v.readCov L (Rect.unit off size inb).toLoadRect x = View.canon L y := by
  rw [View.readCov_eq_canon']
  exact congrArg (View.canon L) (funext fun a => Fin.ext ((Rect.idx_unit_val off size inb x a).trans (h a).symm))

end Pieces

end Cert.Proof.Ffn
-- ==== Proof.Ffn.Block.lean ====
module

public import proofs.«01_k».proof.Proof.Ffn.Chunk

@[expose] public section

set_option maxRecDepth 16384
set_option maxHeartbeats 4000000

noncomputable section

namespace Cert.Proof.Ffn

open Cert.Kernel2Ideal Cert.Kernel2Ideal.Gen
open Idealize.ShloMosaic Idealize.ShloMosaic.TcCoe Idealize.ShloMosaic.Tactic
open Idealize.ShloMosaic.Pipeline

/-! # One block of 512 rows of the result -/

/-- A load of part of a whole input reads the input at the box's indices. -/
theorem load_at {s : Shape} {e : EltTy} {sp : Space} (a : Memref sig .tc sp s e) (ha : a.IsWhole) (X : Vec Ideal s e)
    (off size : Fin s.rank → ℕ) (inb : ∀ x, off x + size x ≤ s.size x) (x : (Rect.unit off size inb).shape.Idx) (y : s.Idx)
    (h : ∀ k, (y k).val = off k + (x k).val) :
    View.readAt (Elt Ideal) a.view (Rect.unit off size inb).toLoadRect (ha.unread X) x = X y := by
  rw [View.readAt_eq_ld, ha.read_unread]
  exact View.ld_unit_apply_of X off size inb x y h

/-! ## The slots of the projections -/

/-- Slot `s` of a buffer written by the pieces `L` holds `w`. -/
def Slot (L : List (View.Piece (Elt Ideal) S2x528x256 .f32)) (s : Fin 2) (w : Vec Ideal S1x528x256 .f32) : Prop :=
  ∀ (r : Fin 528) (q : Fin 256), View.canon L (ix3 s r q) = w (ix3 0 r q)

theorem Slot.here (n : ℕ) (s : Fin 2) (hs : s.val = n) (inb : ∀ a, (![n, 0, 0] : Fin 3 → ℕ) a + S1x528x256.size a ≤ S2x528x256.size a)
    (w : Vec Ideal S1x528x256 .f32) (L : List (View.Piece (Elt Ideal) S2x528x256 .f32)) :
    Slot (⟨Rect.unit (s := S2x528x256) ![n, 0, 0] S1x528x256.size inb, w⟩ :: L) s w := fun r q =>
  canon_hit (s := S2x528x256) (e := .f32) ![n, 0, 0] S1x528x256.size inb w L (ix3 s r q) (ix3 0 r q)
    (fun a => match a with | ⟨0, _⟩ => hs | ⟨1, _⟩ => (Nat.zero_add _).symm | ⟨2, _⟩ => (Nat.zero_add _).symm)

theorem Slot.before (n : ℕ) (s : Fin 2) (hs : s.val < n ∨ n + 1 ≤ s.val) (inb : ∀ a, (![n, 0, 0] : Fin 3 → ℕ) a + S1x528x256.size a ≤ S2x528x256.size a)
    (w w' : Vec Ideal S1x528x256 .f32) (L : List (View.Piece (Elt Ideal) S2x528x256 .f32)) (h : Slot L s w) :
    Slot (⟨Rect.unit (s := S2x528x256) ![n, 0, 0] S1x528x256.size inb, w'⟩ :: L) s w := fun r q =>
  (canon_miss (s := S2x528x256) (e := .f32) ![n, 0, 0] S1x528x256.size inb w' L (ix3 s r q) (0 : Fin 3) hs).trans (h r q)

/-- The projection of row `r` of the normalised rows on column `j`. -/
def proj (H : Vec Ideal S528x1024 .bf16) (U : Vec Ideal S1024x5632 .bf16) (r : Fin 528) (j : Fin 5632) : EReal :=
  ∑ k : Fin 1024, (H (ix2 r k) : EReal) * U (ix2 k j)

/-- The convolution over three consecutive rows, at row `r` and column `j`; 16 rows lie before the block's first. -/
def conv (H : Vec Ideal S528x1024 .bf16) (U : Vec Ideal S1024x5632 .bf16) (C : Vec Ideal S3x5632 .f32) (B : Vec Ideal S1x5632 .f32)
    (r : Fin 512) (j : Fin 5632) : EReal :=
  (B (ix2 0 j) : EReal) + C (ix2 2 j) * proj H U ⟨16 + r.val, by have := r.isLt; omega⟩ j
    + C (ix2 1 j) * proj H U ⟨15 + r.val, by have := r.isLt; omega⟩ j + C (ix2 0 j) * proj H U ⟨14 + r.val, by have := r.isLt; omega⟩ j

/-- The gated product at row `r` and column `j`. -/
def act (H : Vec Ideal S528x1024 .bf16) (U : Vec Ideal S1024x5632 .bf16) (C : Vec Ideal S3x5632 .f32) (B : Vec Ideal S1x5632 .f32)
    (r : Fin 512) (j : Fin 2816) : EReal :=
  swi (conv H U C B r ⟨j.val, by have := j.isLt; omega⟩) (conv H U C B r ⟨2816 + j.val, by have := j.isLt; omega⟩)

section Chunk

variable (a4 : Memref sig .tc .vmem S1024x5632 .bf16) (h4 : a4.IsWhole) (a5 : Memref sig .tc .vmem S3x5632 .f32) (h5 : a5.IsWhole)
  (a6 : Memref sig .tc .vmem S1x5632 .f32) (h6 : a6.IsWhole) (v10 v11 : View sig .tc .vmem S2x528x256 .f32)
  (H : Vec Ideal S528x1024 .bf16) (U : Vec Ideal S1024x5632 .bf16) (C : Vec Ideal S3x5632 .f32) (B : Vec Ideal S1x5632 .f32)

/-- Columns `lo`, … of the projection. -/
theorem slot_proj (v : View sig .tc .vmem S2x528x256 .f32) (L : List (View.Piece (Elt Ideal) S2x528x256 .f32)) (n : ℕ) (s : Fin 2) (hs : s.val = n) (lo : ℕ)
    (i4 : ∀ x, (![0, lo] : Fin 2 → ℕ) x + S1024x256.size x ≤ S1024x5632.size x)
    (hL : Slot L s (k0_pay5 H (View.readAt (Elt Ideal) a4.view (Rect.unit (s := S1024x5632) ![0, lo] S1024x256.size i4).toLoadRect (h4.unread U))))
    (o : ℕ) (io : ∀ x, (![n, o, 0] : Fin 3 → ℕ) x + S1x512x256.size x ≤ S2x528x256.size x) (r : Fin 512) (q : Fin 256)
    (R : Fin 528) (hR : R.val = o + r.val) (j : Fin 5632) (hj : j.val = lo + q.val) :
    v.readCov L (Rect.unit (s := S2x528x256) ![n, o, 0] S1x512x256.size io).toLoadRect (ix3 0 r q) = proj H U R j := by
  refine (readCov_at (s := S2x528x256) (e := .f32) v L ![n, o, 0] S1x512x256.size io (ix3 0 r q) (ix3 s R q)
    (fun a => match a with | ⟨0, _⟩ => hs | ⟨1, _⟩ => hR | ⟨2, _⟩ => (Nat.zero_add _).symm)).trans ?_
  rw [hL R q, up_at]
  refine Finset.sum_congr rfl fun k _ => congrArg (fun z : EReal => (H (ix2 R k) : EReal) * z) ?_
  exact load_at a4 h4 U ![0, lo] S1024x256.size i4 (ix2 k q) (ix2 k j) (fun a => match a with | ⟨0, _⟩ => (Nat.zero_add _).symm | ⟨1, _⟩ => hj)

/-- A chunk's gated product, from the slots that hold its two projections. -/
theorem chunk (LG LU : List (View.Piece (Elt Ideal) S2x528x256 .f32)) (n : ℕ) (s : Fin 2) (hs : s.val = n) (lo lo' : ℕ) (hlo : lo' = 2816 + lo)
    (i4 : ∀ x, (![0, lo] : Fin 2 → ℕ) x + S1024x256.size x ≤ S1024x5632.size x) (i4' : ∀ x, (![0, lo'] : Fin 2 → ℕ) x + S1024x256.size x ≤ S1024x5632.size x)
    (hG : Slot LG s (k0_pay5 H (View.readAt (Elt Ideal) a4.view (Rect.unit (s := S1024x5632) ![0, lo] S1024x256.size i4).toLoadRect (h4.unread U))))
    (hU : Slot LU s (k0_pay5 H (View.readAt (Elt Ideal) a4.view (Rect.unit (s := S1024x5632) ![0, lo'] S1024x256.size i4').toLoadRect (h4.unread U))))
    (ib : ∀ x, (![0, lo] : Fin 2 → ℕ) x + S1x256.size x ≤ S1x5632.size x) (ib' : ∀ x, (![0, lo'] : Fin 2 → ℕ) x + S1x256.size x ≤ S1x5632.size x)
    (ic2 : ∀ x, (![2, lo] : Fin 2 → ℕ) x + S1x256.size x ≤ S3x5632.size x) (ic2' : ∀ x, (![2, lo'] : Fin 2 → ℕ) x + S1x256.size x ≤ S3x5632.size x)
    (ic1 : ∀ x, (![1, lo] : Fin 2 → ℕ) x + S1x256.size x ≤ S3x5632.size x) (ic1' : ∀ x, (![1, lo'] : Fin 2 → ℕ) x + S1x256.size x ≤ S3x5632.size x)
    (ic0 : ∀ x, (![0, lo] : Fin 2 → ℕ) x + S1x256.size x ≤ S3x5632.size x) (ic0' : ∀ x, (![0, lo'] : Fin 2 → ℕ) x + S1x256.size x ≤ S3x5632.size x)
    (i16 : ∀ x, (![n, 16, 0] : Fin 3 → ℕ) x + S1x512x256.size x ≤ S2x528x256.size x) (i15 : ∀ x, (![n, 15, 0] : Fin 3 → ℕ) x + S1x512x256.size x ≤ S2x528x256.size x)
    (i14 : ∀ x, (![n, 14, 0] : Fin 3 → ℕ) x + S1x512x256.size x ≤ S2x528x256.size x) (r : Fin 512) (q : Fin 256) (j : Fin 2816) (hj : j.val = lo + q.val) :
    gated
      (View.readAt (Elt Ideal) a6.view (Rect.unit (s := S1x5632) ![0, lo] S1x256.size ib).toLoadRect (h6.unread B))
      (View.readAt (Elt Ideal) a5.view (Rect.unit (s := S3x5632) ![2, lo] S1x256.size ic2).toLoadRect (h5.unread C))
      (v10.readCov LG (Rect.unit (s := S2x528x256) ![n, 16, 0] S1x512x256.size i16).toLoadRect)
      (View.readAt (Elt Ideal) a5.view (Rect.unit (s := S3x5632) ![1, lo] S1x256.size ic1).toLoadRect (h5.unread C))
      (v10.readCov LG (Rect.unit (s := S2x528x256) ![n, 15, 0] S1x512x256.size i15).toLoadRect)
      (View.readAt (Elt Ideal) a5.view (Rect.unit (s := S3x5632) ![0, lo] S1x256.size ic0).toLoadRect (h5.unread C))
      (v10.readCov LG (Rect.unit (s := S2x528x256) ![n, 14, 0] S1x512x256.size i14).toLoadRect)
      (View.readAt (Elt Ideal) a6.view (Rect.unit (s := S1x5632) ![0, lo'] S1x256.size ib').toLoadRect (h6.unread B))
      (View.readAt (Elt Ideal) a5.view (Rect.unit (s := S3x5632) ![2, lo'] S1x256.size ic2').toLoadRect (h5.unread C))
      (v11.readCov LU (Rect.unit (s := S2x528x256) ![n, 16, 0] S1x512x256.size i16).toLoadRect)
      (View.readAt (Elt Ideal) a5.view (Rect.unit (s := S3x5632) ![1, lo'] S1x256.size ic1').toLoadRect (h5.unread C))
      (v11.readCov LU (Rect.unit (s := S2x528x256) ![n, 15, 0] S1x512x256.size i15).toLoadRect)
      (View.readAt (Elt Ideal) a5.view (Rect.unit (s := S3x5632) ![0, lo'] S1x256.size ic0').toLoadRect (h5.unread C))
      (v11.readCov LU (Rect.unit (s := S2x528x256) ![n, 14, 0] S1x512x256.size i14).toLoadRect) (ix2 r q)
      = act H U C B r j := by
  have hjl := j.isLt
  have e : ∀ x : Fin 2, ∀ J : Fin 5632, ∀ l : ℕ, J.val = l + q.val → ∀ k : ℕ, ∀ K : Fin 3, K.val = k → ((ix2 K J : S3x5632.Idx) x).val = (![k, l] : Fin 2 → ℕ) x + ((ix2 (0 : Fin 1) q : S1x256.Idx) x).val :=
    fun x J l hJ k K hK => match x with | ⟨0, _⟩ => hK | ⟨1, _⟩ => hJ
  have e1 : ∀ x : Fin 2, ∀ J : Fin 5632, ∀ l : ℕ, J.val = l + q.val → ((ix2 (0 : Fin 1) J : S1x5632.Idx) x).val = (![0, l] : Fin 2 → ℕ) x + ((ix2 (0 : Fin 1) q : S1x256.Idx) x).val :=
    fun x J l hJ => match x with | ⟨0, _⟩ => rfl | ⟨1, _⟩ => hJ
  have hc : ∀ (v : View sig .tc .vmem S2x528x256 .f32) (L : List (View.Piece (Elt Ideal) S2x528x256 .f32)) (l : ℕ) (J : Fin 5632) (hJ : J.val = l + q.val) (i4 : ∀ x, (![0, l] : Fin 2 → ℕ) x + S1024x256.size x ≤ S1024x5632.size x)
      (hL : Slot L s (k0_pay5 H (View.readAt (Elt Ideal) a4.view (Rect.unit (s := S1024x5632) ![0, l] S1024x256.size i4).toLoadRect (h4.unread U))))
      (ib : ∀ x, (![0, l] : Fin 2 → ℕ) x + S1x256.size x ≤ S1x5632.size x) (ic2 : ∀ x, (![2, l] : Fin 2 → ℕ) x + S1x256.size x ≤ S3x5632.size x)
      (ic1 : ∀ x, (![1, l] : Fin 2 → ℕ) x + S1x256.size x ≤ S3x5632.size x) (ic0 : ∀ x, (![0, l] : Fin 2 → ℕ) x + S1x256.size x ≤ S3x5632.size x),
      ((View.readAt (Elt Ideal) a6.view (Rect.unit (s := S1x5632) ![0, l] S1x256.size ib).toLoadRect (h6.unread B) (ix2 0 q) : EReal)
        + View.readAt (Elt Ideal) a5.view (Rect.unit (s := S3x5632) ![2, l] S1x256.size ic2).toLoadRect (h5.unread C) (ix2 0 q)
          * v.readCov L (Rect.unit (s := S2x528x256) ![n, 16, 0] S1x512x256.size i16).toLoadRect (ix3 0 r q)
        + View.readAt (Elt Ideal) a5.view (Rect.unit (s := S3x5632) ![1, l] S1x256.size ic1).toLoadRect (h5.unread C) (ix2 0 q)
          * v.readCov L (Rect.unit (s := S2x528x256) ![n, 15, 0] S1x512x256.size i15).toLoadRect (ix3 0 r q)
        + View.readAt (Elt Ideal) a5.view (Rect.unit (s := S3x5632) ![0, l] S1x256.size ic0).toLoadRect (h5.unread C) (ix2 0 q)
          * v.readCov L (Rect.unit (s := S2x528x256) ![n, 14, 0] S1x512x256.size i14).toLoadRect (ix3 0 r q)) = conv H U C B r J := by
    intro v L l J hJ i4 hL ib ic2 ic1 ic0
    have k := slot_proj a4 h4 H U v L n s hs l i4 hL
    unfold conv
    rw [k 16 i16 r q ⟨16 + r.val, _⟩ rfl J hJ, k 15 i15 r q ⟨15 + r.val, _⟩ rfl J hJ, k 14 i14 r q ⟨14 + r.val, _⟩ rfl J hJ,
      load_at a6 h6 B ![0, l] S1x256.size ib (ix2 0 q) (ix2 0 J) (fun x => e1 x J l hJ),
      load_at a5 h5 C ![2, l] S1x256.size ic2 (ix2 0 q) (ix2 2 J) (fun x => e x J l hJ 2 2 rfl),
      load_at a5 h5 C ![1, l] S1x256.size ic1 (ix2 0 q) (ix2 1 J) (fun x => e x J l hJ 1 1 rfl),
      load_at a5 h5 C ![0, l] S1x256.size ic0 (ix2 0 q) (ix2 0 J) (fun x => e x J l hJ 0 0 rfl)]
  unfold gated act
  rw [gate_at, conv_at, bias_at]
  refine congrArg₂ swi (hc v10 LG lo _ hj i4 hG ib ic2 ic1 ic0) ?_
  exact hc v11 LU lo' ⟨2816 + j.val, by omega⟩ (by show 2816 + j.val = _; omega) i4' hU ib' ic2' ic1' ic0'

end Chunk

/-- The gated products, filled 256 columns at a time. -/
theorem fill (A : Fin 512 → Fin 2816 → EReal) (L : List (View.Piece (Elt Ideal) S512x2816 .bf16)) (n N : ℕ) (hN : N = n + 256)
    (inb : ∀ x, (![0, n] : Fin 2 → ℕ) x + S512x256.size x ≤ S512x2816.size x) (w : Vec Ideal S512x256 .bf16)
    (hL : ∀ (r : Fin 512) (j : Fin 2816), j.val < n → View.canon L (ix2 r j) = A r j)
    (hw : ∀ (r : Fin 512) (q : Fin 256) (j : Fin 2816), j.val = n + q.val → w (ix2 r q) = A r j) :
    ∀ (r : Fin 512) (j : Fin 2816), j.val < N → View.canon (⟨Rect.unit (s := S512x2816) ![0, n] S512x256.size inb, w⟩ :: L) (ix2 r j) = A r j := by
  intro r j hj
  by_cases h : j.val < n
  · exact (canon_miss (s := S512x2816) (e := .bf16) ![0, n] S512x256.size inb w L (ix2 r j) (1 : Fin 2) (Or.inl h)).trans (hL r j h)
  · refine (canon_hit (s := S512x2816) (e := .bf16) ![0, n] S512x256.size inb w L (ix2 r j) (ix2 r ⟨j.val - n, by omega⟩)
      (fun a => match a with | ⟨0, _⟩ => (Nat.zero_add _).symm | ⟨1, _⟩ => ?_)).trans (hw r _ j ?_)
    · show j.val = n + (j.val - n); omega
    · show j.val = n + (j.val - n); omega

section Run

variable (c : Dev nD) (i : grid0.Coords) (a1 : Memref sig .tc .vmem S512x1024 .f32) (h1 : a1.IsWhole) (a2 : Memref sig .tc .vmem S16x1024 .f32) (h2 : a2.IsWhole)
  (a3 : Memref sig .tc .vmem S1x1024 .f32) (h3 : a3.IsWhole) (a4 : Memref sig .tc .vmem S1024x5632 .bf16) (h4 : a4.IsWhole)
  (a5 : Memref sig .tc .vmem S3x5632 .f32) (h5 : a5.IsWhole) (a6 : Memref sig .tc .vmem S1x5632 .f32) (h6 : a6.IsWhole)
  (a9 : Memref sig .tc .vmem S528x1024 .bf16) (a10 a11 : Memref sig .tc .vmem S2x528x256 .f32)
  (X : Vec Ideal S512x1024 .f32) (Y : Vec Ideal S16x1024 .f32) (G : Vec Ideal S1x1024 .f32) (U : Vec Ideal S1024x5632 .bf16) (C : Vec Ideal S3x5632 .f32) (B : Vec Ideal S1x5632 .f32)

/-- The gated products of the block. -/
theorem acts_at (r : Fin 512) (j : Fin 2816) :
    View.canon (kernelRun0_A.sl.HS3_11 (F := Ideal) c i a1 h1 a2 h2 a3 h3 a4 h4 a5 h5 a6 h6 a9 a10 a11 X Y G U C B) (ix2 r j)
      = act (kernelRun0_A.sl.v53 c i a1 h1 a2 h2 a3 h3 a9 X Y G) U C B r j := by
  unfold kernelRun0_A.sl.HS3_11
  refine fill _ _ 2560 2816 rfl _ _ ?_ (fun r q j hj => chunk a4 h4 a5 h5 a6 h6 a10.view a11.view _ U C B _ _ 0 0 rfl 2560 5376 rfl _ _
    (Slot.here 0 0 rfl _ _ _) (Slot.here 0 0 rfl _ _ _) _ _ _ _ _ _ _ _ _ _ _ r q j hj) r j j.isLt
  refine fill _ _ 2304 2560 rfl _ _ ?_ (fun r q j hj => chunk a4 h4 a5 h5 a6 h6 a10.view a11.view _ U C B _ _ 1 1 rfl 2304 5120 rfl _ _
    (Slot.before 0 1 (by decide) _ _ _ _ (Slot.here 1 1 rfl _ _ _)) (Slot.before 0 1 (by decide) _ _ _ _ (Slot.here 1 1 rfl _ _ _)) _ _ _ _ _ _ _ _ _ _ _ r q j hj)
  refine fill _ _ 2048 2304 rfl _ _ ?_ (fun r q j hj => chunk a4 h4 a5 h5 a6 h6 a10.view a11.view _ U C B _ _ 0 0 rfl 2048 4864 rfl _ _
    (Slot.before 1 0 (by decide) _ _ _ _ (Slot.here 0 0 rfl _ _ _)) (Slot.before 1 0 (by decide) _ _ _ _ (Slot.here 0 0 rfl _ _ _)) _ _ _ _ _ _ _ _ _ _ _ r q j hj)
  refine fill _ _ 1792 2048 rfl _ _ ?_ (fun r q j hj => chunk a4 h4 a5 h5 a6 h6 a10.view a11.view _ U C B _ _ 1 1 rfl 1792 4608 rfl _ _
    (Slot.before 0 1 (by decide) _ _ _ _ (Slot.here 1 1 rfl _ _ _)) (Slot.before 0 1 (by decide) _ _ _ _ (Slot.here 1 1 rfl _ _ _)) _ _ _ _ _ _ _ _ _ _ _ r q j hj)
  refine fill _ _ 1536 1792 rfl _ _ ?_ (fun r q j hj => chunk a4 h4 a5 h5 a6 h6 a10.view a11.view _ U C B _ _ 0 0 rfl 1536 4352 rfl _ _
    (Slot.before 1 0 (by decide) _ _ _ _ (Slot.here 0 0 rfl _ _ _)) (Slot.before 1 0 (by decide) _ _ _ _ (Slot.here 0 0 rfl _ _ _)) _ _ _ _ _ _ _ _ _ _ _ r q j hj)
  refine fill _ _ 1280 1536 rfl _ _ ?_ (fun r q j hj => chunk a4 h4 a5 h5 a6 h6 a10.view a11.view _ U C B _ _ 1 1 rfl 1280 4096 rfl _ _
    (Slot.before 0 1 (by decide) _ _ _ _ (Slot.here 1 1 rfl _ _ _)) (Slot.before 0 1 (by decide) _ _ _ _ (Slot.here 1 1 rfl _ _ _)) _ _ _ _ _ _ _ _ _ _ _ r q j hj)
  refine fill _ _ 1024 1280 rfl _ _ ?_ (fun r q j hj => chunk a4 h4 a5 h5 a6 h6 a10.view a11.view _ U C B _ _ 0 0 rfl 1024 3840 rfl _ _
    (Slot.before 1 0 (by decide) _ _ _ _ (Slot.here 0 0 rfl _ _ _)) (Slot.before 1 0 (by decide) _ _ _ _ (Slot.here 0 0 rfl _ _ _)) _ _ _ _ _ _ _ _ _ _ _ r q j hj)
  refine fill _ _ 768 1024 rfl _ _ ?_ (fun r q j hj => chunk a4 h4 a5 h5 a6 h6 a10.view a11.view _ U C B _ _ 1 1 rfl 768 3584 rfl _ _
    (Slot.before 0 1 (by decide) _ _ _ _ (Slot.here 1 1 rfl _ _ _)) (Slot.before 0 1 (by decide) _ _ _ _ (Slot.here 1 1 rfl _ _ _)) _ _ _ _ _ _ _ _ _ _ _ r q j hj)
  refine fill _ _ 512 768 rfl _ _ ?_ (fun r q j hj => chunk a4 h4 a5 h5 a6 h6 a10.view a11.view _ U C B _ _ 0 0 rfl 512 3328 rfl _ _
    (Slot.before 1 0 (by decide) _ _ _ _ (Slot.here 0 0 rfl _ _ _)) (Slot.before 1 0 (by decide) _ _ _ _ (Slot.here 0 0 rfl _ _ _)) _ _ _ _ _ _ _ _ _ _ _ r q j hj)
  refine fill _ _ 256 512 rfl _ _ ?_ (fun r q j hj => chunk a4 h4 a5 h5 a6 h6 a10.view a11.view _ U C B _ _ 1 1 rfl 256 3072 rfl _ _
    (Slot.before 0 1 (by decide) _ _ _ _ (Slot.here 1 1 rfl _ _ _)) (Slot.before 0 1 (by decide) _ _ _ _ (Slot.here 1 1 rfl _ _ _)) _ _ _ _ _ _ _ _ _ _ _ r q j hj)
  refine fill _ _ 0 256 rfl _ _ ?_ (fun r q j hj => chunk a4 h4 a5 h5 a6 h6 a10.view a11.view _ U C B _ _ 0 0 rfl 0 2816 rfl _ _
    (Slot.before 1 0 (by decide) _ _ _ _ (Slot.here 0 0 rfl _ _ _)) (Slot.before 1 0 (by decide) _ _ _ _ (Slot.here 0 0 rfl _ _ _)) _ _ _ _ _ _ _ _ _ _ _ r q j hj)
  exact fun r j h => absurd h (Nat.not_lt_zero _)

/-- The normalised rows: 16 before the block, then the block's own. -/
theorem normed_at (R : Fin 528) (k : Fin 1024) :
    kernelRun0_A.sl.v53 (F := Ideal) c i a1 h1 a2 h2 a3 h3 a9 X Y G (ix2 R k)
      = if h : R.val < 16 then (if (i 0).val % 16 = 0 then 0 else rms (fun l => Y (ix2 ⟨R.val, h⟩ l)) (fun l => G (ix2 0 l)) k)
        else rms (fun l => X (ix2 ⟨R.val - 16, by have := R.isLt; omega⟩ l)) (fun l => G (ix2 0 l)) k := by
  unfold kernelRun0_A.sl.v53
  refine (readCov_at (s := S528x1024) (e := .bf16) _ _ ![0, 0] S528x1024.size _ (ix2 R k) (ix2 R k)
    (fun a => match a with | ⟨0, _⟩ => (Nat.zero_add _).symm | ⟨1, _⟩ => (Nat.zero_add _).symm)).trans ?_
  unfold kernelRun0_A.sl.HS0_2
  have hX : View.readAt (Elt Ideal) a1.view (Rect.unit (s := S512x1024) ![0, 0] S512x1024.size inb_S512x1024_S512x1024_0_0).toLoadRect (h1.unread X) = X := by
    funext y
    exact load_at a1 h1 X ![0, 0] S512x1024.size inb_S512x1024_S512x1024_0_0 y y (fun a => match a with | ⟨0, _⟩ => (Nat.zero_add _).symm | ⟨1, _⟩ => (Nat.zero_add _).symm)
  have hY : View.readAt (Elt Ideal) a2.view (Rect.unit (s := S16x1024) ![0, 0] S16x1024.size inb_S16x1024_S16x1024_0_0).toLoadRect (h2.unread Y) = Y := by
    funext y
    exact load_at a2 h2 Y ![0, 0] S16x1024.size inb_S16x1024_S16x1024_0_0 y y (fun a => match a with | ⟨0, _⟩ => (Nat.zero_add _).symm | ⟨1, _⟩ => (Nat.zero_add _).symm)
  have hG : View.readAt (Elt Ideal) a3.view (Rect.unit (s := S1x1024) ![0, 0] S1x1024.size inb_S1x1024_S1x1024_0_0).toLoadRect (h3.unread G) = G := by
    funext y
    exact load_at a3 h3 G ![0, 0] S1x1024.size inb_S1x1024_S1x1024_0_0 y y (fun a => match a with | ⟨0, _⟩ => (Nat.zero_add _).symm | ⟨1, _⟩ => (Nat.zero_add _).symm)
  by_cases h : R.val < 16
  · rw [dif_pos h]
    refine (canon_miss (s := S528x1024) (e := .bf16) ![16, 0] S512x1024.size inb_S528x1024_S512x1024_16_0 _ _ (ix2 R k) (0 : Fin 2) (Or.inl h)).trans ?_
    refine (canon_hit (s := S528x1024) (e := .bf16) ![0, 0] S16x1024.size inb_S528x1024_S16x1024_0_0 _ _ (ix2 R k) (ix2 ⟨R.val, h⟩ k)
      (fun a => match a with | ⟨0, _⟩ => (Nat.zero_add _).symm | ⟨1, _⟩ => (Nat.zero_add _).symm)).trans ?_
    rw [hY, hG]
    exact halo_at i Y G ⟨R.val, h⟩ k
  · rw [dif_neg h]
    refine (canon_hit (s := S528x1024) (e := .bf16) ![16, 0] S512x1024.size inb_S528x1024_S512x1024_16_0 _ _ (ix2 R k) (ix2 ⟨R.val - 16, by have := R.isLt; omega⟩ k)
      (fun a => match a with | ⟨0, _⟩ => by show R.val = 16 + (R.val - 16); omega | ⟨1, _⟩ => (Nat.zero_add _).symm)).trans ?_
    rw [hG]
    unfold kernelRun0_A.sl.r kernelRun0_A.sl.r_1
    rw [hX]
    exact rows_at X G _ k

variable (a7 : Memref sig .tc .vmem S2816x1024 .bf16) (h7 : a7.IsWhole) (a8 : Memref sig .tc .vmem S512x1024 .f32) (h8 : a8.IsWhole)
  (h9 : a9.IsWhole) (h10 : a10.IsWhole) (h11 : a11.IsWhole) (a12 : Memref sig .tc .vmem S512x2816 .bf16) (h12 : a12.IsWhole) (D : Vec Ideal S2816x1024 .bf16)

theorem sum_split (f : Fin 2816 → EReal) : (∑ k : Fin 1536, f ⟨k.val, by have := k.isLt; omega⟩) + ∑ k : Fin 1280, f ⟨1536 + k.val, by have := k.isLt; omega⟩ = ∑ k : Fin 2816, f k :=
  (Fin.sum_univ_add (a := 1536) (b := 1280) f).symm

theorem block_at (r : Fin 512) (q : Fin 1024) :
    out0_A_7 (F := Ideal) c i a1 h1 a2 h2 a3 h3 a4 h4 a5 h5 a6 h6 a7 h7 a8 h8 a9 h9 a10 h10 a11 h11 a12 h12 X Y G U C B D (ix2 r q)
      = (X (ix2 r q) : EReal) + ∑ k : Fin 2816, act (kernelRun0_A.sl.v53 c i a1 h1 a2 h2 a3 h3 a9 X Y G) U C B r k * D (ix2 k q) := by
  unfold out0_A_7
  rw [View.read_writes_junk_eq_canon]
  unfold kernelRun0_A
  dsimp only
  refine (canon_hit (s := S512x1024) (e := .f32) ![0, 0] S512x1024.size inb_S512x1024_S512x1024_0_0 _ _ (ix2 r q) (ix2 r q)
    (fun a => match a with | ⟨0, _⟩ => (Nat.zero_add _).symm | ⟨1, _⟩ => (Nat.zero_add _).symm)).trans ?_
  rw [down_at]
  have hx : kernelRun0_A.sl.r (F := Ideal) c a1 h1 X (ix2 r q) = (X (ix2 r q) : EReal) := by
    unfold kernelRun0_A.sl.r
    have := load_at a1 h1 X ![0, 0] S512x1024.size inb_S512x1024_S512x1024_0_0 (ix2 r q) (ix2 r q) (fun a => match a with | ⟨0, _⟩ => (Nat.zero_add _).symm | ⟨1, _⟩ => (Nat.zero_add _).symm)
    rw [← this]
    exact own_at _ r q
  rw [hx, add_assoc, ← sum_split (fun k => act (kernelRun0_A.sl.v53 c i a1 h1 a2 h2 a3 h3 a9 X Y G) U C B r k * D (ix2 k q))]
  refine congrArg₂ (fun y z : EReal => (X (ix2 r q) : EReal) + (y + z)) (Finset.sum_congr rfl fun k _ => ?_) (Finset.sum_congr rfl fun k _ => ?_)
  · have hk := k.isLt
    refine congrArg₂ (fun y z : EReal => y * z) ?_ ?_
    · refine (readCov_at (s := S512x2816) (e := .bf16) _ _ ![0, 0] S512x1536.size inb_S512x2816_S512x1536_0_0 (ix2 r k) (ix2 r ⟨k.val, by omega⟩)
        (fun a => match a with | ⟨0, _⟩ => (Nat.zero_add _).symm | ⟨1, _⟩ => (Nat.zero_add _).symm)).trans ?_
      exact acts_at c i a1 h1 a2 h2 a3 h3 a4 h4 a5 h5 a6 h6 a9 a10 a11 X Y G U C B r _
    · exact load_at a7 h7 D ![0, 0] S1536x1024.size _ (ix2 k q) (ix2 ⟨k.val, by omega⟩ q) (fun a => match a with | ⟨0, _⟩ => (Nat.zero_add _).symm | ⟨1, _⟩ => (Nat.zero_add _).symm)
  · have hk := k.isLt
    refine congrArg₂ (fun y z : EReal => y * z) ?_ ?_
    · refine (readCov_at (s := S512x2816) (e := .bf16) _ _ ![0, 1536] S512x1280.size inb_S512x2816_S512x1280_0_1536 (ix2 r k) (ix2 r ⟨1536 + k.val, by omega⟩)
        (fun a => match a with | ⟨0, _⟩ => (Nat.zero_add _).symm | ⟨1, _⟩ => rfl)).trans ?_
      exact acts_at c i a1 h1 a2 h2 a3 h3 a4 h4 a5 h5 a6 h6 a9 a10 a11 X Y G U C B r _
    · exact load_at a7 h7 D ![1536, 0] S1280x1024.size _ (ix2 k q) (ix2 ⟨1536 + k.val, by omega⟩ q) (fun a => match a with | ⟨0, _⟩ => rfl | ⟨1, _⟩ => (Nat.zero_add _).symm)

end Run

end Cert.Proof.Ffn
-- ==== Proof.Ffn.Array.lean ====
module

public import proofs.«01_k».proof.Proof.Ffn.Block

@[expose] public section

set_option maxRecDepth 16384
set_option maxHeartbeats 4000000

noncomputable section

namespace Cert.Proof.Ffn

open Cert.Kernel2Ideal Cert.Kernel2Ideal.Gen
open Idealize.ShloMosaic Idealize.ShloMosaic.TcCoe Idealize.ShloMosaic.Tactic
open Idealize.ShloMosaic.Pipeline

variable (m : (ℓ : Loc nD τ sig) → Buf (Elt Ideal) ℓ) (c : Dev nD)

/-! # The whole result array -/

abbrev argX : S2x8192x1024.Idx → EReal := m ((c : Thread nD τ).loc main_arg0)
abbrev argG : S1024.Idx → EReal := m ((c : Thread nD τ).loc main_arg1)
abbrev argU : S1024x5632.Idx → EReal := m ((c : Thread nD τ).loc main_arg2)
abbrev argC : S3x5632.Idx → EReal := m ((c : Thread nD τ).loc main_arg3)
abbrev argB : S5632.Idx → EReal := m ((c : Thread nD τ).loc main_arg4)
abbrev argD : S2816x1024.Idx → EReal := m ((c : Thread nD τ).loc main_arg5)

/-! ## What the host leaves for the kernel -/

theorem rows_eq (r : Fin 16384) (k : Fin 1024) :
    (V m c main_v0 : S16384x1024.Idx → EReal) (ix2 r k) = argX m c (ix3 ⟨r.val / 8192, by omega⟩ ⟨r.val % 8192, by omega⟩ k) := by
  have h : V m c main_v0 = shapeCast S16384x1024 (argX m c) shapeCasts_S2x8192x1024_S16384x1024 := by
    unfold V
    after_results_simp
    rfl
  rw [h]
  pointwise

theorem gain_eq (k : Fin 1024) : (V m c main_v1 : S1x1024.Idx → EReal) (ix2 0 k) = argG m c (ix1 k) := by
  have h : V m c main_v1 = broadcastInDim S1x1024 ![1] bcast_S1024_S1x1024_1 (argG m c) := by
    unfold V
    after_results_simp
  rw [h]
  pointwise

theorem bias_eq (j : Fin 5632) : (V m c main_v2 : S1x5632.Idx → EReal) (ix2 0 j) = argB m c (ix1 j) := by
  have h : V m c main_v2 = broadcastInDim S1x5632 ![1] bcast_S5632_S1x5632_1 (argB m c) := by
    unfold V
    after_results_simp
  rw [h]
  pointwise

theorem up_eq : (V m c main_v3 : S1024x5632.Idx → EReal) = argU m c := by
  unfold V
  after_results_simp
  rfl

theorem down_eq : (V m c main_v4 : S2816x1024.Idx → EReal) = argD m c := by
  unfold V
  after_results_simp
  rfl

/-! ## The blocks of a step -/

theorem ix_0 : ∀ t : Fin grid0.N, cc0_transform_0 (grid0.coords t) = ![(grid0.coords t 0).val, 0] := by decide +kernel
theorem ix_1 : ∀ t : Fin grid0.N, cc0_transform_1 (grid0.coords t) = ![(grid0.coords t 0).val * 32 - 1, 0] := by decide +kernel
theorem ix_7 : ∀ t : Fin grid0.N, cc0_transform_7 (grid0.coords t) = ![(grid0.coords t 0).val, 0] := by decide +kernel

/-- The step's number. -/
abbrev step (t : Fin cfg0.N) : ℕ := (grid0.coords t 0).val

theorem step_lt (t : Fin cfg0.N) : step t < 32 := (grid0.coords t 0).isLt

theorem iblk0_at (t : Fin cfg0.N) (r : Fin 512) (k : Fin 1024) (R : Fin 16384) (hR : R.val = step t * 512 + r.val) :
    (iblk m c 0 t : S512x1024.Idx → EReal) (ix2 r k) = (V m c main_v0 : S16384x1024.Idx → EReal) (ix2 R k) := by
  blk_simp [iblk]
  congr 1
  have e := ix_0 t
  funext a
  match a with
  | ⟨0, _⟩ =>
    refine Fin.ext (Eq.trans (b := cc0_transform_0 (grid0.coords t) 0 * 512 + 1 * r.val) rfl ?_)
    rw [e]; show _ = R.val; rw [hR]; simp
  | ⟨1, _⟩ =>
    refine Fin.ext (Eq.trans (b := cc0_transform_0 (grid0.coords t) 1 * 1024 + 1 * k.val) rfl ?_)
    rw [e]; show _ = k.val; simp

theorem iblk1_at (t : Fin cfg0.N) (r : Fin 16) (k : Fin 1024) (R : Fin 16384) (hR : R.val = (step t * 32 - 1) * 16 + r.val) :
    (iblk m c 1 t : S16x1024.Idx → EReal) (ix2 r k) = (V m c main_v0 : S16384x1024.Idx → EReal) (ix2 R k) := by
  blk_simp [iblk]
  congr 1
  have e := ix_1 t
  funext a
  match a with
  | ⟨0, _⟩ =>
    refine Fin.ext (Eq.trans (b := cc0_transform_1 (grid0.coords t) 0 * 16 + 1 * r.val) rfl ?_)
    rw [e]; show _ = R.val; rw [hR]; simp
  | ⟨1, _⟩ =>
    refine Fin.ext (Eq.trans (b := cc0_transform_1 (grid0.coords t) 1 * 1024 + 1 * k.val) rfl ?_)
    rw [e]; show _ = k.val; simp

theorem iblk2_eq (t : Fin cfg0.N) : (iblk m c 2 t : S1x1024.Idx → EReal) = V m c main_v1 := by
  funext y
  blk_simp [iblk]
  congr 1
  funext a
  match a with
  | ⟨0, _⟩ => exact Fin.ext (Eq.trans (b := 0 * 1 + 1 * (y 0).val) rfl (by simp))
  | ⟨1, _⟩ => exact Fin.ext (Eq.trans (b := 0 * 1024 + 1 * (y 1).val) rfl (by simp))

theorem iblk3_eq (t : Fin cfg0.N) : (iblk m c 3 t : S1024x5632.Idx → EReal) = V m c main_v3 := by
  funext y
  blk_simp [iblk]
  congr 1
  funext a
  match a with
  | ⟨0, _⟩ => exact Fin.ext (Eq.trans (b := 0 * 1024 + 1 * (y 0).val) rfl (by simp))
  | ⟨1, _⟩ => exact Fin.ext (Eq.trans (b := 0 * 5632 + 1 * (y 1).val) rfl (by simp))

theorem iblk4_eq (t : Fin cfg0.N) : (iblk m c 4 t : S3x5632.Idx → EReal) = V m c main_arg3 := by
  funext y
  blk_simp [iblk]
  congr 1
  funext a
  match a with
  | ⟨0, _⟩ => exact Fin.ext (Eq.trans (b := 0 * 3 + 1 * (y 0).val) rfl (by simp))
  | ⟨1, _⟩ => exact Fin.ext (Eq.trans (b := 0 * 5632 + 1 * (y 1).val) rfl (by simp))

theorem iblk5_eq (t : Fin cfg0.N) : (iblk m c 5 t : S1x5632.Idx → EReal) = V m c main_v2 := by
  funext y
  blk_simp [iblk]
  congr 1
  funext a
  match a with
  | ⟨0, _⟩ => exact Fin.ext (Eq.trans (b := 0 * 1 + 1 * (y 0).val) rfl (by simp))
  | ⟨1, _⟩ => exact Fin.ext (Eq.trans (b := 0 * 5632 + 1 * (y 1).val) rfl (by simp))

theorem iblk6_eq (t : Fin cfg0.N) : (iblk m c 6 t : S2816x1024.Idx → EReal) = V m c main_v4 := by
  funext y
  blk_simp [iblk]
  congr 1
  funext a
  match a with
  | ⟨0, _⟩ => exact Fin.ext (Eq.trans (b := 0 * 2816 + 1 * (y 0).val) rfl (by simp))
  | ⟨1, _⟩ => exact Fin.ext (Eq.trans (b := 0 * 1024 + 1 * (y 1).val) rfl (by simp))

/-! ## A step's block of the result -/

/-- The normalised rows of a step: 16 rows before its own, then its own. -/
abbrev normed (t : Fin cfg0.N) : Vec Ideal S528x1024 .bf16 :=
  kernelRun0_A.sl.v53 (F := Ideal) c (grid0.coords t) (ms0_0 t) (hs0_0 t) (ms0_1 t) (hs0_1 t) (ms0_2 t) (hs0_2 t) scM0_0 (iblk m c 0 t) (iblk m c 1 t) (iblk m c 2 t)

theorem proj_eq (t : Fin cfg0.N) (R : Fin 528) (hR : 14 ≤ R.val) (j : Fin 5632) (b : Fin 2) (hb : b.val = step t / 16) (p : ℕ) (hp : p + 14 = step t % 16 * 512 + R.val) :
    proj (normed m c t) (argU m c) R j = padded (argX m c) (argG m c) (argU m c) b p j := by
  have hs := step_lt t
  have hr := R.isLt
  have key : ∀ (T : Fin 16384) (hT : T.val + 16 = step t * 512 + R.val) (q : Fin 8192) (hq : q.val + 2 = p) (l : Fin 1024),
      (V m c main_v0 : S16384x1024.Idx → EReal) (ix2 T l) = argX m c (ix3 b q l) := by
    intro T hT q hq l
    rw [rows_eq]
    refine congrArg (fun z => argX m c z) ?_
    congr 1 <;> exact Fin.ext (by simp only []; omega)
  have row : ∀ k : Fin 1024, (normed m c t (ix2 R k) : EReal)
      = if h : 2 ≤ p ∧ p - 2 < 8192 then rms (fun l => argX m c (ix3 b ⟨p - 2, h.2⟩ l)) (fun l => argG m c (ix1 l)) k else 0 := by
    intro k
    have hg : (fun l => (iblk m c 2 t : S1x1024.Idx → EReal) (ix2 0 l)) = fun l => argG m c (ix1 l) := by
      funext l; rw [iblk2_eq, gain_eq]
    refine (normed_at c (grid0.coords t) (ms0_0 t) (hs0_0 t) (ms0_1 t) (hs0_1 t) (ms0_2 t) (hs0_2 t) scM0_0 (iblk m c 0 t) (iblk m c 1 t) (iblk m c 2 t) R k).trans ?_
    by_cases h16 : R.val < 16
    · rw [dif_pos h16]
      by_cases h0 : step t % 16 = 0
      · rw [if_pos h0, dif_neg (by omega)]
      · rw [if_neg h0, dif_pos (⟨by omega, by omega⟩ : 2 ≤ p ∧ p - 2 < 8192), hg]
        refine congrArg (fun z => rms z (fun l => argG m c (ix1 l)) k) (funext fun l => ?_)
        rw [iblk1_at m c t ⟨R.val, h16⟩ l ⟨(step t * 32 - 1) * 16 + R.val, by omega⟩ rfl]
        exact key _ (by simp only []; omega) _ (by simp only []; omega) l
    · rw [dif_neg h16, dif_pos (⟨by omega, by omega⟩ : 2 ≤ p ∧ p - 2 < 8192), hg]
      refine congrArg (fun z => rms z (fun l => argG m c (ix1 l)) k) (funext fun l => ?_)
      rw [iblk0_at m c t ⟨R.val - 16, by omega⟩ l ⟨step t * 512 + (R.val - 16), by omega⟩ rfl]
      exact key _ (by simp only []; omega) _ (by simp only []; omega) l
  unfold proj padded
  by_cases h : 2 ≤ p ∧ p - 2 < 8192
  · rw [dif_pos h]
    exact Finset.sum_congr rfl fun k _ => by rw [row k, dif_pos h]
  · rw [dif_neg h]
    exact Finset.sum_eq_zero fun k _ => by rw [row k, dif_neg h, zero_mul]

theorem conv_eq (t : Fin cfg0.N) (r : Fin 512) (j : Fin 5632) (b : Fin 2) (hb : b.val = step t / 16) (p : ℕ) (hp : p = step t % 16 * 512 + r.val) :
    conv (normed m c t) (argU m c) (argC m c) (V m c main_v2) r j = mixed (argX m c) (argG m c) (argU m c) (argC m c) (argB m c) b p j := by
  have hr := r.isLt
  unfold conv mixed
  rw [bias_eq, proj_eq m c t ⟨16 + r.val, by omega⟩ (by simp only []; omega) j b hb (p + 2) (by simp only []; omega),
    proj_eq m c t ⟨15 + r.val, by omega⟩ (by simp only []; omega) j b hb (p + 1) (by simp only []; omega),
    proj_eq m c t ⟨14 + r.val, by omega⟩ (by simp only []; omega) j b hb p (by simp only []; omega)]

/-- The result's array. -/
def totalArr : S16384x1024.Idx → EReal := fun i =>
  total (argX m c) (argG m c) (argU m c) (argC m c) (argB m c) (argD m c) ⟨(i 0).val / 8192, by have h : (i 0).val < 16384 := (i 0).isLt; omega⟩
    ⟨(i 0).val % 8192, by omega⟩ ⟨(i 1).val, (i 1).isLt⟩

theorem outs_at (t : Fin cfg0.N) (r : Fin 512) (q : Fin 1024) (i : S16384x1024.Idx) (h0 : (i 0).val = step t * 512 + r.val) (h1 : (i 1).val = q.val) :
    (outsAt0 m c t : S512x1024.Idx → EReal) (ix2 r q) = totalArr m c i := by
  have hs := step_lt t
  have hr := r.isLt
  have hi : (i 0).val < 16384 := (i 0).isLt
  unfold outsAt0
  refine (block_at c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 scM0_1 scM0_2 (iblk m c 0 t) (iblk m c 1 t) (iblk m c 2 t) (iblk m c 3 t) (iblk m c 4 t) (iblk m c 5 t) (ms0_6 t) (hs0_6 t) (ms0_7 t) (hs0_7 t)
    (Memref.isWhole_whole _) (Memref.isWhole_whole _) (Memref.isWhole_whole _) scM0_3 (Memref.isWhole_whole _) (iblk m c 6 t) r q).trans ?_
  unfold totalArr total
  refine congrArg₂ (fun y z : EReal => y + z) ?_ (Finset.sum_congr rfl fun k _ => congrArg₂ (fun y z : EReal => y * z) ?_ ?_)
  · rw [iblk0_at m c t r q ⟨step t * 512 + r.val, by omega⟩ rfl, rows_eq]
    refine congrArg (fun z => argX m c z) ?_
    congr 1 <;> exact Fin.ext (by simp only []; omega)
  · have hk := k.isLt
    have e4 : (iblk m c 4 t : S3x5632.Idx → EReal) = argC m c := (iblk4_eq m c t).trans (V_main_arg3 m c)
    have e3 : (iblk m c 3 t : S1024x5632.Idx → EReal) = argU m c := (iblk3_eq m c t).trans (up_eq m c)
    have e5 := iblk5_eq m c t
    unfold act
    refine congrArg₂ swi ?_ ?_
    · exact (congrFun (congrFun (congr (congr (congrArg (conv (normed m c t)) e3) e4) e5) r) _).trans
        (conv_eq m c t r _ _ (by simp only []; omega) _ (by simp only []; omega))
    · exact (congrFun (congrFun (congr (congr (congrArg (conv (normed m c t)) e3) e4) e5) r) _).trans
        (conv_eq m c t r _ _ (by simp only []; omega) _ (by simp only []; omega))
  · rw [iblk6_eq, down_eq]
    refine congrArg (fun z => argD m c z) ?_
    congr 1
    exact Fin.ext h1.symm

theorem emb0 (t : Fin cfg0.N) (y : S512x1024.Idx) : (((cfg0.win 7).blk t).view.emb y 0).val = step t * 512 + (y 0).val := by
  refine Eq.trans (b := cc0_transform_7 (grid0.coords t) 0 * 512 + 1 * (y 0).val) rfl ?_
  rw [ix_7 t]; simp

theorem emb1 (t : Fin cfg0.N) (y : S512x1024.Idx) : (((cfg0.win 7).blk t).view.emb y 1).val = (y 1).val := by
  refine Eq.trans (b := cc0_transform_7 (grid0.coords t) 1 * 1024 + 1 * (y 1).val) rfl ?_
  rw [ix_7 t]; simp

theorem outs_res (t : Fin cfg0.N) (y : S512x1024.Idx) (i : S16384x1024.Idx) (h0 : (i 0).val = step t * 512 + (y 0).val) (h1 : (i 1).val = (y 1).val) :
    (outsAt0 m c t : S512x1024.Idx → EReal) y = totalArr m c i := by
  obtain ⟨r, q, rfl⟩ : ∃ (r : Fin 512) (q : Fin 1024), y = (ix2 r q : S512x1024.Idx) := ⟨y 0, y 1, eq_ix2 _⟩
  exact outs_at m c t r q i h0 h1

theorem covers : (cfg0.win 7).Covers := by decide +kernel

theorem final : (dats m 0 c).arrAt 7 cfg0.N = totalArr m c := by
  refine (dats m 0 c).arrAt_eq_of_covers 7 (totalArr m c) covers fun t _ y => ?_
  blk_simp
  exact outs_res m c t y _ (emb0 t y) (emb1 t y)

end Cert.Proof.Ffn
-- ==== Proof.Ffn.Reference.lean ====
module

public import proofs.«01_k».proof.Proof.Gen.Reference2Ideal.Run
public import proofs.«01_k».proof.Proof.Ffn.Words

@[expose] public section

set_option maxRecDepth 16384
set_option maxHeartbeats 4000000

noncomputable section

namespace Cert.Proof.Ffn

open Cert.Reference2Ideal Cert.Reference2Ideal.Gen
open Idealize.ShloMosaic Idealize.ShloMosaic.TcCoe

/-! # The feed-forward part's reference, entry by entry -/

section Pieces

variable (x : FVec Ideal S2x8192x1024 .f32) (g : FVec Ideal S1024 .f32) (w : FVec Ideal S1024x5632 .f32) (cw : FVec Ideal S3x5632 .f32)
  (cb : FVec Ideal S5632 .f32) (wd : FVec Ideal S2816x1024 .f32)

/-- The normalised rows. -/
def rNorm : FVec Ideal S2x8192x1024 .f32 :=
  mulf (mulf x (broadcastInDim S2x8192x1024 ![0, 1, 2] bcast_S2x8192x1_S2x8192x1024_0_1_2 (Host.rsqrt (addf
    (Host.divf (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The first product. -/
def rUp : FVec Ideal S2x8192x5632 .f32 := Host.dotGeneral dot_S2x8192x1024_S1024x5632_S2x8192x5632_2_0_01_1_n_n none (rNorm x g) w

/-- The first product with two positions of zeros before each sequence. -/
def rPad : FVec Ideal S2x8194x5632 .f32 :=
  pad S2x8194x5632 ![0, 2, 0] ![0, 0, 0] ![0, 0, 0] (rUp x g w) (sitofp .f32 (constantI S_ 32 0#32)) pads_S2x8192x5632_S2x8194x5632_000_200_000 h_S_

/-- A row of the convolution's weights, over the whole array. -/
def rTap (v : FVec Ideal S1x5632 .f32) : FVec Ideal S2x8192x5632 .f32 :=
  broadcastInDim S2x8192x5632 ![0, 1, 2] bcast_S1x1x5632_S2x8192x5632_0_1_2 (broadcastInDim S1x1x5632 ![2] bcast_S5632_S1x1x5632_2 (shapeCast _ v shapeCasts_S1x5632_S5632))

/-- The convolution. -/
def rConv : FVec Ideal S2x8192x5632 .f32 :=
  addf (addf (addf (addf (broadcastInDim S2x8192x5632 ![] bcast_S_S2x8192x5632 (constant S_ .f32 0x00000000#32))
    (mulf (rTap (extractStridedSlice S1x5632 ![0, 0] cw slices_S3x5632_S1x5632_0_0)) (extractStridedSlice S2x8192x5632 ![0, 0, 0] (rPad x g w) slices_S2x8194x5632_S2x8192x5632_0_0_0)))
    (mulf (rTap (extractStridedSlice S1x5632 ![1, 0] cw slices_S3x5632_S1x5632_1_0)) (extractStridedSlice S2x8192x5632 ![0, 1, 0] (rPad x g w) slices_S2x8194x5632_S2x8192x5632_0_1_0)))
    (mulf (rTap (extractStridedSlice S1x5632 ![2, 0] cw slices_S3x5632_S1x5632_2_0)) (extractStridedSlice S2x8192x5632 ![0, 2, 0] (rPad x g w) slices_S2x8194x5632_S2x8192x5632_0_2_0)))
    (broadcastInDim S2x8192x5632 ![0, 1, 2] bcast_S1x1x5632_S2x8192x5632_0_1_2 (broadcastInDim S1x1x5632 ![2] bcast_S5632_S1x1x5632_2 cb))

/-- The gated product. -/
def rAct : FVec Ideal S2x8192x2816 .f32 :=
  mulf (mulf (extractStridedSlice S2x8192x2816 ![0, 0, 0] (rConv x g w cw cb) slices_S2x8192x5632_S2x8192x2816_0_0_0)
    (Host.divf (broadcastInDim S2x8192x2816 ![] bcast_S_S2x8192x2816 (constant S_ .f32 0x3F800000#32))
      (addf (broadcastInDim S2x8192x2816 ![] bcast_S_S2x8192x2816 (constant S_ .f32 0x3F800000#32))
        (Host.exp (Host.negf (extractStridedSlice S2x8192x2816 ![0, 0, 0] (rConv x g w cw cb) slices_S2x8192x5632_S2x8192x2816_0_0_0))))))
    (extractStridedSlice S2x8192x2816 ![0, 0, 2816] (rConv x g w cw cb) slices_S2x8192x5632_S2x8192x2816_0_0_2816)

/-- The result. -/
def rOut : FVec Ideal S16384x1024 .f32 :=
  shapeCast _ (addf x (Host.dotGeneral dot_S2x8192x2816_S2816x1024_S2x8192x1024_2_0_01_1_n_n none (rAct x g w cw cb) wd)) shapeCasts_S2x8192x1024_S16384x1024

theorem rUp_at (b : Fin 2) (t : Fin 8192) (j : Fin 5632) : rUp x g w (ix3 b t j) = first x g w b t j := by
  pointwise [rUp, rNorm, first, rms]

theorem rPad_at (b : Fin 2) (p : Fin 8194) (j : Fin 5632) : rPad x g w (ix3 b p j) = padded x g w b p j := by
  pointwise [rPad]
  simp only [rUp_at]
  rw [padded]
  refine dite_congr rfl (fun _ => rfl) (fun _ => ?_)
  show (((0#32 : BitVec 32).toInt : ℝ) : EReal) = 0
  rw [BitVec.toInt_zero, Int.cast_zero, EReal.coe_zero]

theorem rConv_at (b : Fin 2) (t : Fin 8192) (j : Fin 5632) : rConv x g w cw cb (ix3 b t j) = mixed x g w cw cb b t j := by
  pointwise [rConv, rTap]
  simp only [rPad_at, mixed, Nat.add_comm 1, Nat.add_comm 2]
  rw [add_comm _ (cb (ix1 j)), add_assoc, add_assoc, add_assoc]
  refine congrArg (cb (ix1 j) + ·) ?_
  exact (add_comm _ _).trans ((congrArg (· + _) (add_comm _ _)).trans (add_assoc _ _ _))

theorem rAct_at (b : Fin 2) (t : Fin 8192) (k : Fin 2816) :
    rAct x g w cw cb (ix3 b t k) = swi (mixed x g w cw cb b t ⟨k.val, by have := k.isLt; omega⟩) (mixed x g w cw cb b t ⟨2816 + k.val, by have := k.isLt; omega⟩) := by
  pointwise [rAct]
  simp only [rConv_at, swi, zero_sub]

theorem rOut_at (r : Fin 16384) (q : Fin 1024) :
    rOut x g w cw cb wd (ix2 r q) = total x g w cw cb wd ⟨r.val / 8192, by omega⟩ ⟨r.val % 8192, by omega⟩ q := by
  pointwise [rOut]
  simp only [rAct_at, total]

end Pieces

theorem res_eq (m : (ℓ : Loc nD τ sig) → Buf (Elt Ideal) ℓ) (c : Dev nD) :
    Cert.Reference2Ideal.Value.res_main_v46 m c
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  delta Cert.Reference2Ideal.Value.res_main_v46 rOut rAct rConv rTap rPad rUp rNorm
  rfl

/-- The reference's result, entry by entry. -/
theorem reference_at (m : (ℓ : Loc nD τ sig) → Buf (Elt Ideal) ℓ) (c : Dev nD) (r : Fin 16384) (q : Fin 1024) :
    Cert.Reference2Ideal.Value.res_main_v46 m c (ix2 r q)
      = total (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          ⟨r.val / 8192, by omega⟩ ⟨r.val % 8192, by omega⟩ q := by
  rw [res_eq]
  exact rOut_at _ _ _ _ _ _ r q

end Cert.Proof.Ffn
-- ==== Proof.Ffn.Equation.lean ====
module

public import proofs.«01_k».proof.Proof.Ffn.Array
public import proofs.«01_k».proof.Proof.Ffn.Reference

@[expose] public section

noncomputable section

namespace Cert.Proof.Ffn

open Idealize.ShloMosaic Idealize.ShloMosaic.TcCoe

/-! # The kernel's array is the reference's -/

/-- From the same arguments the reference's result is the kernel's array. -/
theorem reference_result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : m' ((c.tc : Thread Cert.Reference2Ideal.nD Cert.Reference2Ideal.τ).loc Cert.Reference2Ideal.main_arg0) = argX m c)
    (e1 : m' ((c.tc : Thread Cert.Reference2Ideal.nD Cert.Reference2Ideal.τ).loc Cert.Reference2Ideal.main_arg1) = argG m c)
    (e2 : m' ((c.tc : Thread Cert.Reference2Ideal.nD Cert.Reference2Ideal.τ).loc Cert.Reference2Ideal.main_arg2) = argU m c)
    (e3 : m' ((c.tc : Thread Cert.Reference2Ideal.nD Cert.Reference2Ideal.τ).loc Cert.Reference2Ideal.main_arg3) = argC m c)
    (e4 : m' ((c.tc : Thread Cert.Reference2Ideal.nD Cert.Reference2Ideal.τ).loc Cert.Reference2Ideal.main_arg4) = argB m c)
    (e5 : m' ((c.tc : Thread Cert.Reference2Ideal.nD Cert.Reference2Ideal.τ).loc Cert.Reference2Ideal.main_arg5) = argD m c) :
    Cert.Reference2Ideal.Value.res_main_v46 m' c = totalArr m c := by
  funext i
  obtain ⟨r, q, rfl⟩ : ∃ (r : Fin 16384) (q : Fin 1024), i = (ix2 r q : Cert.Reference2Ideal.S16384x1024.Idx) := ⟨i 0, i 1, eq_ix2 _⟩
  rw [reference_at, e0, e1, e2, e3, e4, e5]
  rfl

end Cert.Proof.Ffn
-- ==== Proof.Out.Words.lean ====
module

public import Idealize.ShloMosaic.Lib.Pointwise

@[expose] public section

noncomputable section

namespace Cert.Proof.Out

open Idealize.ShloMosaic

/-! # The output projection, element by element

Both programs are shown to compute `outTotal`: the residual stream plus the product of the mixers' outputs, each
normalised over its own head of 64 lanes and two of them gated, with the output weights. Nothing here asks the numbers
to be finite. -/

/-- The logistic of a number. -/
def gate (b : EReal) : EReal := Ideal.div 1 (1 + Ideal.exp (0 - b))

/-- The sum of the squares of the head of 64 lanes that holds lane `j` of a row `x`. -/
def headSq {w : ℕ} (hw : 64 ∣ w) (x : Fin w → EReal) (j : Fin w) : EReal :=
  ∑ l : Fin 64, x ⟨j.val / 64 * 64 + l.val, by have := j.isLt; have := l.isLt; obtain ⟨n, rfl⟩ := hw; omega⟩
    * x ⟨j.val / 64 * 64 + l.val, by have := j.isLt; have := l.isLt; obtain ⟨n, rfl⟩ := hw; omega⟩

/-- Lane `j` of a row `x` after the root-mean-square norm of its head, with gain `g`. -/
def headNorm {w : ℕ} (hw : 64 ∣ w) (x g : Fin w → EReal) (j : Fin w) : EReal :=
  x j * Ideal.rsqrt (Ideal.div (headSq hw x j) (Scalar.ofBits (F := Ideal) .f32 0x42800000#32) + Scalar.ofBits (F := Ideal) .f32 0x358637BD#32) * g j

/-- A product with the indicator of the lanes of `j`'s head sums that head. -/
theorem headSq_eq {w : ℕ} (hw : 64 ∣ w) (x : Fin w → EReal) (j : Fin w) (e : Fin w → EReal)
    (he : ∀ k : Fin w, e k = if k.val / 64 = j.val / 64 then 1 else 0) :
    ∑ k : Fin w, x k * x k * e k = headSq hw x j := by
  have hj := j.isLt
  simp only [he, mul_ite, mul_one, mul_zero]
  rw [← Finset.sum_filter]
  unfold headSq
  refine Finset.sum_nbij' (fun k => ⟨k.val % 64, Nat.mod_lt _ (by decide)⟩)
    (fun l => ⟨j.val / 64 * 64 + l.val, by have := l.isLt; obtain ⟨n, rfl⟩ := hw; omega⟩) ?_ ?_ ?_ ?_ ?_
  · exact fun _ _ => Finset.mem_univ _
  · intro l _
    have := l.isLt
    refine Finset.mem_filter.mpr ⟨Finset.mem_univ _, ?_⟩
    show (j.val / 64 * 64 + l.val) / 64 = j.val / 64
    omega
  · intro k hk
    have := (Finset.mem_filter.mp hk).2
    refine Fin.ext ?_
    show j.val / 64 * 64 + k.val % 64 = k.val
    omega
  · intro l _
    have := l.isLt
    refine Fin.ext ?_
    show (j.val / 64 * 64 + l.val) % 64 = l.val
    omega
  · intro k hk
    have := (Finset.mem_filter.mp hk).2
    have e : k = ⟨j.val / 64 * 64 + k.val % 64, by have := k.isLt; omega⟩ := Fin.ext (by show k.val = j.val / 64 * 64 + k.val % 64; omega)
    rw [← e]

/-- The word of 1/64 multiplies as the word of 64 divides. -/
theorem mul_word (s : EReal) : s * Scalar.ofBits (F := Ideal) .f32 0x3C800000#32 = Ideal.div s (Scalar.ofBits (F := Ideal) .f32 0x42800000#32) := by
  have a : Scalar.ofBits (F := Ideal) .f32 0x3C800000#32 = ((1 / 64 : ℝ) : EReal) := by
    show Ideal.ofBits .f32 0x3C800000#32 = _
    simp [Ideal.ofBits, Ideal.ieee]
    rw [← EReal.coe_mul, EReal.coe_eq_coe_iff]
    norm_num
  have b : Scalar.ofBits (F := Ideal) .f32 0x42800000#32 = ((64 : ℝ) : EReal) := by
    show Ideal.ofBits .f32 0x42800000#32 = _
    simp [Ideal.ofBits, Ideal.ieee]
    rw [← EReal.coe_mul, EReal.coe_eq_coe_iff]
    norm_num
  rw [a, b, Ideal.div_coe (by norm_num)]

/-- The norm as a product with the indicator of the lane's head and with the word of 1/64. -/
theorem headNorm_eq {w : ℕ} (hw : 64 ∣ w) (x g : Fin w → EReal) (j : Fin w) (e : Fin w → EReal)
    (he : ∀ k : Fin w, e k = if k.val / 64 = j.val / 64 then 1 else 0) :
    x j * Ideal.rsqrt ((∑ k : Fin w, x k * x k * e k) * Scalar.ofBits (F := Ideal) .f32 0x3C800000#32 + Scalar.ofBits (F := Ideal) .f32 0x358637BD#32) * g j
      = headNorm hw x g j := by
  rw [headSq_eq hw x j e he, mul_word]
  rfl

section Total

variable (X : (⟨2, ![16384, 1024]⟩ : Shape).Idx → EReal) (A : (⟨2, ![16384, 512]⟩ : Shape).Idx → EReal)
  (B C : (⟨2, ![16384, 256]⟩ : Shape).Idx → EReal) (R : (⟨2, ![16384, 2048]⟩ : Shape).Idx → EReal)
  (G : (⟨1, ![1024]⟩ : Shape).Idx → EReal) (W : (⟨2, ![1024, 1024]⟩ : Shape).Idx → EReal)

/-- The first mixer's share of row `r`. -/
def laneA (r : Fin 16384) (k : Fin 512) : EReal :=
  headNorm (w := 512) (by decide) (fun l => A (ix2 r l)) (fun l => G (ix1 ⟨l.val, by have := l.isLt; omega⟩)) k

/-- The second mixer's share, gated by the logistic of its gate. -/
def laneB (r : Fin 16384) (k : Fin 256) : EReal :=
  gate (R (ix2 r ⟨768 + k.val, by have := k.isLt; omega⟩))
    * headNorm (w := 256) (by decide) (fun l => B (ix2 r l)) (fun l => G (ix1 ⟨512 + l.val, by have := l.isLt; omega⟩)) k

/-- The third mixer's share, gated by its gate times the gate's logistic. -/
def laneC (r : Fin 16384) (k : Fin 256) : EReal :=
  R (ix2 r ⟨1792 + k.val, by have := k.isLt; omega⟩) * gate (R (ix2 r ⟨1792 + k.val, by have := k.isLt; omega⟩))
    * headNorm (w := 256) (by decide) (fun l => C (ix2 r l)) (fun l => G (ix1 ⟨768 + l.val, by have := l.isLt; omega⟩)) k

/-- The result at row `r`, column `q`. -/
def outTotal (r : Fin 16384) (q : Fin 1024) : EReal :=
  X (ix2 r q) + ((∑ k : Fin 512, laneA A G r k * W (ix2 ⟨k.val, by have := k.isLt; omega⟩ q))
    + ((∑ k : Fin 256, laneB B R G r k * W (ix2 ⟨512 + k.val, by have := k.isLt; omega⟩ q))
      + ∑ k : Fin 256, laneC C R G r k * W (ix2 ⟨768 + k.val, by have := k.isLt; omega⟩ q)))

end Total

/-- A sum of 1024 terms in three runs. -/
theorem sum_split (f : Fin 1024 → EReal) : ∑ k : Fin 1024, f k
    = (∑ k : Fin 512, f ⟨k.val, by have := k.isLt; omega⟩)
      + ((∑ k : Fin 256, f ⟨512 + k.val, by have := k.isLt; omega⟩) + ∑ k : Fin 256, f ⟨768 + k.val, by have := k.isLt; omega⟩) := by
  refine (Fin.sum_univ_add (a := 512) (b := 512) f).trans (congrArg₂ (· + ·) rfl ?_)
  refine (Fin.sum_univ_add (a := 256) (b := 256) (fun k => f (Fin.natAdd 512 k))).trans (congrArg₂ (· + ·) rfl ?_)
  exact Finset.sum_congr rfl fun k _ => congrArg f (Fin.ext (by show 512 + (256 + k.val) = 768 + k.val; omega))

end Cert.Proof.Out
-- ==== Proof.Out.Block.lean ====
module

public import proofs.«01_k».proof.Proof.Gen.Kernel3Ideal.Value
public import Idealize.ShloMosaic.Lib.Pipeline.ValueKit
public import proofs.«01_k».proof.Proof.Out.Words

@[expose] public section

set_option maxRecDepth 16384
set_option maxHeartbeats 4000000

noncomputable section

namespace Cert.Proof.Out

open Cert.Kernel3Ideal Cert.Kernel3Ideal.Gen
open Idealize.ShloMosaic Idealize.ShloMosaic.TcCoe Idealize.ShloMosaic.Tactic
open Idealize.ShloMosaic.Pipeline

/-! # One block of 1024 rows of the result -/

theorem acc_at (yb yc : FVec Ideal S1024x256 .f32) (x : Vec Ideal S1024x1024 .f32) (p : FVec Ideal S1024x1024 .f32) (wb wc : Vec Ideal S256x1024 .bf16)
    (r q : Fin 1024) :
    k0_pay1 yb yc x p wb wc (ix2 r q) = (x (ix2 r q) : EReal) + p (ix2 r q) + ∑ k : Fin 256, yb (ix2 r k) * wb (ix2 k q) + ∑ k : Fin 256, yc (ix2 r k) * wc (ix2 k q) := by
  pointwise [k0_pay1]

theorem first_at (o : Vec Ideal S1024x512 .bf16) (e : Vec Ideal S512x512 .bf16) (g : Vec Ideal S1x512 .f32) (r : Fin 1024) (k : Fin 512)
    (he : ∀ l : Fin 512, (e (ix2 l k) : EReal) = if l.val / 64 = k.val / 64 then 1 else 0) :
    k0_pay2 o e g (ix2 r k) = headNorm (w := 512) (by decide) (fun l => o (ix2 r l)) (fun l => g (ix2 0 l)) k := by
  refine Eq.trans ?_ (headNorm_eq _ _ _ k (fun l => e (ix2 l k)) he)
  pointwise [k0_pay2]

theorem second_at (b o : Vec Ideal S1024x256 .bf16) (e : Vec Ideal S256x256 .bf16) (g : Vec Ideal S1x256 .f32) (r : Fin 1024) (k : Fin 256)
    (he : ∀ l : Fin 256, (e (ix2 l k) : EReal) = if l.val / 64 = k.val / 64 then 1 else 0) :
    k0_pay6 (k0_pay3 b) (k0_pay4 o) (k0_pay5 o e) g (ix2 r k)
      = gate (b (ix2 r k)) * headNorm (w := 256) (by decide) (fun l => o (ix2 r l)) (fun l => g (ix2 0 l)) k := by
  refine Eq.trans ?_ (congrArg (fun z : EReal => gate (b (ix2 r k)) * z) (headNorm_eq _ _ _ k (fun l => e (ix2 l k)) he))
  pointwise [k0_pay6, k0_pay3, k0_pay4, k0_pay5, gate]

theorem third_at (b o : Vec Ideal S1024x256 .bf16) (e : Vec Ideal S256x256 .bf16) (g : Vec Ideal S1x256 .f32) (r : Fin 1024) (k : Fin 256)
    (he : ∀ l : Fin 256, (e (ix2 l k) : EReal) = if l.val / 64 = k.val / 64 then 1 else 0) :
    k0_pay7 b o e g (ix2 r k)
      = (b (ix2 r k) : EReal) * gate (b (ix2 r k)) * headNorm (w := 256) (by decide) (fun l => o (ix2 r l)) (fun l => g (ix2 0 l)) k := by
  refine Eq.trans ?_ (congrArg (fun z : EReal => (b (ix2 r k) : EReal) * gate (b (ix2 r k)) * z) (headNorm_eq _ _ _ k (fun l => e (ix2 l k)) he))
  pointwise [k0_pay7, gate]

theorem prod_at (y : FVec Ideal S1024x512 .f32) (w : Vec Ideal S512x1024 .bf16) (r q : Fin 1024) :
    k0_pay8 y w (ix2 r q) = ∑ k : Fin 512, (y (ix2 r k) : EReal) * w (ix2 k q) := by
  pointwise [k0_pay8]

/-- A load of part of an input reads the input at the box's indices. -/
theorem part_at {s : Shape} {e : EltTy} (X : Vec Ideal s e) (off size : Fin s.rank → ℕ) (inb : ∀ x, off x + size x ≤ s.size x)
    (x : (Rect.unit off size inb).shape.Idx) (y : s.Idx) (h : ∀ k, (y k).val = off k + (x k).val) :
    View.ld X (Rect.unit off size inb) x = X y :=
  View.ld_unit_apply_of X off size inb x y h

theorem zeros : (![0, 0] : Fin 2 → ℕ) = fun _ => 0 := by
  funext a
  match a with
  | ⟨0, _⟩ => rfl
  | ⟨1, _⟩ => rfl

/-- A block's entry, from the blocks it reads. -/
theorem block_at (X : Vec Ideal S1024x1024 .f32) (A : Vec Ideal S1024x512 .bf16) (B C P Q : Vec Ideal S1024x256 .bf16) (G : Vec Ideal S1x1024 .f32)
    (E : Vec Ideal S512x512 .bf16) (W : Vec Ideal S1024x1024 .bf16)
    (hE : ∀ l k : Fin 512, (E (ix2 l k) : EReal) = if l.val / 64 = k.val / 64 then 1 else 0) (r q : Fin 1024) :
    out0_9 X A B C P Q G E W (ix2 r q)
      = (X (ix2 r q) : EReal)
        + ((∑ k : Fin 512, headNorm (w := 512) (by decide) (fun l => A (ix2 r l)) (fun l => G (ix2 0 ⟨l.val, by have := l.isLt; omega⟩)) k * W (ix2 ⟨k.val, by have := k.isLt; omega⟩ q))
        + ((∑ k : Fin 256, gate (P (ix2 r k)) * headNorm (w := 256) (by decide) (fun l => B (ix2 r l)) (fun l => G (ix2 0 ⟨512 + l.val, by have := l.isLt; omega⟩)) k
            * W (ix2 ⟨512 + k.val, by have := k.isLt; omega⟩ q))
          + ∑ k : Fin 256, (Q (ix2 r k) : EReal) * gate (Q (ix2 r k)) * headNorm (w := 256) (by decide) (fun l => C (ix2 r l)) (fun l => G (ix2 0 ⟨768 + l.val, by have := l.isLt; omega⟩)) k
            * W (ix2 ⟨768 + k.val, by have := k.isLt; omega⟩ q))) := by
  have part : ∀ l k : Fin 256, (View.ld E r0_4 (ix2 l k) : EReal) = if l.val / 64 = k.val / 64 then 1 else 0 := fun l k =>
    (part_at E ![0, 0] S256x256.size inb_S512x512_S256x256_0_0 (ix2 l k) (ix2 ⟨l.val, by have := l.isLt; omega⟩ ⟨k.val, by have := k.isLt; omega⟩)
      (fun a => match a with | ⟨0, _⟩ => (Nat.zero_add _).symm | ⟨1, _⟩ => (Nat.zero_add _).symm)).trans (hE _ _)
  unfold out0_9
  rw [View.canon_cons_unit_zero zeros]
  unfold r0_0 r0_1 r0_3 r0_7
  rw [View.ld_unit_zero zeros, View.ld_unit_zero zeros, View.ld_unit_zero zeros, View.ld_unit_zero zeros, View.ld_unit_zero zeros, View.ld_unit_zero zeros, View.ld_unit_zero zeros]
  rw [acc_at, prod_at, add_assoc, add_assoc]
  refine congrArg (fun z : EReal => X (ix2 r q) + z) (congrArg₂ (fun y z : EReal => y + z) ?_ (congrArg₂ (fun y z : EReal => y + z) ?_ ?_))
  · refine Finset.sum_congr rfl fun k _ => congrArg₂ (fun y z : EReal => y * z) ?_ ?_
    · refine (first_at A E _ r k (fun l => hE l k)).trans (congrArg (fun z => headNorm _ _ z k) (funext fun l => ?_))
      exact part_at G ![0, 0] S1x512.size inb_S1x1024_S1x512_0_0 (ix2 0 l) (ix2 0 ⟨l.val, by have := l.isLt; omega⟩)
        (fun a => match a with | ⟨0, _⟩ => rfl | ⟨1, _⟩ => (Nat.zero_add _).symm)
    · exact part_at W ![0, 0] S512x1024.size inb_S1024x1024_S512x1024_0_0 (ix2 k q) (ix2 ⟨k.val, by have := k.isLt; omega⟩ q)
        (fun a => match a with | ⟨0, _⟩ => (Nat.zero_add _).symm | ⟨1, _⟩ => (Nat.zero_add _).symm)
  · refine Finset.sum_congr rfl fun k _ => congrArg₂ (fun y z : EReal => y * z) ?_ ?_
    · refine (second_at P B _ _ r k (fun l => part l k)).trans (congrArg (fun z => _ * headNorm _ _ z k) (funext fun l => ?_))
      exact part_at G ![0, 512] S1x256.size inb_S1x1024_S1x256_0_512 (ix2 0 l) (ix2 0 ⟨512 + l.val, by have := l.isLt; omega⟩)
        (fun a => match a with | ⟨0, _⟩ => rfl | ⟨1, _⟩ => rfl)
    · exact part_at W ![512, 0] S256x1024.size inb_S1024x1024_S256x1024_512_0 (ix2 k q) (ix2 ⟨512 + k.val, by have := k.isLt; omega⟩ q)
        (fun a => match a with | ⟨0, _⟩ => rfl | ⟨1, _⟩ => (Nat.zero_add _).symm)
  · refine Finset.sum_congr rfl fun k _ => congrArg₂ (fun y z : EReal => y * z) ?_ ?_
    · refine (third_at Q C _ _ r k (fun l => part l k)).trans (congrArg (fun z => _ * headNorm _ _ z k) (funext fun l => ?_))
      exact part_at G ![0, 768] S1x256.size inb_S1x1024_S1x256_0_768 (ix2 0 l) (ix2 0 ⟨768 + l.val, by have := l.isLt; omega⟩)
        (fun a => match a with | ⟨0, _⟩ => rfl | ⟨1, _⟩ => rfl)
    · exact part_at W ![768, 0] S256x1024.size inb_S1024x1024_S256x1024_768_0 (ix2 k q) (ix2 ⟨768 + k.val, by have := k.isLt; omega⟩ q)
        (fun a => match a with | ⟨0, _⟩ => rfl | ⟨1, _⟩ => (Nat.zero_add _).symm)

/-- The entry is the result's, when the blocks hold row `R` of their arrays. -/
theorem block_total (X : Vec Ideal S1024x1024 .f32) (A : Vec Ideal S1024x512 .bf16) (B C P Q : Vec Ideal S1024x256 .bf16) (G : Vec Ideal S1x1024 .f32)
    (E : Vec Ideal S512x512 .bf16) (W : Vec Ideal S1024x1024 .bf16)
    (x : S16384x1024.Idx → EReal) (a : S16384x512.Idx → EReal) (b c : S16384x256.Idx → EReal) (s : S16384x2048.Idx → EReal) (g : S1024.Idx → EReal) (w : S1024x1024.Idx → EReal)
    (r q : Fin 1024) (R : Fin 16384) (hX : (X (ix2 r q) : EReal) = x (ix2 R q)) (hA : ∀ l : Fin 512, (A (ix2 r l) : EReal) = a (ix2 R l))
    (hB : ∀ l : Fin 256, (B (ix2 r l) : EReal) = b (ix2 R l)) (hC : ∀ l : Fin 256, (C (ix2 r l) : EReal) = c (ix2 R l))
    (hP : ∀ l : Fin 256, (P (ix2 r l) : EReal) = s (ix2 R ⟨768 + l.val, by have := l.isLt; omega⟩))
    (hQ : ∀ l : Fin 256, (Q (ix2 r l) : EReal) = s (ix2 R ⟨1792 + l.val, by have := l.isLt; omega⟩))
    (hG : ∀ l : Fin 1024, (G (ix2 0 l) : EReal) = g (ix1 l))
    (hE : ∀ l k : Fin 512, (E (ix2 l k) : EReal) = if l.val / 64 = k.val / 64 then 1 else 0)
    (hW : ∀ l : Fin 1024, (W (ix2 l q) : EReal) = w (ix2 l q)) :
    (out0_9 X A B C P Q G E W (ix2 r q) : EReal) = outTotal x a b c s g w R q := by
  rw [block_at X A B C P Q G E W hE r q]
  simp only [hX, hA, hB, hC, hP, hQ, hG, hW]
  rfl

end Cert.Proof.Out
-- ==== Proof.Out.Array.lean ====
module

public import proofs.«01_k».proof.Proof.Out.Block

@[expose] public section

set_option maxRecDepth 16384
set_option maxHeartbeats 4000000

noncomputable section

namespace Cert.Proof.Out

open Cert.Kernel3Ideal Cert.Kernel3Ideal.Gen
open Idealize.ShloMosaic Idealize.ShloMosaic.TcCoe Idealize.ShloMosaic.Tactic
open Idealize.ShloMosaic.Pipeline

variable (m : (ℓ : Loc nD τ sig) → Buf (Elt Ideal) ℓ) (c : Dev nD)

/-! # The whole result array -/

abbrev argX : S16384x1024.Idx → EReal := m ((c : Thread nD τ).loc main_arg0)
abbrev argA : S16384x512.Idx → EReal := m ((c : Thread nD τ).loc main_arg1)
abbrev argB : S16384x256.Idx → EReal := m ((c : Thread nD τ).loc main_arg2)
abbrev argC : S16384x256.Idx → EReal := m ((c : Thread nD τ).loc main_arg3)
abbrev argR : S16384x2048.Idx → EReal := m ((c : Thread nD τ).loc main_arg4)
abbrev argG : S1024.Idx → EReal := m ((c : Thread nD τ).loc main_arg5)
abbrev argW : S1024x1024.Idx → EReal := m ((c : Thread nD τ).loc main_arg6)

/-! ## What the host leaves for the kernel -/

/-- The lanes numbered by head. -/
def heads : S512.Idx → BitVec 32 := Host.divsi (iotaInDim S512 32 0) (broadcastInDim S512 ![] bcast_S_S512 (constantI S_ 32 64#32))

theorem heads_at (k : Fin 512) : heads (ix1 k) = BitVec.ofNat 32 (k.val / 64) := by
  show Host.divsi _ _ (ix1 k) = _
  revert k
  decide +kernel

theorem groups_eq (l k : Fin 512) : (V m c main_v8 : S512x512.Idx → EReal) (ix2 l k) = (if l.val / 64 = k.val / 64 then 1 else 0 : EReal) := by
  have h : V m c main_v8 = uitofp (F := Ideal) .bf16 (cmpi .eq (broadcastInDim S512x512 ![0, 1] bcast_S512x1_S512x512_0_1 (broadcastInDim S512x1 ![0] bcast_S512_S512x1_0 heads))
      (broadcastInDim S512x512 ![0, 1] bcast_S1x512_S512x512_0_1 (broadcastInDim S1x512 ![1] bcast_S512_S1x512_1 heads))) := by
    unfold V
    after_results_simp
    rfl
  rw [h]
  pointwise
  rw [heads_at, heads_at]
  have hl := l.isLt
  have hk := k.isLt
  by_cases e : l.val / 64 = k.val / 64
  · rw [if_pos e, e]
    show (((IntOp.cmpi .eq (BitVec.ofNat 32 (k.val / 64)) (BitVec.ofNat 32 (k.val / 64))).toNat : ℝ) : EReal) = 1
    simp [IntOp.cmpi]
  · rw [if_neg e]
    have n : BitVec.ofNat 32 (l.val / 64) ≠ BitVec.ofNat 32 (k.val / 64) := by
      intro h
      have h' := congrArg BitVec.toNat h
      rw [BitVec.toNat_ofNat, BitVec.toNat_ofNat, Nat.mod_eq_of_lt (by omega), Nat.mod_eq_of_lt (by omega)] at h'
      exact e h'
    show (((IntOp.cmpi .eq (BitVec.ofNat 32 (l.val / 64)) (BitVec.ofNat 32 (k.val / 64))).toNat : ℝ) : EReal) = 0
    simp [IntOp.cmpi, n]

theorem gain_eq (k : Fin 1024) : (V m c main_v9 : S1x1024.Idx → EReal) (ix2 0 k) = argG m c (ix1 k) := by
  have h : V m c main_v9 = broadcastInDim S1x1024 ![1] bcast_S1024_S1x1024_1 (argG m c) := by
    unfold V
    after_results_simp
  rw [h]
  pointwise

theorem weights_eq : (V m c main_v10 : S1024x1024.Idx → EReal) = argW m c := by
  unfold V
  after_results_simp
  rfl

/-! ## The blocks of a step -/

theorem ix_0 : ∀ t : Fin grid0.N, cc0_transform_0 (grid0.coords t) = ![(grid0.coords t 0).val, 0] := by decide +kernel
theorem ix_1 : ∀ t : Fin grid0.N, cc0_transform_1 (grid0.coords t) = ![(grid0.coords t 0).val, 0] := by decide +kernel
theorem ix_2 : ∀ t : Fin grid0.N, cc0_transform_2 (grid0.coords t) = ![(grid0.coords t 0).val, 0] := by decide +kernel
theorem ix_3 : ∀ t : Fin grid0.N, cc0_transform_3 (grid0.coords t) = ![(grid0.coords t 0).val, 0] := by decide +kernel
theorem ix_4 : ∀ t : Fin grid0.N, cc0_transform_4 (grid0.coords t) = ![(grid0.coords t 0).val, 3] := by decide +kernel
theorem ix_5 : ∀ t : Fin grid0.N, cc0_transform_5 (grid0.coords t) = ![(grid0.coords t 0).val, 7] := by decide +kernel
theorem ix_9 : ∀ t : Fin grid0.N, cc0_transform_9 (grid0.coords t) = ![(grid0.coords t 0).val, 0] := by decide +kernel

/-- The step's number. -/
abbrev step (t : Fin cfg0.N) : ℕ := (grid0.coords t 0).val

theorem step_lt (t : Fin cfg0.N) : step t < 16 := (grid0.coords t 0).isLt

theorem iblk0_at (t : Fin cfg0.N) (r : Fin 1024) (k : Fin 1024) (R : Fin 16384) (hR : R.val = step t * 1024 + r.val) :
    (iblk m c 0 t : S1024x1024.Idx → EReal) (ix2 r k) = argX m c (ix2 R k) := by
  refine Eq.trans ?_ (congrFun (V_main_arg0 m c) _)
  blk_simp [iblk]
  congr 1
  have e := ix_0 t
  funext a
  match a with
  | ⟨0, _⟩ =>
    refine Fin.ext (Eq.trans (b := cc0_transform_0 (grid0.coords t) 0 * 1024 + 1 * r.val) rfl ?_)
    rw [e]; show _ = R.val; rw [hR]; simp
  | ⟨1, _⟩ =>
    refine Fin.ext (Eq.trans (b := cc0_transform_0 (grid0.coords t) 1 * 1024 + 1 * k.val) rfl ?_)
    rw [e]; show _ = k.val; simp

theorem iblk1_at (t : Fin cfg0.N) (r : Fin 1024) (k : Fin 512) (R : Fin 16384) (hR : R.val = step t * 1024 + r.val) :
    (iblk m c 1 t : S1024x512.Idx → EReal) (ix2 r k) = argA m c (ix2 R k) := by
  refine Eq.trans ?_ (congrFun (V_main_arg1 m c) _)
  blk_simp [iblk]
  congr 1
  have e := ix_1 t
  funext a
  match a with
  | ⟨0, _⟩ =>
    refine Fin.ext (Eq.trans (b := cc0_transform_1 (grid0.coords t) 0 * 1024 + 1 * r.val) rfl ?_)
    rw [e]; show _ = R.val; rw [hR]; simp
  | ⟨1, _⟩ =>
    refine Fin.ext (Eq.trans (b := cc0_transform_1 (grid0.coords t) 1 * 512 + 1 * k.val) rfl ?_)
    rw [e]; show _ = k.val; simp

theorem iblk2_at (t : Fin cfg0.N) (r : Fin 1024) (k : Fin 256) (R : Fin 16384) (hR : R.val = step t * 1024 + r.val) :
    (iblk m c 2 t : S1024x256.Idx → EReal) (ix2 r k) = argB m c (ix2 R k) := by
  refine Eq.trans ?_ (congrFun (V_main_arg2 m c) _)
  blk_simp [iblk]
  congr 1
  have e := ix_2 t
  funext a
  match a with
  | ⟨0, _⟩ =>
    refine Fin.ext (Eq.trans (b := cc0_transform_2 (grid0.coords t) 0 * 1024 + 1 * r.val) rfl ?_)
    rw [e]; show _ = R.val; rw [hR]; simp
  | ⟨1, _⟩ =>
    refine Fin.ext (Eq.trans (b := cc0_transform_2 (grid0.coords t) 1 * 256 + 1 * k.val) rfl ?_)
    rw [e]; show _ = k.val; simp

theorem iblk3_at (t : Fin cfg0.N) (r : Fin 1024) (k : Fin 256) (R : Fin 16384) (hR : R.val = step t * 1024 + r.val) :
    (iblk m c 3 t : S1024x256.Idx → EReal) (ix2 r k) = argC m c (ix2 R k) := by
  refine Eq.trans ?_ (congrFun (V_main_arg3 m c) _)
  blk_simp [iblk]
  congr 1
  have e := ix_3 t
  funext a
  match a with
  | ⟨0, _⟩ =>
    refine Fin.ext (Eq.trans (b := cc0_transform_3 (grid0.coords t) 0 * 1024 + 1 * r.val) rfl ?_)
    rw [e]; show _ = R.val; rw [hR]; simp
  | ⟨1, _⟩ =>
    refine Fin.ext (Eq.trans (b := cc0_transform_3 (grid0.coords t) 1 * 256 + 1 * k.val) rfl ?_)
    rw [e]; show _ = k.val; simp

theorem iblk4_at (t : Fin cfg0.N) (r : Fin 1024) (k : Fin 256) (R : Fin 16384) (hR : R.val = step t * 1024 + r.val) :
    (iblk m c 4 t : S1024x256.Idx → EReal) (ix2 r k) = argR m c (ix2 R ⟨768 + k.val, by have := k.isLt; omega⟩) := by
  refine Eq.trans ?_ (congrFun (V_main_arg4 m c) _)
  blk_simp [iblk]
  congr 1
  have e := ix_4 t
  funext a
  match a with
  | ⟨0, _⟩ =>
    refine Fin.ext (Eq.trans (b := cc0_transform_4 (grid0.coords t) 0 * 1024 + 1 * r.val) rfl ?_)
    rw [e]; show _ = R.val; rw [hR]; simp
  | ⟨1, _⟩ =>
    refine Fin.ext (Eq.trans (b := cc0_transform_4 (grid0.coords t) 1 * 256 + 1 * k.val) rfl ?_)
    rw [e]; show _ = 768 + k.val; simp

theorem iblk5_at (t : Fin cfg0.N) (r : Fin 1024) (k : Fin 256) (R : Fin 16384) (hR : R.val = step t * 1024 + r.val) :
    (iblk m c 5 t : S1024x256.Idx → EReal) (ix2 r k) = argR m c (ix2 R ⟨1792 + k.val, by have := k.isLt; omega⟩) := by
  refine Eq.trans ?_ (congrFun (V_main_arg4 m c) _)
  blk_simp [iblk]
  congr 1
  have e := ix_5 t
  funext a
  match a with
  | ⟨0, _⟩ =>
    refine Fin.ext (Eq.trans (b := cc0_transform_5 (grid0.coords t) 0 * 1024 + 1 * r.val) rfl ?_)
    rw [e]; show _ = R.val; rw [hR]; simp
  | ⟨1, _⟩ =>
    refine Fin.ext (Eq.trans (b := cc0_transform_5 (grid0.coords t) 1 * 256 + 1 * k.val) rfl ?_)
    rw [e]; show _ = 1792 + k.val; simp

theorem iblk6_eq (t : Fin cfg0.N) : (iblk m c 6 t : S1x1024.Idx → EReal) = V m c main_v9 := by
  funext y
  blk_simp [iblk]
  congr 1
  funext a
  match a with
  | ⟨0, _⟩ => exact Fin.ext (Eq.trans (b := 0 * 1 + 1 * (y 0).val) rfl (by simp))
  | ⟨1, _⟩ => exact Fin.ext (Eq.trans (b := 0 * 1024 + 1 * (y 1).val) rfl (by simp))

theorem iblk7_eq (t : Fin cfg0.N) : (iblk m c 7 t : S512x512.Idx → EReal) = V m c main_v8 := by
  funext y
  blk_simp [iblk]
  congr 1
  funext a
  match a with
  | ⟨0, _⟩ => exact Fin.ext (Eq.trans (b := 0 * 512 + 1 * (y 0).val) rfl (by simp))
  | ⟨1, _⟩ => exact Fin.ext (Eq.trans (b := 0 * 512 + 1 * (y 1).val) rfl (by simp))

theorem iblk8_eq (t : Fin cfg0.N) : (iblk m c 8 t : S1024x1024.Idx → EReal) = V m c main_v10 := by
  funext y
  blk_simp [iblk]
  congr 1
  funext a
  match a with
  | ⟨0, _⟩ => exact Fin.ext (Eq.trans (b := 0 * 1024 + 1 * (y 0).val) rfl (by simp))
  | ⟨1, _⟩ => exact Fin.ext (Eq.trans (b := 0 * 1024 + 1 * (y 1).val) rfl (by simp))

/-! ## A step's block of the result -/

/-- The result's array. -/
def totalArr : S16384x1024.Idx → EReal := fun i =>
  outTotal (argX m c) (argA m c) (argB m c) (argC m c) (argR m c) (argG m c) (argW m c) ⟨(i 0).val, (i 0).isLt⟩ ⟨(i 1).val, (i 1).isLt⟩

theorem outs_at (t : Fin cfg0.N) (r q : Fin 1024) (R : Fin 16384) (hR : R.val = step t * 1024 + r.val) :
    (out0_9 (iblk m c 0 t) (iblk m c 1 t) (iblk m c 2 t) (iblk m c 3 t) (iblk m c 4 t) (iblk m c 5 t) (iblk m c 6 t) (iblk m c 7 t) (iblk m c 8 t) : S1024x1024.Idx → EReal) (ix2 r q)
      = outTotal (argX m c) (argA m c) (argB m c) (argC m c) (argR m c) (argG m c) (argW m c) R q := by
  exact block_total (iblk m c 0 t) (iblk m c 1 t) (iblk m c 2 t) (iblk m c 3 t) (iblk m c 4 t) (iblk m c 5 t) (iblk m c 6 t) (iblk m c 7 t) (iblk m c 8 t)
    (argX m c) (argA m c) (argB m c) (argC m c) (argR m c) (argG m c) (argW m c) r q R
    (iblk0_at m c t r q R hR) (fun l => iblk1_at m c t r l R hR) (fun l => iblk2_at m c t r l R hR) (fun l => iblk3_at m c t r l R hR)
    (fun l => iblk4_at m c t r l R hR) (fun l => iblk5_at m c t r l R hR)
    (fun l => (congrFun (iblk6_eq m c t) _).trans (gain_eq m c l))
    (fun l k => (congrFun (iblk7_eq m c t) _).trans (groups_eq m c l k))
    (fun l => congrFun ((iblk8_eq m c t).trans (weights_eq m c)) _)

theorem emb0 (t : Fin cfg0.N) (y : S1024x1024.Idx) : (((cfg0.win 9).blk t).view.emb y 0).val = step t * 1024 + (y 0).val := by
  refine Eq.trans (b := cc0_transform_9 (grid0.coords t) 0 * 1024 + 1 * (y 0).val) rfl ?_
  rw [ix_9 t]; simp

theorem emb1 (t : Fin cfg0.N) (y : S1024x1024.Idx) : (((cfg0.win 9).blk t).view.emb y 1).val = (y 1).val := by
  refine Eq.trans (b := cc0_transform_9 (grid0.coords t) 1 * 1024 + 1 * (y 1).val) rfl ?_
  rw [ix_9 t]; simp

theorem outs_res (t : Fin cfg0.N) (y : S1024x1024.Idx) (i : S16384x1024.Idx) (h0 : (i 0).val = step t * 1024 + (y 0).val) (h1 : (i 1).val = (y 1).val) :
    (out0_9 (iblk m c 0 t) (iblk m c 1 t) (iblk m c 2 t) (iblk m c 3 t) (iblk m c 4 t) (iblk m c 5 t) (iblk m c 6 t) (iblk m c 7 t) (iblk m c 8 t) : S1024x1024.Idx → EReal) y
      = totalArr m c i := by
  obtain ⟨r, q, rfl⟩ : ∃ (r q : Fin 1024), y = (ix2 r q : S1024x1024.Idx) := ⟨y 0, y 1, eq_ix2 _⟩
  refine (outs_at m c t r q ⟨(i 0).val, (i 0).isLt⟩ h0).trans ?_
  have e : q = ⟨(i 1).val, (i 1).isLt⟩ := Fin.ext h1.symm
  exact congrArg (outTotal (argX m c) (argA m c) (argB m c) (argC m c) (argR m c) (argG m c) (argW m c) ⟨(i 0).val, (i 0).isLt⟩) e

theorem covers : (cfg0.win 9).Covers := by decide +kernel

theorem final : (dats m 0 c).arrAt 9 cfg0.N = totalArr m c := by
  refine (dats m 0 c).arrAt_eq_of_covers 9 (totalArr m c) covers fun t _ y => ?_
  have key := outs_res m c t
  rw [after0_9]
  generalize out0_9 (iblk m c 0 t) (iblk m c 1 t) (iblk m c 2 t) (iblk m c 3 t) (iblk m c 4 t) (iblk m c 5 t) (iblk m c 6 t) (iblk m c 7 t) (iblk m c 8 t) = block at key ⊢
  exact key y _ (emb0 t y) (emb1 t y)

end Cert.Proof.Out
-- ==== Proof.Out.Reference.lean ====
module

public import proofs.«01_k».proof.Proof.Gen.Reference3Ideal.Run
public import proofs.«01_k».proof.Proof.Out.Words

@[expose] public section

set_option maxRecDepth 16384
set_option maxHeartbeats 4000000

noncomputable section

namespace Cert.Proof.Out

open Cert.Reference3Ideal Cert.Reference3Ideal.Gen
open Idealize.ShloMosaic Idealize.ShloMosaic.TcCoe

/-! # The output projection's reference, entry by entry -/

section Pieces

variable (x : FVec Ideal S16384x1024 .f32) (a : FVec Ideal S16384x512 .bf16) (b c : FVec Ideal S16384x256 .bf16) (rest : FVec Ideal S16384x2048 .bf16)
  (g : FVec Ideal S1024 .f32) (w : FVec Ideal S1024x1024 .f32)

/-- Eight heads of 64 lanes, each normalised. -/
def rHeads8 (o : FVec Ideal S16384x512 .bf16) (g : FVec Ideal S512 .f32) : FVec Ideal S16384x512 .f32 :=
  shapeCast _ (mulf (mulf (shapeCast _ (extf .f32 o bitsLt_bf16_f32) shapeCasts_S16384x512_S16384x8x64)
    (broadcastInDim S16384x8x64 ![0, 1, 2] bcast_S16384x8x1_S16384x8x64_0_1_2 (Host.rsqrt (addf (Host.divf
      (broadcastInDim S16384x8x1 ![0, 1] bcast_S16384x8_S16384x8x1_0_1 (Host.reduceAdd
        (mulf (shapeCast _ (extf .f32 o bitsLt_bf16_f32) shapeCasts_S16384x512_S16384x8x64) (shapeCast _ (extf .f32 o bitsLt_bf16_f32) shapeCasts_S16384x512_S16384x8x64))
        (constant S_ .f32 0x00000000#32) reducesTo_S16384x8x64_S16384x8_d2 h_S_))
      (broadcastInDim S16384x8x1 ![] bcast_S_S16384x8x1 (constant S_ .f32 0x42800000#32)))
      (broadcastInDim S16384x8x1 ![] bcast_S_S16384x8x1 (constant S_ .f32 0x358637BD#32))))))
    (broadcastInDim S16384x8x64 ![0, 1, 2] bcast_S1x8x64_S16384x8x64_0_1_2 (broadcastInDim S1x8x64 ![1, 2] bcast_S8x64_S1x8x64_1_2
      (shapeCast _ g shapeCasts_S512_S8x64)))) shapeCasts_S16384x8x64_S16384x512

/-- Four heads of 64 lanes, each normalised. -/
def rHeads4 (o : FVec Ideal S16384x256 .bf16) (g : FVec Ideal S256 .f32) : FVec Ideal S16384x256 .f32 :=
  shapeCast _ (mulf (mulf (shapeCast _ (extf .f32 o bitsLt_bf16_f32) shapeCasts_S16384x256_S16384x4x64)
    (broadcastInDim S16384x4x64 ![0, 1, 2] bcast_S16384x4x1_S16384x4x64_0_1_2 (Host.rsqrt (addf (Host.divf
      (broadcastInDim S16384x4x1 ![0, 1] bcast_S16384x4_S16384x4x1_0_1 (Host.reduceAdd
        (mulf (shapeCast _ (extf .f32 o bitsLt_bf16_f32) shapeCasts_S16384x256_S16384x4x64) (shapeCast _ (extf .f32 o bitsLt_bf16_f32) shapeCasts_S16384x256_S16384x4x64))
        (constant S_ .f32 0x00000000#32) reducesTo_S16384x4x64_S16384x4_d2 h_S_))
      (broadcastInDim S16384x4x1 ![] bcast_S_S16384x4x1 (constant S_ .f32 0x42800000#32)))
      (broadcastInDim S16384x4x1 ![] bcast_S_S16384x4x1 (constant S_ .f32 0x358637BD#32))))))
    (broadcastInDim S16384x4x64 ![0, 1, 2] bcast_S1x4x64_S16384x4x64_0_1_2 (broadcastInDim S1x4x64 ![1, 2] bcast_S4x64_S1x4x64_1_2
      (shapeCast _ g shapeCasts_S256_S4x64)))) shapeCasts_S16384x4x64_S16384x256

/-- The logistic. -/
def rGate (z : FVec Ideal S16384x256 .f32) : FVec Ideal S16384x256 .f32 :=
  Host.divf (broadcastInDim S16384x256 ![] bcast_S_S16384x256 (constant S_ .f32 0x3F800000#32))
    (addf (broadcastInDim S16384x256 ![] bcast_S_S16384x256 (constant S_ .f32 0x3F800000#32)) (Host.exp (Host.negf z)))

/-- The three mixers' shares side by side. -/
def rJoin : FVec Ideal S16384x1024 .f32 :=
  concatenate S16384x1024 1 [⟨S16384x512, (rHeads8 a (extractStridedSlice S512 ![0] g slices_S1024_S512_0) : (⟨S16384x512, .f32⟩ : BufTy).Contents (Elt Ideal))⟩,
    ⟨S16384x256, (mulf (rGate (extf .f32 (extractStridedSlice S16384x256 ![0, 768] rest slices_S16384x2048_S16384x256_0_768) bitsLt_bf16_f32))
      (rHeads4 b (extractStridedSlice S256 ![512] g slices_S1024_S256_512)) : (⟨S16384x256, .f32⟩ : BufTy).Contents (Elt Ideal))⟩,
    ⟨S16384x256, (mulf (mulf (extf .f32 (extractStridedSlice S16384x256 ![0, 1792] rest slices_S16384x2048_S16384x256_0_1792) bitsLt_bf16_f32)
        (rGate (extf .f32 (extractStridedSlice S16384x256 ![0, 1792] rest slices_S16384x2048_S16384x256_0_1792) bitsLt_bf16_f32)))
      (rHeads4 c (extractStridedSlice S256 ![768] g slices_S1024_S256_768)) : (⟨S16384x256, .f32⟩ : BufTy).Contents (Elt Ideal))⟩]
    concatenates_S16384x512_S16384x256_S16384x256_S16384x1024_d1

/-- The result. -/
def rOut : FVec Ideal S16384x1024 .f32 :=
  addf x (Host.dotGeneral dot_S16384x1024_S1024x1024_S16384x1024_1_0_0_1_n_n none (rJoin a b c rest g) w)

theorem rHeads8_at (o : FVec Ideal S16384x512 .bf16) (g : FVec Ideal S512 .f32) (r : Fin 16384) (k : Fin 512) :
    rHeads8 o g (ix2 r k) = headNorm (w := 512) (by decide) (fun l => o (ix2 r l)) (fun l => g (ix1 l)) k := by
  pointwise [rHeads8, headNorm, headSq]

theorem rHeads4_at (o : FVec Ideal S16384x256 .bf16) (g : FVec Ideal S256 .f32) (r : Fin 16384) (k : Fin 256) :
    rHeads4 o g (ix2 r k) = headNorm (w := 256) (by decide) (fun l => o (ix2 r l)) (fun l => g (ix1 l)) k := by
  pointwise [rHeads4, headNorm, headSq]

theorem rGate_at (z : FVec Ideal S16384x256 .f32) (r : Fin 16384) (k : Fin 256) : rGate z (ix2 r k) = gate (z (ix2 r k)) := by
  pointwise [rGate]
  rw [gate, zero_sub]

theorem rJoin_first (r : Fin 16384) (k : Fin 512) :
    rJoin a b c rest g (ix2 r ⟨k.val, by have := k.isLt; omega⟩) = laneA a g r k := by
  pointwise [rJoin]
  rw [rHeads8_at]
  unfold laneA
  refine congrArg (fun z => headNorm _ _ z k) (funext fun l => ?_)
  pointwise

theorem rJoin_second (r : Fin 16384) (k : Fin 256) :
    rJoin a b c rest g (ix2 r ⟨512 + k.val, by have := k.isLt; omega⟩) = laneB b rest g r k := by
  have hk := k.isLt
  pointwise [rJoin]
  rw [rHeads4_at, rGate_at]
  unfold laneB
  refine congrArg₂ (fun y z : EReal => y * z) ?_ (congrArg (fun z => headNorm _ _ z k) (funext fun l => ?_))
  · pointwise
  · pointwise

theorem rJoin_third (r : Fin 16384) (k : Fin 256) :
    rJoin a b c rest g (ix2 r ⟨768 + k.val, by have := k.isLt; omega⟩) = laneC c rest g r k := by
  have hk := k.isLt
  have e : (⟨768 + k.val, by omega⟩ : Fin 1024) = ⟨512 + (256 + k.val), by omega⟩ := Fin.ext (by show 768 + k.val = 512 + (256 + k.val); omega)
  rw [e]
  pointwise [rJoin]
  rw [rHeads4_at, rGate_at]
  unfold laneC
  refine congrArg₂ (fun y z : EReal => y * z) ?_ (congrArg (fun z => headNorm _ _ z k) (funext fun l => ?_))
  · pointwise
  · pointwise

theorem rOut_at (r : Fin 16384) (q : Fin 1024) :
    rOut x a b c rest g w (ix2 r q) = outTotal x a b c rest g w r q := by
  pointwise [rOut]
  refine (congrArg (fun z : EReal => x (ix2 r q) + z) (sum_split _)).trans ?_
  simp only [rJoin_first, rJoin_second, rJoin_third]
  rfl

end Pieces

theorem res_eq (m : (ℓ : Loc nD τ sig) → Buf (Elt Ideal) ℓ) (c : Dev nD) :
    Cert.Reference3Ideal.Value.res_main_v69 m c
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  delta Cert.Reference3Ideal.Value.res_main_v69 rOut rJoin rGate rHeads8 rHeads4
  rfl

/-- The reference's result, entry by entry. -/
theorem reference_at (m : (ℓ : Loc nD τ sig) → Buf (Elt Ideal) ℓ) (c : Dev nD) (r : Fin 16384) (q : Fin 1024) :
    Cert.Reference3Ideal.Value.res_main_v69 m c (ix2 r q)
      = outTotal (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) r q := by
  rw [res_eq]
  exact rOut_at _ _ _ _ _ _ _ r q

end Cert.Proof.Out
-- ==== Proof.Out.Equation.lean ====
module

public import proofs.«01_k».proof.Proof.Out.Array
public import proofs.«01_k».proof.Proof.Out.Reference

@[expose] public section

noncomputable section

namespace Cert.Proof.Out

open Idealize.ShloMosaic Idealize.ShloMosaic.TcCoe

/-! # The kernel's array is the reference's -/

/-- From the same arguments the reference's result is the kernel's array. -/
theorem reference_result (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (e0 : m' ((c.tc : Thread Cert.Reference3Ideal.nD Cert.Reference3Ideal.τ).loc Cert.Reference3Ideal.main_arg0) = argX m c)
    (e1 : m' ((c.tc : Thread Cert.Reference3Ideal.nD Cert.Reference3Ideal.τ).loc Cert.Reference3Ideal.main_arg1) = argA m c)
    (e2 : m' ((c.tc : Thread Cert.Reference3Ideal.nD Cert.Reference3Ideal.τ).loc Cert.Reference3Ideal.main_arg2) = argB m c)
    (e3 : m' ((c.tc : Thread Cert.Reference3Ideal.nD Cert.Reference3Ideal.τ).loc Cert.Reference3Ideal.main_arg3) = argC m c)
    (e4 : m' ((c.tc : Thread Cert.Reference3Ideal.nD Cert.Reference3Ideal.τ).loc Cert.Reference3Ideal.main_arg4) = argR m c)
    (e5 : m' ((c.tc : Thread Cert.Reference3Ideal.nD Cert.Reference3Ideal.τ).loc Cert.Reference3Ideal.main_arg5) = argG m c)
    (e6 : m' ((c.tc : Thread Cert.Reference3Ideal.nD Cert.Reference3Ideal.τ).loc Cert.Reference3Ideal.main_arg6) = argW m c) :
    Cert.Reference3Ideal.Value.res_main_v69 m' c = totalArr m c := by
  funext i
  obtain ⟨r, q, rfl⟩ : ∃ (r : Fin 16384) (q : Fin 1024), i = (ix2 r q : Cert.Reference3Ideal.S16384x1024.Idx) := ⟨i 0, i 1, eq_ix2 _⟩
  rw [reference_at, e0, e1, e2, e3, e4, e5, e6]
  rfl

end Cert.Proof.Out
-- ==== Proof.Proj.Words.lean ====
module

public import Idealize.ShloMosaic.Lib.Pointwise

@[expose] public section

noncomputable section

namespace Cert.Proof.Proj

open Idealize.ShloMosaic

/-! # The input projection, element by element

Both programs are shown to compute `restTotal`, the columns of the input projection that the two recurrent mixers and the output gates
read, `gateTotal`, the columns of the gates' logits, and `valueTotal`, the values of the eight heads with a one after each. Nothing here asks the numbers to be finite. -/

section Total

variable (X : (⟨2, ![16384, 1024]⟩ : Shape).Idx → EReal) (G : (⟨1, ![1024]⟩ : Shape).Idx → EReal)
  (W : (⟨2, ![1024, 3600]⟩ : Shape).Idx → EReal) (B : (⟨1, ![3600]⟩ : Shape).Idx → EReal)

/-- Lane `k` of a row `x` after the root-mean-square norm with gain `g`. -/
def normed (x g : Fin 1024 → EReal) (k : Fin 1024) : EReal :=
  x k * Ideal.rsqrt (Ideal.div (∑ l : Fin 1024, x l * x l) (Scalar.ofBits (F := Ideal) .f32 0x44800000#32) + Scalar.ofBits (F := Ideal) .f32 0x358637BD#32) * g k

/-- The projection of a normalised row on one column, with its bias. -/
def column (x g w : Fin 1024 → EReal) (b : EReal) : EReal := (∑ k : Fin 1024, normed x g k * w k) + b

/-- Column `j` of the projection of row `r`. -/
def projected (r : Fin 16384) (j : Fin 3600) : EReal :=
  column (fun k => X (ix2 r k)) (fun k => G (ix1 k)) (fun k => W (ix2 k j)) (B (ix1 j))

/-- The first 768 of these columns begin at 1544, the other 1280 at 2320. -/
def restTotal (r : Fin 16384) (q : Fin 2048) : EReal :=
  if h : q.val < 768 then projected X G W B r ⟨1544 + q.val, by omega⟩ else projected X G W B r ⟨2320 + (q.val - 768), by have := q.isLt; omega⟩

/-- Eight columns from 1536, eight from 2312, and zeros. -/
def gateTotal (r : Fin 16384) (q : Fin 128) : EReal :=
  if h : q.val < 8 then projected X G W B r ⟨1536 + q.val, by omega⟩
  else if h' : q.val < 16 then projected X G W B r ⟨2312 + (q.val - 8), by omega⟩ else 0

/-- Eight heads of 64 numbers in lanes of 128: after each head a one, and then zeros. -/
def spread (f : Fin 512 → EReal) (q : Fin 1024) : EReal :=
  if h : q.val % 128 < 64 then f ⟨64 * (q.val / 128) + q.val % 128, by have := q.isLt; omega⟩ else if q.val % 128 = 64 then 1 else 0

/-- The values are the 512 columns from 1024. -/
def valueTotal (r : Fin 16384) (q : Fin 1024) : EReal :=
  spread (fun j => projected X G W B r ⟨1024 + j.val, by have := j.isLt; omega⟩) q

end Total

/-- A column of zeros with a zero bias projects to zero. -/
theorem column_zero (x g : Fin 1024 → EReal) : column x g (fun _ => 0) 0 = 0 := by
  simp [column]

end Cert.Proof.Proj
-- ==== Proof.Proj.Block.lean ====
module

public import proofs.«01_k».proof.Proof.Gen.Kernel4Ideal.Value
public import Idealize.ShloMosaic.Lib.Pipeline.ValueKit
public import proofs.«01_k».proof.Proof.Proj.Words
public import proofs.«01_k».proof.Proof.Ffn.Chunk

@[expose] public section

set_option maxRecDepth 16384
set_option maxHeartbeats 4000000

noncomputable section

namespace Cert.Proof.Proj

open Cert.Kernel4Ideal Cert.Kernel4Ideal.Gen
open Idealize.ShloMosaic Idealize.ShloMosaic.TcCoe Idealize.ShloMosaic.Tactic
open Idealize.ShloMosaic.Pipeline

/-! # The blocks of one step -/

theorem rows_at (x : Vec Ideal S512x1024 .f32) (g : Vec Ideal S1x1024 .f32) (r : Fin 512) (k : Fin 1024) :
    k0_pay3 x g (ix2 r k) = normed (fun l => x (ix2 r l)) (fun l => g (ix2 0 l)) k := by
  pointwise [k0_pay3, normed]

theorem gates_at (x : Vec Ideal S512x1024 .f32) (g : Vec Ideal S1x1024 .f32) (w : Vec Ideal S1024x128 .bf16) (b : Vec Ideal S1x128 .f32) (r : Fin 512) (q : Fin 128) :
    k0_pay4 x g w b (ix2 r q) = (∑ k : Fin 1024, k0_pay3 x g (ix2 r k) * (w (ix2 k q) : EReal)) + b (ix2 0 q) := by
  pointwise [k0_pay4]

theorem first_at (h : FVec Ideal S512x1024 .bf16) (w : Vec Ideal S1024x512 .bf16) (b : Vec Ideal S1x512 .f32) (r q : Fin 512) :
    k0_pay21 h w b (ix2 r q) = (∑ k : Fin 1024, (h (ix2 r k) : EReal) * w (ix2 k q)) + b (ix2 0 q) := by
  pointwise [k0_pay21]

theorem second_eq : k0_pay22 (F := Ideal) = k0_pay21 := rfl
theorem third_eq : k0_pay23 (F := Ideal) = k0_pay21 := rfl
theorem fourth_eq : k0_pay24 (F := Ideal) = k0_pay21 := rfl

/-! ## The four parts a row of the rest is stored in -/

/-- The four stores fill the block: an entry is the product of its row with its column. -/
theorem parts_at (h : FVec Ideal S512x1024 .bf16) (w0 w1 w2 w3 : Vec Ideal S1024x512 .bf16) (b0 b1 b2 b3 : Vec Ideal S1x512 .f32)
    (W : Vec Ideal S1024x3712 .bf16) (B : Vec Ideal S1x3712 .f32)
    (hw0 : ∀ (k : Fin 1024) (q : Fin 512), (w0 (ix2 k q) : EReal) = W (ix2 k ⟨1536 + q.val, by have := q.isLt; omega⟩))
    (hb0 : ∀ q : Fin 512, (b0 (ix2 0 q) : EReal) = B (ix2 0 ⟨1536 + q.val, by have := q.isLt; omega⟩))
    (hw1 : ∀ (k : Fin 1024) (q : Fin 512), (w1 (ix2 k q) : EReal) = W (ix2 k ⟨2048 + q.val, by have := q.isLt; omega⟩))
    (hb1 : ∀ q : Fin 512, (b1 (ix2 0 q) : EReal) = B (ix2 0 ⟨2048 + q.val, by have := q.isLt; omega⟩))
    (hw2 : ∀ (k : Fin 1024) (q : Fin 512), (w2 (ix2 k q) : EReal) = W (ix2 k ⟨2560 + q.val, by have := q.isLt; omega⟩))
    (hb2 : ∀ q : Fin 512, (b2 (ix2 0 q) : EReal) = B (ix2 0 ⟨2560 + q.val, by have := q.isLt; omega⟩))
    (hw3 : ∀ (k : Fin 1024) (q : Fin 512), (w3 (ix2 k q) : EReal) = W (ix2 k ⟨3072 + q.val, by have := q.isLt; omega⟩))
    (hb3 : ∀ q : Fin 512, (b3 (ix2 0 q) : EReal) = B (ix2 0 ⟨3072 + q.val, by have := q.isLt; omega⟩))
    (r : Fin 512) (q : Fin 2048) :
    View.canon (Val := Elt Ideal) (s := S512x2048) (e := .bf16)
      [⟨Rect.unit (s := S512x2048) ![0, 1536] S512x512.size inb_S512x2048_S512x512_0_1536, k0_pay24 h w3 b3⟩,
        ⟨Rect.unit (s := S512x2048) ![0, 1024] S512x512.size inb_S512x2048_S512x512_0_1024, k0_pay23 h w2 b2⟩,
        ⟨Rect.unit (s := S512x2048) ![0, 512] S512x512.size inb_S512x2048_S512x512_0_512, k0_pay22 h w1 b1⟩,
        ⟨Rect.unit (s := S512x2048) ![0, 0] S512x512.size inb_S512x2048_S512x512_0_0, k0_pay21 h w0 b0⟩] (ix2 r q)
      = (∑ k : Fin 1024, (h (ix2 r k) : EReal) * W (ix2 k ⟨1536 + q.val, by have := q.isLt; omega⟩)) + B (ix2 0 ⟨1536 + q.val, by have := q.isLt; omega⟩) := by
  have hq := q.isLt
  have part (w : Vec Ideal S1024x512 .bf16) (b : Vec Ideal S1x512 .f32) (l : Fin 512) (j : Fin 3712) (hw : ∀ k : Fin 1024, (w (ix2 k l) : EReal) = W (ix2 k j)) (hb : (b (ix2 0 l) : EReal) = B (ix2 0 j)) :
      k0_pay21 h w b (ix2 r l) = (∑ k : Fin 1024, (h (ix2 r k) : EReal) * W (ix2 k j)) + B (ix2 0 j) := by
    rw [first_at, hb]
    exact congrArg (fun z : EReal => z + B (ix2 0 j)) (Finset.sum_congr rfl fun k _ => by rw [hw k])
  rw [second_eq, third_eq, fourth_eq]
  by_cases c3 : 1536 ≤ q.val
  · obtain ⟨l, hl⟩ : ∃ l : Fin 512, q.val = 1536 + l.val := ⟨⟨q.val - 1536, by omega⟩, by show q.val = 1536 + (q.val - 1536); omega⟩
    refine (Cert.Proof.Ffn.canon_hit (s := S512x2048) (e := .bf16) ![0, 1536] S512x512.size inb_S512x2048_S512x512_0_1536 _ _ (ix2 r q) (ix2 r l)
      (fun a => match a with | ⟨0, _⟩ => (Nat.zero_add _).symm | ⟨1, _⟩ => hl)).trans ?_
    have e : (⟨3072 + l.val, by have := l.isLt; omega⟩ : Fin 3712) = ⟨1536 + q.val, by omega⟩ := Fin.ext (by show 3072 + l.val = 1536 + q.val; omega)
    exact part _ _ l _ (fun k => (hw3 k l).trans (by rw [e])) ((hb3 l).trans (by rw [e]))
  refine (Cert.Proof.Ffn.canon_miss (s := S512x2048) (e := .bf16) ![0, 1536] S512x512.size inb_S512x2048_S512x512_0_1536 _ _ (ix2 r q) 1 (Or.inl (by show q.val < 1536; omega))).trans ?_
  by_cases c2 : 1024 ≤ q.val
  · obtain ⟨l, hl⟩ : ∃ l : Fin 512, q.val = 1024 + l.val := ⟨⟨q.val - 1024, by omega⟩, by show q.val = 1024 + (q.val - 1024); omega⟩
    refine (Cert.Proof.Ffn.canon_hit (s := S512x2048) (e := .bf16) ![0, 1024] S512x512.size inb_S512x2048_S512x512_0_1024 _ _ (ix2 r q) (ix2 r l)
      (fun a => match a with | ⟨0, _⟩ => (Nat.zero_add _).symm | ⟨1, _⟩ => hl)).trans ?_
    have e : (⟨2560 + l.val, by have := l.isLt; omega⟩ : Fin 3712) = ⟨1536 + q.val, by omega⟩ := Fin.ext (by show 2560 + l.val = 1536 + q.val; omega)
    exact part _ _ l _ (fun k => (hw2 k l).trans (by rw [e])) ((hb2 l).trans (by rw [e]))
  refine (Cert.Proof.Ffn.canon_miss (s := S512x2048) (e := .bf16) ![0, 1024] S512x512.size inb_S512x2048_S512x512_0_1024 _ _ (ix2 r q) 1 (Or.inl (by show q.val < 1024; omega))).trans ?_
  by_cases c1 : 512 ≤ q.val
  · obtain ⟨l, hl⟩ : ∃ l : Fin 512, q.val = 512 + l.val := ⟨⟨q.val - 512, by omega⟩, by show q.val = 512 + (q.val - 512); omega⟩
    refine (Cert.Proof.Ffn.canon_hit (s := S512x2048) (e := .bf16) ![0, 512] S512x512.size inb_S512x2048_S512x512_0_512 _ _ (ix2 r q) (ix2 r l)
      (fun a => match a with | ⟨0, _⟩ => (Nat.zero_add _).symm | ⟨1, _⟩ => hl)).trans ?_
    have e : (⟨2048 + l.val, by have := l.isLt; omega⟩ : Fin 3712) = ⟨1536 + q.val, by omega⟩ := Fin.ext (by show 2048 + l.val = 1536 + q.val; omega)
    exact part _ _ l _ (fun k => (hw1 k l).trans (by rw [e])) ((hb1 l).trans (by rw [e]))
  refine (Cert.Proof.Ffn.canon_miss (s := S512x2048) (e := .bf16) ![0, 512] S512x512.size inb_S512x2048_S512x512_0_512 _ _ (ix2 r q) 1 (Or.inl (by show q.val < 512; omega))).trans ?_
  refine (Cert.Proof.Ffn.canon_hit (s := S512x2048) (e := .bf16) ![0, 0] S512x512.size inb_S512x2048_S512x512_0_0 _ _ (ix2 r q) (ix2 r ⟨q.val, by omega⟩)
    (fun a => match a with | ⟨0, _⟩ => (Nat.zero_add _).symm | ⟨1, _⟩ => (Nat.zero_add _).symm)).trans ?_
  exact part _ _ _ _ (fun k => hw0 k _) (hb0 _)

/-! ## What a step leaves, in its two cases -/

section Run

variable (c : Dev nD) (i : grid0.Coords)
  (a1 : Memref sig .tc .vmem S512x1024 .f32) (h1 : a1.IsWhole) (a2 : Memref sig .tc .vmem S1x1024 .f32) (h2 : a2.IsWhole) (a3 : Memref sig .tc .vmem S1024x3712 .bf16) (h3 : a3.IsWhole) (a4 : Memref sig .tc .vmem S1x3712 .f32) (h4 : a4.IsWhole)
  (a5 : Memref sig .tc .vmem S1x512 .f32) (h5 : a5.IsWhole) (a6 : Memref sig .tc .vmem S1x512 .f32) (h6 : a6.IsWhole) (a7 : Memref sig .tc .vmem S512x128 .bf16) (h7 : a7.IsWhole) (a8 : Memref sig .tc .vmem S512x512 .bf16) (h8 : a8.IsWhole)
  (a9 : Memref sig .tc .vmem S1x128 .f32) (h9 : a9.IsWhole) (a10 : Memref sig .tc .vmem S512x1024 .bf16) (h10 : a10.IsWhole) (a11 : Memref sig .tc .vmem S512x1024 .bf16) (h11 : a11.IsWhole) (a12 : Memref sig .tc .vmem S512x1024 .bf16) (h12 : a12.IsWhole)
  (a13 : Memref sig .tc .vmem S512x2048 .bf16) (h13 : a13.IsWhole) (a14 : Memref sig .tc .vmem S512x128 .f32) (h14 : a14.IsWhole) (a15 : Memref sig .tc .vmem S1x8x128 .f32) (h15 : a15.IsWhole) (a16 : Memref sig .tc .vmem S1x128 .f32) (h16 : a16.IsWhole)
  (X : Vec Ideal S512x1024 .f32) (G : Vec Ideal S1x1024 .f32) (W : Vec Ideal S1024x3712 .bf16) (B : Vec Ideal S1x3712 .f32)
  (x4 : Vec Ideal S1x512 .f32) (x5 : Vec Ideal S1x512 .f32) (x6 : Vec Ideal S512x128 .bf16) (x7 : Vec Ideal S512x512 .bf16) (x8 s0 : Vec Ideal S1x128 .f32)

/-- A load through a box of a whole buffer reads the buffer at the box's indices. -/
theorem load_at {s : Shape} {e : EltTy} {sp : Space} (a : Memref sig .tc sp s e) (ha : a.IsWhole) (Y : Vec Ideal s e) (off size : Fin s.rank → ℕ)
    (inb : ∀ x, off x + size x ≤ s.size x) (x : (Rect.unit off size inb).shape.Idx) (y : s.Idx) (h : ∀ k, (y k).val = off k + (x k).val) :
    View.readAt (Elt Ideal) a.view (Rect.unit off size inb).toLoadRect (ha.unread Y) x = Y y := by
  rw [View.readAt_eq_ld, ha.read_unread]
  exact View.ld_unit_apply_of Y off size inb x y h

/-- Loading the whole block of rows. -/
theorem loadX (r : Fin 512) (k : Fin 1024) :
    (View.readAt (Elt Ideal) a1.view (Rect.unit (s := S512x1024) ![0, 0] S512x1024.size inb_S512x1024_S512x1024_0_0).toLoadRect (h1.unread X) (ix2 r k) : EReal) = X (ix2 r k) :=
  load_at a1 h1 X ![0, 0] S512x1024.size inb_S512x1024_S512x1024_0_0 (ix2 r k) (ix2 r k)
    (fun a => match a with | ⟨0, _⟩ => (Nat.zero_add _).symm | ⟨1, _⟩ => (Nat.zero_add _).symm)

/-- Loading the gains. -/
theorem loadG (k : Fin 1024) :
    (View.readAt (Elt Ideal) a2.view (Rect.unit (s := S1x1024) ![0, 0] S1x1024.size inb_S1x1024_S1x1024_0_0).toLoadRect (h2.unread G) (ix2 0 k) : EReal) = G (ix2 0 k) :=
  load_at a2 h2 G ![0, 0] S1x1024.size inb_S1x1024_S1x1024_0_0 (ix2 0 k) (ix2 0 k)
    (fun a => match a with | ⟨0, _⟩ => (Nat.zero_add _).symm | ⟨1, _⟩ => (Nat.zero_add _).symm)

/-- Loading some of the weights' columns. -/
theorem loadW (lo n : ℕ) (inb : ∀ x, (![0, lo] : Fin 2 → ℕ) x + (![1024, n] : Fin 2 → ℕ) x ≤ S1024x3712.size x) (k : Fin 1024) (q : Fin n) (j : Fin 3712) (hj : j.val = lo + q.val) :
    (View.readAt (Elt Ideal) a3.view (Rect.unit (s := S1024x3712) ![0, lo] ![1024, n] inb).toLoadRect (h3.unread W) (ix2 k q) : EReal) = W (ix2 k j) :=
  load_at a3 h3 W ![0, lo] ![1024, n] inb (ix2 k q) (ix2 k j)
    (fun a => match a with | ⟨0, _⟩ => (Nat.zero_add _).symm | ⟨1, _⟩ => hj)

/-- Loading some of the bias. -/
theorem loadB (lo n : ℕ) (inb : ∀ x, (![0, lo] : Fin 2 → ℕ) x + (![1, n] : Fin 2 → ℕ) x ≤ S1x3712.size x) (q : Fin n) (j : Fin 3712) (hj : j.val = lo + q.val) :
    (View.readAt (Elt Ideal) a4.view (Rect.unit (s := S1x3712) ![0, lo] ![1, n] inb).toLoadRect (h4.unread B) (ix2 0 q) : EReal) = B (ix2 0 j) :=
  load_at a4 h4 B ![0, lo] ![1, n] inb (ix2 0 q) (ix2 0 j)
    (fun a => match a with | ⟨0, _⟩ => (Nat.zero_add _).symm | ⟨1, _⟩ => hj)

/-- The step's rows, normalised. -/
theorem norms_at (r : Fin 512) (k : Fin 1024) :
    k0_pay3 (View.readAt (Elt Ideal) a1.view (Rect.unit (s := S512x1024) ![0, 0] S512x1024.size inb_S512x1024_S512x1024_0_0).toLoadRect (h1.unread X))
      (View.readAt (Elt Ideal) a2.view (Rect.unit (s := S1x1024) ![0, 0] S1x1024.size inb_S1x1024_S1x1024_0_0).toLoadRect (h2.unread G)) (ix2 r k)
      = normed (fun l => X (ix2 r l)) (fun l => G (ix2 0 l)) k := by
  refine (rows_at _ _ r k).trans (congrArg₂ (fun y z => normed y z k) (funext fun l => ?_) (funext fun l => ?_))
  · exact loadX a1 h1 X r l
  · exact loadG a2 h2 G l

theorem restA_at (hc : cond0_0 i) (r : Fin 512) (q : Fin 2048) :
    out0_A_12 (F := Ideal) c i a1 h1 a2 h2 a3 h3 a4 h4 a5 h5 a6 h6 a7 h7 a8 h8 a9 h9 a10 h10 a11 h11 a12 h12 a13 h13 a14 h14 a15 h15 a16 h16 hc X G W B x4 x5 x6 x7 x8 (ix2 r q)
      = column (fun l => X (ix2 r l)) (fun l => G (ix2 0 l)) (fun k => W (ix2 k ⟨1536 + q.val, by have := q.isLt; omega⟩)) (B (ix2 0 ⟨1536 + q.val, by have := q.isLt; omega⟩)) := by
  unfold out0_A_12
  rw [View.read_writes_junk_eq_canon]
  unfold kernelRun0_A
  dsimp only
  refine (parts_at (kernelRun0_A.sl.r (F := Ideal) c a1 h1 a2 h2 X G) _ _ _ _ _ _ _ _ W B
    (fun k q => loadW a3 h3 W 1536 512 _ k q _ rfl) (fun q => loadB a4 h4 B 1536 512 _ q _ rfl) (fun k q => loadW a3 h3 W 2048 512 _ k q _ rfl) (fun q => loadB a4 h4 B 2048 512 _ q _ rfl)
    (fun k q => loadW a3 h3 W 2560 512 _ k q _ rfl) (fun q => loadB a4 h4 B 2560 512 _ q _ rfl) (fun k q => loadW a3 h3 W 3072 512 _ k q _ rfl) (fun q => loadB a4 h4 B 3072 512 _ q _ rfl) r q).trans ?_
  refine congrArg (fun z : EReal => z + _) (Finset.sum_congr rfl fun k _ => congrArg (fun z : EReal => z * _) ?_)
  unfold kernelRun0_A.sl.r
  exact norms_at a1 h1 a2 h2 X G r k

theorem gatesA_at (hc : cond0_0 i) (r : Fin 512) (q : Fin 128) :
    out0_A_13 (F := Ideal) c i a1 h1 a2 h2 a3 h3 a4 h4 a5 h5 a6 h6 a7 h7 a8 h8 a9 h9 a10 h10 a11 h11 a12 h12 a13 h13 a14 h14 a15 h15 a16 h16 hc X G W B x4 x5 x6 x7 x8 (ix2 r q)
      = column (fun l => X (ix2 r l)) (fun l => G (ix2 0 l)) (fun k => W (ix2 k ⟨3584 + q.val, by have := q.isLt; omega⟩)) (B (ix2 0 ⟨3584 + q.val, by have := q.isLt; omega⟩)) := by
  unfold out0_A_13
  rw [View.read_writes_junk_eq_canon]
  unfold kernelRun0_A
  dsimp only
  refine (Cert.Proof.Ffn.canon_hit (s := S512x128) (e := .f32) ![0, 0] S512x128.size inb_S512x128_S512x128_0_0 _ _ (ix2 r q) (ix2 r q)
    (fun a => match a with | ⟨0, _⟩ => (Nat.zero_add _).symm | ⟨1, _⟩ => (Nat.zero_add _).symm)).trans ?_
  unfold kernelRun0_A.sl.r_1
  refine (gates_at _ _ _ _ r q).trans ?_
  refine congrArg₂ (fun y z : EReal => y + z) (Finset.sum_congr rfl fun k _ => congrArg₂ (fun y z : EReal => y * z) ?_ ?_) ?_
  · exact norms_at a1 h1 a2 h2 X G r k
  · exact loadW a3 h3 W 3584 128 _ k q _ rfl
  · exact loadB a4 h4 B 3584 128 _ q _ rfl

theorem restB_at (hc : ¬cond0_0 i) (r : Fin 512) (q : Fin 2048) :
    out0_B_12 (F := Ideal) c i a1 h1 a2 h2 a3 h3 a4 h4 a5 h5 a6 h6 a7 h7 a8 h8 a9 h9 a10 h10 a11 h11 a12 h12 a13 h13 a14 h14 a15 h15 a16 h16 hc X G W B x4 x5 x6 x7 x8 s0 (ix2 r q)
      = column (fun l => X (ix2 r l)) (fun l => G (ix2 0 l)) (fun k => W (ix2 k ⟨1536 + q.val, by have := q.isLt; omega⟩)) (B (ix2 0 ⟨1536 + q.val, by have := q.isLt; omega⟩)) := by
  unfold out0_B_12
  rw [View.read_writes_junk_eq_canon]
  unfold kernelRun0_B
  dsimp only
  refine (parts_at (kernelRun0_B.sl.r (F := Ideal) c a1 h1 a2 h2 X G) _ _ _ _ _ _ _ _ W B
    (fun k q => loadW a3 h3 W 1536 512 _ k q _ rfl) (fun q => loadB a4 h4 B 1536 512 _ q _ rfl) (fun k q => loadW a3 h3 W 2048 512 _ k q _ rfl) (fun q => loadB a4 h4 B 2048 512 _ q _ rfl)
    (fun k q => loadW a3 h3 W 2560 512 _ k q _ rfl) (fun q => loadB a4 h4 B 2560 512 _ q _ rfl) (fun k q => loadW a3 h3 W 3072 512 _ k q _ rfl) (fun q => loadB a4 h4 B 3072 512 _ q _ rfl) r q).trans ?_
  refine congrArg (fun z : EReal => z + _) (Finset.sum_congr rfl fun k _ => congrArg (fun z : EReal => z * _) ?_)
  unfold kernelRun0_B.sl.r
  exact norms_at a1 h1 a2 h2 X G r k

theorem gatesB_at (hc : ¬cond0_0 i) (r : Fin 512) (q : Fin 128) :
    out0_B_13 (F := Ideal) c i a1 h1 a2 h2 a3 h3 a4 h4 a5 h5 a6 h6 a7 h7 a8 h8 a9 h9 a10 h10 a11 h11 a12 h12 a13 h13 a14 h14 a15 h15 a16 h16 hc X G W B x4 x5 x6 x7 x8 s0 (ix2 r q)
      = column (fun l => X (ix2 r l)) (fun l => G (ix2 0 l)) (fun k => W (ix2 k ⟨3584 + q.val, by have := q.isLt; omega⟩)) (B (ix2 0 ⟨3584 + q.val, by have := q.isLt; omega⟩)) := by
  unfold out0_B_13
  rw [View.read_writes_junk_eq_canon]
  unfold kernelRun0_B
  dsimp only
  refine (Cert.Proof.Ffn.canon_hit (s := S512x128) (e := .f32) ![0, 0] S512x128.size inb_S512x128_S512x128_0_0 _ _ (ix2 r q) (ix2 r q)
    (fun a => match a with | ⟨0, _⟩ => (Nat.zero_add _).symm | ⟨1, _⟩ => (Nat.zero_add _).symm)).trans ?_
  unfold kernelRun0_B.sl.r_1
  refine (gates_at _ _ _ _ r q).trans ?_
  refine congrArg₂ (fun y z : EReal => y + z) (Finset.sum_congr rfl fun k _ => congrArg₂ (fun y z : EReal => y * z) ?_ ?_) ?_
  · exact norms_at a1 h1 a2 h2 X G r k
  · exact loadW a3 h3 W 3584 128 _ k q _ rfl
  · exact loadB a4 h4 B 3584 128 _ q _ rfl

end Run

end Cert.Proof.Proj
-- ==== Proof.Proj.Pack.lean ====
module

public import proofs.«01_k».proof.Proof.Proj.Block

@[expose] public section

set_option maxRecDepth 16384
set_option maxHeartbeats 4000000

noncomputable section

namespace Cert.Proof.Proj

open Cert.Kernel4Ideal Cert.Kernel4Ideal.Gen
open Idealize.ShloMosaic Idealize.ShloMosaic.TcCoe Idealize.ShloMosaic.Tactic
open Idealize.ShloMosaic.Pipeline

/-! # The reordered columns -/

/-- The weights with their columns reordered, and zeros after them. -/
def packW (w : FVec Ideal S1024x3600 .f32) : FVec Ideal S1024x3712 .bf16 :=
  truncf .bf16 (concatenate S1024x3712 1 [⟨S1024x1536, (extractStridedSlice S1024x1536 ![0, 0] w slices_S1024x3600_S1024x1536_0_0 : (⟨S1024x1536, .f32⟩ : BufTy).Contents (Elt Ideal))⟩,
    ⟨S1024x768, (extractStridedSlice S1024x768 ![0, 1544] w slices_S1024x3600_S1024x768_0_1544 : (⟨S1024x768, .f32⟩ : BufTy).Contents (Elt Ideal))⟩,
    ⟨S1024x1280, (extractStridedSlice S1024x1280 ![0, 2320] w slices_S1024x3600_S1024x1280_0_2320 : (⟨S1024x1280, .f32⟩ : BufTy).Contents (Elt Ideal))⟩,
    ⟨S1024x8, (extractStridedSlice S1024x8 ![0, 1536] w slices_S1024x3600_S1024x8_0_1536 : (⟨S1024x8, .f32⟩ : BufTy).Contents (Elt Ideal))⟩,
    ⟨S1024x8, (extractStridedSlice S1024x8 ![0, 2312] w slices_S1024x3600_S1024x8_0_2312 : (⟨S1024x8, .f32⟩ : BufTy).Contents (Elt Ideal))⟩,
    ⟨S1024x112, (broadcastInDim S1024x112 ![] bcast_S_S1024x112 (constant (F := Ideal) S_ .f32 0x00000000#32) : (⟨S1024x112, .f32⟩ : BufTy).Contents (Elt Ideal))⟩]
    concatenates_S1024x1536_S1024x768_S1024x1280_S1024x8_S1024x8_S1024x112_S1024x3712_d1) bitsLt_bf16_f32

/-- The bias in the same order. -/
def packB (b : FVec Ideal S3600 .f32) : FVec Ideal S1x3712 .f32 :=
  broadcastInDim S1x3712 ![1] bcast_S3712_S1x3712_1 (concatenate S3712 0 [⟨S1536, (extractStridedSlice S1536 ![0] b slices_S3600_S1536_0 : (⟨S1536, .f32⟩ : BufTy).Contents (Elt Ideal))⟩,
    ⟨S768, (extractStridedSlice S768 ![1544] b slices_S3600_S768_1544 : (⟨S768, .f32⟩ : BufTy).Contents (Elt Ideal))⟩,
    ⟨S1280, (extractStridedSlice S1280 ![2320] b slices_S3600_S1280_2320 : (⟨S1280, .f32⟩ : BufTy).Contents (Elt Ideal))⟩,
    ⟨S8, (extractStridedSlice S8 ![1536] b slices_S3600_S8_1536 : (⟨S8, .f32⟩ : BufTy).Contents (Elt Ideal))⟩,
    ⟨S8, (extractStridedSlice S8 ![2312] b slices_S3600_S8_2312 : (⟨S8, .f32⟩ : BufTy).Contents (Elt Ideal))⟩,
    ⟨S112, (broadcastInDim S112 ![] bcast_S_S112 (constant (F := Ideal) S_ .f32 0x00000000#32) : (⟨S112, .f32⟩ : BufTy).Contents (Elt Ideal))⟩]
    concatenates_S1536_S768_S1280_S8_S8_S112_S3712_d0)

section Packed

variable (w : FVec Ideal S1024x3600 .f32) (b : FVec Ideal S3600 .f32)

theorem packW_first (k : Fin 1024) (l : Fin 1536) : (packW w (ix2 k ⟨l.val, by have := l.isLt; omega⟩) : EReal) = w (ix2 k ⟨l.val, by have := l.isLt; omega⟩) := by
  have hl := l.isLt
  pointwise [packW]

theorem packB_first (l : Fin 1536) : (packB b (ix2 0 ⟨l.val, by have := l.isLt; omega⟩) : EReal) = b (ix1 ⟨l.val, by have := l.isLt; omega⟩) := by
  have hl := l.isLt
  pointwise [packB]

theorem packW_second (k : Fin 1024) (l : Fin 768) : (packW w (ix2 k ⟨1536 + l.val, by have := l.isLt; omega⟩) : EReal) = w (ix2 k ⟨1544 + l.val, by have := l.isLt; omega⟩) := by
  have hl := l.isLt
  pointwise [packW]

theorem packB_second (l : Fin 768) : (packB b (ix2 0 ⟨1536 + l.val, by have := l.isLt; omega⟩) : EReal) = b (ix1 ⟨1544 + l.val, by have := l.isLt; omega⟩) := by
  have hl := l.isLt
  pointwise [packB]

theorem packW_third (k : Fin 1024) (l : Fin 1280) : (packW w (ix2 k ⟨1536 + (768 + l.val), by have := l.isLt; omega⟩) : EReal) = w (ix2 k ⟨2320 + l.val, by have := l.isLt; omega⟩) := by
  have hl := l.isLt
  pointwise [packW]

theorem packB_third (l : Fin 1280) : (packB b (ix2 0 ⟨1536 + (768 + l.val), by have := l.isLt; omega⟩) : EReal) = b (ix1 ⟨2320 + l.val, by have := l.isLt; omega⟩) := by
  have hl := l.isLt
  pointwise [packB]

theorem packW_fourth (k : Fin 1024) (l : Fin 8) : (packW w (ix2 k ⟨1536 + (768 + (1280 + l.val)), by have := l.isLt; omega⟩) : EReal) = w (ix2 k ⟨1536 + l.val, by have := l.isLt; omega⟩) := by
  have hl := l.isLt
  pointwise [packW]

theorem packB_fourth (l : Fin 8) : (packB b (ix2 0 ⟨1536 + (768 + (1280 + l.val)), by have := l.isLt; omega⟩) : EReal) = b (ix1 ⟨1536 + l.val, by have := l.isLt; omega⟩) := by
  have hl := l.isLt
  pointwise [packB]

theorem packW_fifth (k : Fin 1024) (l : Fin 8) : (packW w (ix2 k ⟨1536 + (768 + (1280 + (8 + l.val))), by have := l.isLt; omega⟩) : EReal) = w (ix2 k ⟨2312 + l.val, by have := l.isLt; omega⟩) := by
  have hl := l.isLt
  pointwise [packW]

theorem packB_fifth (l : Fin 8) : (packB b (ix2 0 ⟨1536 + (768 + (1280 + (8 + l.val))), by have := l.isLt; omega⟩) : EReal) = b (ix1 ⟨2312 + l.val, by have := l.isLt; omega⟩) := by
  have hl := l.isLt
  pointwise [packB]

theorem packW_sixth (k : Fin 1024) (l : Fin 112) : (packW w (ix2 k ⟨1536 + (768 + (1280 + (8 + (8 + l.val)))), by have := l.isLt; omega⟩) : EReal) = (0 : EReal) := by
  have hl := l.isLt
  pointwise [packW]

theorem packB_sixth (l : Fin 112) : (packB b (ix2 0 ⟨1536 + (768 + (1280 + (8 + (8 + l.val)))), by have := l.isLt; omega⟩) : EReal) = (0 : EReal) := by
  have hl := l.isLt
  pointwise [packB]

/-- A column of the reordered weights that is one of the given ones. -/
theorem packed_column (P : S1024x3712.Idx → EReal) (C : S1x3712.Idx → EReal) (x g v : Fin 1024 → EReal) (z : EReal) (j j' : Fin 3712) (hj : j' = j)
    (hw : ∀ k, P (ix2 k j') = v k) (hb : C (ix2 0 j') = z) :
    column x g (fun k => P (ix2 k j)) (C (ix2 0 j)) = column x g v z := by
  subst hj
  rw [hb]
  exact congrArg (fun u => column x g u z) (funext hw)

section Entries

variable (P : S1024x3712.Idx → EReal) (C : S1x3712.Idx → EReal) (W : S1024x3600.Idx → EReal) (B : S3600.Idx → EReal)
  (X : S16384x1024.Idx → EReal) (G : S1024.Idx → EReal) (r : Fin 16384)

theorem value_entry (w1 : ∀ (k : Fin 1024) (l : Fin 1536), P (ix2 k ⟨l.val, by have := l.isLt; omega⟩) = W (ix2 k ⟨l.val, by have := l.isLt; omega⟩))
    (b1 : ∀ l : Fin 1536, C (ix2 0 ⟨l.val, by have := l.isLt; omega⟩) = B (ix1 ⟨l.val, by have := l.isLt; omega⟩)) (q : Fin 512) :
    column (fun k => X (ix2 r k)) (fun k => G (ix1 k)) (fun k => P (ix2 k ⟨1024 + q.val, by have := q.isLt; omega⟩)) (C (ix2 0 ⟨1024 + q.val, by have := q.isLt; omega⟩))
      = projected X G W B r ⟨1024 + q.val, by have := q.isLt; omega⟩ := by
  have hq := q.isLt
  exact packed_column P C _ _ _ _ _ _ rfl (fun k => w1 k ⟨1024 + q.val, by omega⟩) (b1 ⟨1024 + q.val, by omega⟩)

theorem rest_entry (w2 : ∀ (k : Fin 1024) (l : Fin 768), P (ix2 k ⟨1536 + l.val, by have := l.isLt; omega⟩) = W (ix2 k ⟨1544 + l.val, by have := l.isLt; omega⟩))
    (w3 : ∀ (k : Fin 1024) (l : Fin 1280), P (ix2 k ⟨1536 + (768 + l.val), by have := l.isLt; omega⟩) = W (ix2 k ⟨2320 + l.val, by have := l.isLt; omega⟩))
    (b2 : ∀ l : Fin 768, C (ix2 0 ⟨1536 + l.val, by have := l.isLt; omega⟩) = B (ix1 ⟨1544 + l.val, by have := l.isLt; omega⟩))
    (b3 : ∀ l : Fin 1280, C (ix2 0 ⟨1536 + (768 + l.val), by have := l.isLt; omega⟩) = B (ix1 ⟨2320 + l.val, by have := l.isLt; omega⟩)) (q : Fin 2048) (j : Fin 3712) (hj : j.val = 1536 + q.val) :
    column (fun k => X (ix2 r k)) (fun k => G (ix1 k)) (fun k => P (ix2 k j)) (C (ix2 0 j)) = restTotal X G W B r q := by
  have hq := q.isLt
  unfold restTotal
  by_cases c : q.val < 768
  · rw [dif_pos c]
    exact packed_column P C _ _ _ _ j _ (Fin.ext hj.symm) (fun k => w2 k ⟨q.val, c⟩) (b2 ⟨q.val, c⟩)
  · rw [dif_neg c]
    have e : 1536 + (768 + (q.val - 768)) = j.val := by omega
    exact packed_column P C _ _ _ _ j _ (Fin.ext e) (fun k => w3 k ⟨q.val - 768, by omega⟩) (b3 ⟨q.val - 768, by omega⟩)

theorem gate_entry (w4 : ∀ (k : Fin 1024) (l : Fin 8), P (ix2 k ⟨1536 + (768 + (1280 + l.val)), by have := l.isLt; omega⟩) = W (ix2 k ⟨1536 + l.val, by have := l.isLt; omega⟩))
    (w5 : ∀ (k : Fin 1024) (l : Fin 8), P (ix2 k ⟨1536 + (768 + (1280 + (8 + l.val))), by have := l.isLt; omega⟩) = W (ix2 k ⟨2312 + l.val, by have := l.isLt; omega⟩))
    (w6 : ∀ (k : Fin 1024) (l : Fin 112), P (ix2 k ⟨1536 + (768 + (1280 + (8 + (8 + l.val)))), by have := l.isLt; omega⟩) = 0)
    (b4 : ∀ l : Fin 8, C (ix2 0 ⟨1536 + (768 + (1280 + l.val)), by have := l.isLt; omega⟩) = B (ix1 ⟨1536 + l.val, by have := l.isLt; omega⟩))
    (b5 : ∀ l : Fin 8, C (ix2 0 ⟨1536 + (768 + (1280 + (8 + l.val))), by have := l.isLt; omega⟩) = B (ix1 ⟨2312 + l.val, by have := l.isLt; omega⟩))
    (b6 : ∀ l : Fin 112, C (ix2 0 ⟨1536 + (768 + (1280 + (8 + (8 + l.val)))), by have := l.isLt; omega⟩) = 0) (q : Fin 128) (j : Fin 3712) (hj : j.val = 3584 + q.val) :
    column (fun k => X (ix2 r k)) (fun k => G (ix1 k)) (fun k => P (ix2 k j)) (C (ix2 0 j)) = gateTotal X G W B r q := by
  have hq := q.isLt
  unfold gateTotal
  by_cases c : q.val < 8
  · rw [dif_pos c]
    have e : 1536 + (768 + (1280 + q.val)) = j.val := by omega
    exact packed_column P C _ _ _ _ j _ (Fin.ext e) (fun k => w4 k ⟨q.val, c⟩) (b4 ⟨q.val, c⟩)
  · rw [dif_neg c]
    by_cases d : q.val < 16
    · rw [dif_pos d]
      have e : 1536 + (768 + (1280 + (8 + (q.val - 8)))) = j.val := by omega
      exact packed_column P C _ _ _ _ j _ (Fin.ext e) (fun k => w5 k ⟨q.val - 8, by omega⟩) (b5 ⟨q.val - 8, by omega⟩)
    · rw [dif_neg d]
      have e : 1536 + (768 + (1280 + (8 + (8 + (q.val - 16))))) = j.val := by omega
      exact (packed_column P C _ _ (fun _ => 0) 0 j _ (Fin.ext e) (fun k => w6 k ⟨q.val - 16, by omega⟩) (b6 ⟨q.val - 16, by omega⟩)).trans (column_zero _ _)

end Entries

theorem value_column (X : S16384x1024.Idx → EReal) (G : S1024.Idx → EReal) (r : Fin 16384) (q : Fin 512) :
    column (fun k => X (ix2 r k)) (fun k => G (ix1 k)) (fun k => packW w (ix2 k ⟨1024 + q.val, by have := q.isLt; omega⟩)) (packB b (ix2 0 ⟨1024 + q.val, by have := q.isLt; omega⟩))
      = projected X G w b r ⟨1024 + q.val, by have := q.isLt; omega⟩ :=
  value_entry (packW w) (packB b) w b X G r (packW_first w) (packB_first b) q

theorem rest_column (X : S16384x1024.Idx → EReal) (G : S1024.Idx → EReal) (r : Fin 16384) (q : Fin 2048) (j : Fin 3712) (hj : j.val = 1536 + q.val) :
    column (fun k => X (ix2 r k)) (fun k => G (ix1 k)) (fun k => packW w (ix2 k j)) (packB b (ix2 0 j)) = restTotal X G w b r q :=
  rest_entry (packW w) (packB b) w b X G r (packW_second w) (packW_third w) (packB_second b) (packB_third b) q j hj

theorem gate_column (X : S16384x1024.Idx → EReal) (G : S1024.Idx → EReal) (r : Fin 16384) (q : Fin 128) (j : Fin 3712) (hj : j.val = 3584 + q.val) :
    column (fun k => X (ix2 r k)) (fun k => G (ix1 k)) (fun k => packW w (ix2 k j)) (packB b (ix2 0 j)) = gateTotal X G w b r q :=
  gate_entry (packW w) (packB b) w b X G r (packW_fourth w) (packW_fifth w) (packW_sixth w) (packB_fourth b) (packB_fifth b) (packB_sixth b) q j hj

end Packed

end Cert.Proof.Proj
-- ==== Proof.Proj.Values.lean ====
module

public import proofs.«01_k».proof.Proof.Proj.Block

@[expose] public section

set_option maxRecDepth 16384
set_option maxHeartbeats 4000000

noncomputable section

namespace Cert.Proof.Proj

open Cert.Kernel4Ideal Cert.Kernel4Ideal.Gen
open Idealize.ShloMosaic Idealize.ShloMosaic.TcCoe Idealize.ShloMosaic.Tactic
open Idealize.ShloMosaic.Pipeline

/-! # The values of one step

Each head is stored on its own, in 128 lanes: its 64 values, a one, and zeros. A head that begins in the middle of a group of 128 columns is
first rotated to the front of it. -/

theorem before_one : ∀ l : Fin 128, IntOp.cmpi .slt (BitVec.ofNat 32 l.val) 64#32 = if l.val < 64 then 1#1 else 0#1 := by decide +kernel
theorem at_one : ∀ l : Fin 128, IntOp.cmpi .eq (BitVec.ofNat 32 l.val) 64#32 = if l.val = 64 then 1#1 else 0#1 := by decide +kernel

/-- The two selections of a head's store. -/
theorem choose_at (f : Fin 512 → EReal) (e : ℕ) (he : e < 8) (l : Fin 128) (u : EReal)
    (hu : ∀ h : l.val < 64, u = f ⟨64 * e + l.val, by omega⟩) (q : Fin 1024) (hq : q.val = 128 * e + l.val) :
    Scalar.select (IntOp.cmpi .slt (BitVec.ofNat 32 l.val) 64#32) u (Scalar.select (IntOp.cmpi .eq (BitVec.ofNat 32 l.val) 64#32) (1 : EReal) 0) = spread f q := by
  have hl := l.isLt
  have hm : q.val % 128 = l.val := by omega
  have hd : q.val / 128 = e := by omega
  rw [before_one, at_one]
  unfold spread
  by_cases c : l.val < 64
  · rw [dif_pos (by omega), if_pos c]
    exact (hu c).trans (congrArg f (Fin.ext (by show 64 * e + l.val = 64 * (q.val / 128) + q.val % 128; rw [hm, hd])))
  · rw [dif_neg (by omega), if_neg c, hm]
    by_cases d : l.val = 64
    · rw [if_pos d, if_pos d]; rfl
    · rw [if_neg d, if_neg d]; rfl

/-- The numbers of the lanes. -/
abbrev lanes : IVec S512x128 32 := iota .tc S512x128 32 [1] iota_S512x128_d1_w32

theorem head0_at (v : FVec Ideal S512x512 .f32) (r : Fin 512) (l : Fin 128) (q : Fin 1024) (hq : q.val = 128 * 0 + l.val) :
    k0_pay40 v (k0_pay31 lanes) (k0_pay32 lanes) (ix2 r l) = spread (fun j => v (ix2 r j)) q := by
  pointwise [k0_pay40, k0_pay31, k0_pay32]
  exact choose_at (fun j => v (ix2 r j)) 0 (by decide) l _ (fun h => congrArg (fun z => v (ix2 r z)) (Fin.ext (by simp only [] <;> omega))) q hq

theorem head1_at (v : FVec Ideal S512x512 .f32) (r : Fin 512) (l : Fin 128) (q : Fin 1024) (hq : q.val = 128 * 1 + l.val) :
    k0_pay47 v (k0_pay31 lanes) (k0_pay32 lanes) (ix2 r l) = spread (fun j => v (ix2 r j)) q := by
  pointwise [k0_pay47, k0_pay31, k0_pay32]
  exact choose_at (fun j => v (ix2 r j)) 1 (by decide) l _ (fun h => congrArg (fun z => v (ix2 r z)) (Fin.ext (by simp only [] <;> omega))) q hq

theorem head2_at (v : FVec Ideal S512x512 .f32) (r : Fin 512) (l : Fin 128) (q : Fin 1024) (hq : q.val = 128 * 2 + l.val) :
    k0_pay55 v (k0_pay31 lanes) (k0_pay32 lanes) (ix2 r l) = spread (fun j => v (ix2 r j)) q := by
  pointwise [k0_pay55, k0_pay31, k0_pay32]
  exact choose_at (fun j => v (ix2 r j)) 2 (by decide) l _ (fun h => congrArg (fun z => v (ix2 r z)) (Fin.ext (by simp only [] <;> omega))) q hq

theorem head3_at (v : FVec Ideal S512x512 .f32) (r : Fin 512) (l : Fin 128) (q : Fin 1024) (hq : q.val = 128 * 3 + l.val) :
    k0_pay59 v (k0_pay31 lanes) (k0_pay32 lanes) (ix2 r l) = spread (fun j => v (ix2 r j)) q := by
  pointwise [k0_pay59, k0_pay31, k0_pay32]
  exact choose_at (fun j => v (ix2 r j)) 3 (by decide) l _ (fun h => congrArg (fun z => v (ix2 r z)) (Fin.ext (by simp only [] <;> omega))) q hq

theorem head4_at (v : FVec Ideal S512x512 .f32) (r : Fin 512) (l : Fin 128) (q : Fin 1024) (hq : q.val = 128 * 4 + l.val) :
    k0_pay66 v (k0_pay31 lanes) (k0_pay32 lanes) (ix2 r l) = spread (fun j => v (ix2 r j)) q := by
  pointwise [k0_pay66, k0_pay31, k0_pay32]
  exact choose_at (fun j => v (ix2 r j)) 4 (by decide) l _ (fun h => congrArg (fun z => v (ix2 r z)) (Fin.ext (by simp only [] <;> omega))) q hq

theorem head5_at (v : FVec Ideal S512x512 .f32) (r : Fin 512) (l : Fin 128) (q : Fin 1024) (hq : q.val = 128 * 5 + l.val) :
    k0_pay74 v (k0_pay31 lanes) (k0_pay32 lanes) (ix2 r l) = spread (fun j => v (ix2 r j)) q := by
  pointwise [k0_pay74, k0_pay31, k0_pay32]
  exact choose_at (fun j => v (ix2 r j)) 5 (by decide) l _ (fun h => congrArg (fun z => v (ix2 r z)) (Fin.ext (by simp only [] <;> omega))) q hq

theorem head6_at (v : FVec Ideal S512x512 .f32) (r : Fin 512) (l : Fin 128) (q : Fin 1024) (hq : q.val = 128 * 6 + l.val) :
    k0_pay80 v (k0_pay31 lanes) (k0_pay32 lanes) (ix2 r l) = spread (fun j => v (ix2 r j)) q := by
  pointwise [k0_pay80, k0_pay31, k0_pay32]
  exact choose_at (fun j => v (ix2 r j)) 6 (by decide) l _ (fun h => congrArg (fun z => v (ix2 r z)) (Fin.ext (by simp only [] <;> omega))) q hq

theorem head7_at (v : FVec Ideal S512x512 .f32) (r : Fin 512) (l : Fin 128) (q : Fin 1024) (hq : q.val = 128 * 7 + l.val) :
    k0_pay1 v (k0_pay31 lanes) (k0_pay32 lanes) (ix2 r l) = spread (fun j => v (ix2 r j)) q := by
  pointwise [k0_pay1, k0_pay31, k0_pay32]
  exact choose_at (fun j => v (ix2 r j)) 7 (by decide) l _ (fun h => congrArg (fun z => v (ix2 r z)) (Fin.ext (by simp only [] <;> omega))) q hq

/-- The eight stores fill the block. -/
theorem heads_at (p0 p1 p2 p3 p4 p5 p6 p7 : FVec Ideal S512x128 .bf16) (T : Fin 1024 → EReal) (r : Fin 512)
    (t0 : ∀ (l : Fin 128) (q : Fin 1024), q.val = 128 * 0 + l.val → (p0 (ix2 r l) : EReal) = T q)
    (t1 : ∀ (l : Fin 128) (q : Fin 1024), q.val = 128 * 1 + l.val → (p1 (ix2 r l) : EReal) = T q)
    (t2 : ∀ (l : Fin 128) (q : Fin 1024), q.val = 128 * 2 + l.val → (p2 (ix2 r l) : EReal) = T q)
    (t3 : ∀ (l : Fin 128) (q : Fin 1024), q.val = 128 * 3 + l.val → (p3 (ix2 r l) : EReal) = T q)
    (t4 : ∀ (l : Fin 128) (q : Fin 1024), q.val = 128 * 4 + l.val → (p4 (ix2 r l) : EReal) = T q)
    (t5 : ∀ (l : Fin 128) (q : Fin 1024), q.val = 128 * 5 + l.val → (p5 (ix2 r l) : EReal) = T q)
    (t6 : ∀ (l : Fin 128) (q : Fin 1024), q.val = 128 * 6 + l.val → (p6 (ix2 r l) : EReal) = T q)
    (t7 : ∀ (l : Fin 128) (q : Fin 1024), q.val = 128 * 7 + l.val → (p7 (ix2 r l) : EReal) = T q)
    (q : Fin 1024) :
    View.canon (Val := Elt Ideal) (s := S512x1024) (e := .bf16)
      [⟨Rect.unit (s := S512x1024) ![0, 896] S512x128.size inb_S512x1024_S512x128_0_896, p7⟩,
        ⟨Rect.unit (s := S512x1024) ![0, 768] S512x128.size inb_S512x1024_S512x128_0_768, p6⟩,
        ⟨Rect.unit (s := S512x1024) ![0, 640] S512x128.size inb_S512x1024_S512x128_0_640, p5⟩,
        ⟨Rect.unit (s := S512x1024) ![0, 512] S512x128.size inb_S512x1024_S512x128_0_512, p4⟩,
        ⟨Rect.unit (s := S512x1024) ![0, 384] S512x128.size inb_S512x1024_S512x128_0_384, p3⟩,
        ⟨Rect.unit (s := S512x1024) ![0, 256] S512x128.size inb_S512x1024_S512x128_0_256, p2⟩,
        ⟨Rect.unit (s := S512x1024) ![0, 128] S512x128.size inb_S512x1024_S512x128_0_128, p1⟩,
        ⟨Rect.unit (s := S512x1024) ![0, 0] S512x128.size inb_S512x1024_S512x128_0_0, p0⟩] (ix2 r q) = T q := by
  have hq := q.isLt
  by_cases c7 : 896 ≤ q.val
  · obtain ⟨l, hl⟩ : ∃ l : Fin 128, q.val = 896 + l.val := ⟨⟨q.val - 896, by omega⟩, by show q.val = 896 + (q.val - 896); omega⟩
    exact (Cert.Proof.Ffn.canon_hit (s := S512x1024) (e := .bf16) ![0, 896] S512x128.size inb_S512x1024_S512x128_0_896 _ _ (ix2 r q) (ix2 r l)
      (fun a => match a with | ⟨0, _⟩ => (Nat.zero_add _).symm | ⟨1, _⟩ => hl)).trans (t7 l q (by omega))
  refine (Cert.Proof.Ffn.canon_miss (s := S512x1024) (e := .bf16) ![0, 896] S512x128.size inb_S512x1024_S512x128_0_896 _ _ (ix2 r q) 1 (Or.inl (by show q.val < 896; omega))).trans ?_
  by_cases c6 : 768 ≤ q.val
  · obtain ⟨l, hl⟩ : ∃ l : Fin 128, q.val = 768 + l.val := ⟨⟨q.val - 768, by omega⟩, by show q.val = 768 + (q.val - 768); omega⟩
    exact (Cert.Proof.Ffn.canon_hit (s := S512x1024) (e := .bf16) ![0, 768] S512x128.size inb_S512x1024_S512x128_0_768 _ _ (ix2 r q) (ix2 r l)
      (fun a => match a with | ⟨0, _⟩ => (Nat.zero_add _).symm | ⟨1, _⟩ => hl)).trans (t6 l q (by omega))
  refine (Cert.Proof.Ffn.canon_miss (s := S512x1024) (e := .bf16) ![0, 768] S512x128.size inb_S512x1024_S512x128_0_768 _ _ (ix2 r q) 1 (Or.inl (by show q.val < 768; omega))).trans ?_
  by_cases c5 : 640 ≤ q.val
  · obtain ⟨l, hl⟩ : ∃ l : Fin 128, q.val = 640 + l.val := ⟨⟨q.val - 640, by omega⟩, by show q.val = 640 + (q.val - 640); omega⟩
    exact (Cert.Proof.Ffn.canon_hit (s := S512x1024) (e := .bf16) ![0, 640] S512x128.size inb_S512x1024_S512x128_0_640 _ _ (ix2 r q) (ix2 r l)
      (fun a => match a with | ⟨0, _⟩ => (Nat.zero_add _).symm | ⟨1, _⟩ => hl)).trans (t5 l q (by omega))
  refine (Cert.Proof.Ffn.canon_miss (s := S512x1024) (e := .bf16) ![0, 640] S512x128.size inb_S512x1024_S512x128_0_640 _ _ (ix2 r q) 1 (Or.inl (by show q.val < 640; omega))).trans ?_
  by_cases c4 : 512 ≤ q.val
  · obtain ⟨l, hl⟩ : ∃ l : Fin 128, q.val = 512 + l.val := ⟨⟨q.val - 512, by omega⟩, by show q.val = 512 + (q.val - 512); omega⟩
    exact (Cert.Proof.Ffn.canon_hit (s := S512x1024) (e := .bf16) ![0, 512] S512x128.size inb_S512x1024_S512x128_0_512 _ _ (ix2 r q) (ix2 r l)
      (fun a => match a with | ⟨0, _⟩ => (Nat.zero_add _).symm | ⟨1, _⟩ => hl)).trans (t4 l q (by omega))
  refine (Cert.Proof.Ffn.canon_miss (s := S512x1024) (e := .bf16) ![0, 512] S512x128.size inb_S512x1024_S512x128_0_512 _ _ (ix2 r q) 1 (Or.inl (by show q.val < 512; omega))).trans ?_
  by_cases c3 : 384 ≤ q.val
  · obtain ⟨l, hl⟩ : ∃ l : Fin 128, q.val = 384 + l.val := ⟨⟨q.val - 384, by omega⟩, by show q.val = 384 + (q.val - 384); omega⟩
    exact (Cert.Proof.Ffn.canon_hit (s := S512x1024) (e := .bf16) ![0, 384] S512x128.size inb_S512x1024_S512x128_0_384 _ _ (ix2 r q) (ix2 r l)
      (fun a => match a with | ⟨0, _⟩ => (Nat.zero_add _).symm | ⟨1, _⟩ => hl)).trans (t3 l q (by omega))
  refine (Cert.Proof.Ffn.canon_miss (s := S512x1024) (e := .bf16) ![0, 384] S512x128.size inb_S512x1024_S512x128_0_384 _ _ (ix2 r q) 1 (Or.inl (by show q.val < 384; omega))).trans ?_
  by_cases c2 : 256 ≤ q.val
  · obtain ⟨l, hl⟩ : ∃ l : Fin 128, q.val = 256 + l.val := ⟨⟨q.val - 256, by omega⟩, by show q.val = 256 + (q.val - 256); omega⟩
    exact (Cert.Proof.Ffn.canon_hit (s := S512x1024) (e := .bf16) ![0, 256] S512x128.size inb_S512x1024_S512x128_0_256 _ _ (ix2 r q) (ix2 r l)
      (fun a => match a with | ⟨0, _⟩ => (Nat.zero_add _).symm | ⟨1, _⟩ => hl)).trans (t2 l q (by omega))
  refine (Cert.Proof.Ffn.canon_miss (s := S512x1024) (e := .bf16) ![0, 256] S512x128.size inb_S512x1024_S512x128_0_256 _ _ (ix2 r q) 1 (Or.inl (by show q.val < 256; omega))).trans ?_
  by_cases c1 : 128 ≤ q.val
  · obtain ⟨l, hl⟩ : ∃ l : Fin 128, q.val = 128 + l.val := ⟨⟨q.val - 128, by omega⟩, by show q.val = 128 + (q.val - 128); omega⟩
    exact (Cert.Proof.Ffn.canon_hit (s := S512x1024) (e := .bf16) ![0, 128] S512x128.size inb_S512x1024_S512x128_0_128 _ _ (ix2 r q) (ix2 r l)
      (fun a => match a with | ⟨0, _⟩ => (Nat.zero_add _).symm | ⟨1, _⟩ => hl)).trans (t1 l q (by omega))
  refine (Cert.Proof.Ffn.canon_miss (s := S512x1024) (e := .bf16) ![0, 128] S512x128.size inb_S512x1024_S512x128_0_128 _ _ (ix2 r q) 1 (Or.inl (by show q.val < 128; omega))).trans ?_
  exact (Cert.Proof.Ffn.canon_hit (s := S512x1024) (e := .bf16) ![0, 0] S512x128.size inb_S512x1024_S512x128_0_0 _ _ (ix2 r q) (ix2 r ⟨q.val, by omega⟩)
    (fun a => match a with | ⟨0, _⟩ => (Nat.zero_add _).symm | ⟨1, _⟩ => (Nat.zero_add _).symm)).trans (t0 _ q (by show q.val = 128 * 0 + q.val; omega))

theorem group_at (h : FVec Ideal S512x1024 .bf16) (w : Vec Ideal S1024x512 .bf16) (b : Vec Ideal S1x512 .f32) (r q : Fin 512) :
    k0_pay7 h w b (ix2 r q) = (∑ k : Fin 1024, (h (ix2 r k) : EReal) * w (ix2 k q)) + b (ix2 0 q) := by
  pointwise [k0_pay7]

section Run

variable (c : Dev nD) (i : grid0.Coords)
  (a1 : Memref sig .tc .vmem S512x1024 .f32) (h1 : a1.IsWhole) (a2 : Memref sig .tc .vmem S1x1024 .f32) (h2 : a2.IsWhole) (a3 : Memref sig .tc .vmem S1024x3712 .bf16) (h3 : a3.IsWhole) (a4 : Memref sig .tc .vmem S1x3712 .f32) (h4 : a4.IsWhole)
  (a5 : Memref sig .tc .vmem S1x512 .f32) (h5 : a5.IsWhole) (a6 : Memref sig .tc .vmem S1x512 .f32) (h6 : a6.IsWhole) (a7 : Memref sig .tc .vmem S512x128 .bf16) (h7 : a7.IsWhole) (a8 : Memref sig .tc .vmem S512x512 .bf16) (h8 : a8.IsWhole)
  (a9 : Memref sig .tc .vmem S1x128 .f32) (h9 : a9.IsWhole) (a10 : Memref sig .tc .vmem S512x1024 .bf16) (h10 : a10.IsWhole) (a11 : Memref sig .tc .vmem S512x1024 .bf16) (h11 : a11.IsWhole) (a12 : Memref sig .tc .vmem S512x1024 .bf16) (h12 : a12.IsWhole)
  (a13 : Memref sig .tc .vmem S512x2048 .bf16) (h13 : a13.IsWhole) (a14 : Memref sig .tc .vmem S512x128 .f32) (h14 : a14.IsWhole) (a15 : Memref sig .tc .vmem S1x8x128 .f32) (h15 : a15.IsWhole) (a16 : Memref sig .tc .vmem S1x128 .f32) (h16 : a16.IsWhole)
  (X : Vec Ideal S512x1024 .f32) (G : Vec Ideal S1x1024 .f32) (W : Vec Ideal S1024x3712 .bf16) (B : Vec Ideal S1x3712 .f32)
  (x4 : Vec Ideal S1x512 .f32) (x5 : Vec Ideal S1x512 .f32) (x6 : Vec Ideal S512x128 .bf16) (x7 : Vec Ideal S512x512 .bf16) (x8 s0 : Vec Ideal S1x128 .f32)

/-- The projection the values are taken from. -/
theorem groupA_at (r q : Fin 512) :
    kernelRun0_A.sl.r_4 (F := Ideal) c a1 h1 a2 h2 a3 h3 a4 h4 X G W B (ix2 r q)
      = column (fun l => X (ix2 r l)) (fun l => G (ix2 0 l)) (fun k => W (ix2 k ⟨1024 + q.val, by have := q.isLt; omega⟩)) (B (ix2 0 ⟨1024 + q.val, by have := q.isLt; omega⟩)) := by
  unfold kernelRun0_A.sl.r_4
  refine (group_at _ _ _ r q).trans ?_
  refine congrArg₂ (fun y z : EReal => y + z) (Finset.sum_congr rfl fun k _ => congrArg₂ (fun y z : EReal => y * z) ?_ ?_) ?_
  · unfold kernelRun0_A.sl.r
    exact norms_at a1 h1 a2 h2 X G r k
  · exact loadW a3 h3 W 1024 512 _ k q _ rfl
  · exact loadB a4 h4 B 1024 512 _ q _ rfl

theorem valuesA_at (hc : cond0_0 i) (r : Fin 512) (q : Fin 1024) :
    out0_A_11 (F := Ideal) c i a1 h1 a2 h2 a3 h3 a4 h4 a5 h5 a6 h6 a7 h7 a8 h8 a9 h9 a10 h10 a11 h11 a12 h12 a13 h13 a14 h14 a15 h15 a16 h16 hc X G W B x4 x5 x6 x7 x8 (ix2 r q)
      = spread (fun j => column (fun l => X (ix2 r l)) (fun l => G (ix2 0 l)) (fun k => W (ix2 k ⟨1024 + j.val, by have := j.isLt; omega⟩)) (B (ix2 0 ⟨1024 + j.val, by have := j.isLt; omega⟩))) q := by
  refine Eq.trans ?_ (congrArg (fun f => spread f q) (funext fun j => groupA_at c a1 h1 a2 h2 a3 h3 a4 h4 X G W B r j))
  unfold out0_A_11
  rw [View.read_writes_junk_eq_canon]
  unfold kernelRun0_A
  dsimp only
  generalize kernelRun0_A.sl.r_4 (F := Ideal) c a1 h1 a2 h2 a3 h3 a4 h4 X G W B = v
  unfold kernelRun0_A.sl.v179
  exact heads_at _ _ _ _ _ _ _ _ (spread fun j => v (ix2 r j)) r (head0_at v r) (head1_at v r) (head2_at v r) (head3_at v r) (head4_at v r) (head5_at v r) (head6_at v r) (head7_at v r) q

/-- The projection the values are taken from. -/
theorem groupB_at (r q : Fin 512) :
    kernelRun0_B.sl.r_4 (F := Ideal) c a1 h1 a2 h2 a3 h3 a4 h4 X G W B (ix2 r q)
      = column (fun l => X (ix2 r l)) (fun l => G (ix2 0 l)) (fun k => W (ix2 k ⟨1024 + q.val, by have := q.isLt; omega⟩)) (B (ix2 0 ⟨1024 + q.val, by have := q.isLt; omega⟩)) := by
  unfold kernelRun0_B.sl.r_4
  refine (group_at _ _ _ r q).trans ?_
  refine congrArg₂ (fun y z : EReal => y + z) (Finset.sum_congr rfl fun k _ => congrArg₂ (fun y z : EReal => y * z) ?_ ?_) ?_
  · unfold kernelRun0_B.sl.r
    exact norms_at a1 h1 a2 h2 X G r k
  · exact loadW a3 h3 W 1024 512 _ k q _ rfl
  · exact loadB a4 h4 B 1024 512 _ q _ rfl

theorem valuesB_at (hc : ¬cond0_0 i) (r : Fin 512) (q : Fin 1024) :
    out0_B_11 (F := Ideal) c i a1 h1 a2 h2 a3 h3 a4 h4 a5 h5 a6 h6 a7 h7 a8 h8 a9 h9 a10 h10 a11 h11 a12 h12 a13 h13 a14 h14 a15 h15 a16 h16 hc X G W B x4 x5 x6 x7 x8 s0 (ix2 r q)
      = spread (fun j => column (fun l => X (ix2 r l)) (fun l => G (ix2 0 l)) (fun k => W (ix2 k ⟨1024 + j.val, by have := j.isLt; omega⟩)) (B (ix2 0 ⟨1024 + j.val, by have := j.isLt; omega⟩))) q := by
  refine Eq.trans ?_ (congrArg (fun f => spread f q) (funext fun j => groupB_at c a1 h1 a2 h2 a3 h3 a4 h4 X G W B r j))
  unfold out0_B_11
  rw [View.read_writes_junk_eq_canon]
  unfold kernelRun0_B
  dsimp only
  generalize kernelRun0_B.sl.r_4 (F := Ideal) c a1 h1 a2 h2 a3 h3 a4 h4 X G W B = v
  unfold kernelRun0_B.sl.v179
  exact heads_at _ _ _ _ _ _ _ _ (spread fun j => v (ix2 r j)) r (head0_at v r) (head1_at v r) (head2_at v r) (head3_at v r) (head4_at v r) (head5_at v r) (head6_at v r) (head7_at v r) q

end Run

end Cert.Proof.Proj
-- ==== Proof.Proj.Array.lean ====
module

public import proofs.«01_k».proof.Proof.Proj.Pack
public import proofs.«01_k».proof.Proof.Proj.Values

@[expose] public section

set_option maxRecDepth 16384
set_option maxHeartbeats 4000000

noncomputable section

namespace Cert.Proof.Proj

open Cert.Kernel4Ideal Cert.Kernel4Ideal.Gen
open Idealize.ShloMosaic Idealize.ShloMosaic.TcCoe Idealize.ShloMosaic.Tactic
open Idealize.ShloMosaic.Pipeline

/-! # The whole result arrays -/

variable (m : (ℓ : Loc nD τ sig) → Buf (Elt Ideal) ℓ) (c : Dev nD)

abbrev argX : S16384x1024.Idx → EReal := m ((c : Thread nD τ).loc main_arg0)
abbrev argG : S1024.Idx → EReal := m ((c : Thread nD τ).loc main_arg1)
abbrev argW : S1024x3600.Idx → EReal := m ((c : Thread nD τ).loc main_arg2)
abbrev argB : S3600.Idx → EReal := m ((c : Thread nD τ).loc main_arg3)

/-! ## What the host leaves for the kernel -/

theorem gain_eq (k : Fin 1024) : (V m c main_v18 : S1x1024.Idx → EReal) (ix2 0 k) = argG m c (ix1 k) := by
  have h : V m c main_v18 = broadcastInDim S1x1024 ![1] bcast_S1024_S1x1024_1 (argG m c) := by
    unfold V
    after_results_simp
  rw [h]
  pointwise

theorem weights_eq : (V m c main_v26 : S1024x3712.Idx → EReal) = packW (argW m c) := by
  unfold V
  after_results_simp
  rfl

theorem bias_eq : (V m c main_v34 : S1x3712.Idx → EReal) = packB (argB m c) := by
  unfold V
  after_results_simp
  rfl

/-! ## The blocks of a step -/

theorem ix_0 : ∀ t : Fin grid0.N, cc0_transform_0 (grid0.coords t) = ![t.val, 0] := by decide +kernel
theorem ix_11 : ∀ t : Fin grid0.N, cc0_transform_11 (grid0.coords t) = ![t.val, 0] := by decide +kernel
theorem ix_12 : ∀ t : Fin grid0.N, cc0_transform_12 (grid0.coords t) = ![t.val, 0] := by decide +kernel
theorem ix_13 : ∀ t : Fin grid0.N, cc0_transform_13 (grid0.coords t) = ![t.val, 0] := by decide +kernel

theorem iblk0_at (t : Fin cfg0.N) (r : Fin 512) (k : Fin 1024) (R : Fin 16384) (hR : R.val = t.val * 512 + r.val) :
    (iblk m c 0 t : S512x1024.Idx → EReal) (ix2 r k) = argX m c (ix2 R k) := by
  refine Eq.trans ?_ (congrFun (V_main_arg0 m c) _)
  blk_simp [iblk]
  congr 1
  have e := ix_0 t
  funext a
  match a with
  | ⟨0, _⟩ =>
    refine Fin.ext (Eq.trans (b := cc0_transform_0 (grid0.coords t) 0 * 512 + 1 * r.val) rfl ?_)
    rw [e]; show _ = R.val; rw [hR]; simp
  | ⟨1, _⟩ =>
    refine Fin.ext (Eq.trans (b := cc0_transform_0 (grid0.coords t) 1 * 1024 + 1 * k.val) rfl ?_)
    rw [e]; show _ = k.val; simp

theorem iblk1_eq (t : Fin cfg0.N) : (iblk m c 1 t : S1x1024.Idx → EReal) = V m c main_v18 := by
  funext y
  blk_simp [iblk]
  congr 1
  funext a
  match a with
  | ⟨0, _⟩ => exact Fin.ext (Eq.trans (b := 0 * 1 + 1 * (y 0).val) rfl (by simp))
  | ⟨1, _⟩ => exact Fin.ext (Eq.trans (b := 0 * 1024 + 1 * (y 1).val) rfl (by simp))

theorem iblk2_eq (t : Fin cfg0.N) : (iblk m c 2 t : S1024x3712.Idx → EReal) = V m c main_v26 := by
  funext y
  blk_simp [iblk]
  congr 1
  funext a
  match a with
  | ⟨0, _⟩ => exact Fin.ext (Eq.trans (b := 0 * 1024 + 1 * (y 0).val) rfl (by simp))
  | ⟨1, _⟩ => exact Fin.ext (Eq.trans (b := 0 * 3712 + 1 * (y 1).val) rfl (by simp))

theorem iblk3_eq (t : Fin cfg0.N) : (iblk m c 3 t : S1x3712.Idx → EReal) = V m c main_v34 := by
  funext y
  blk_simp [iblk]
  congr 1
  funext a
  match a with
  | ⟨0, _⟩ => exact Fin.ext (Eq.trans (b := 0 * 1 + 1 * (y 0).val) rfl (by simp))
  | ⟨1, _⟩ => exact Fin.ext (Eq.trans (b := 0 * 3712 + 1 * (y 1).val) rfl (by simp))

/-- A column of a step's rows, from the arguments. -/
theorem step_column (t : Fin cfg0.N) (r : Fin 512) (j : Fin 3712) (R : Fin 16384) (hR : R.val = t.val * 512 + r.val) :
    column (fun l => (iblk m c 0 t : S512x1024.Idx → EReal) (ix2 r l)) (fun l => (iblk m c 1 t : S1x1024.Idx → EReal) (ix2 0 l))
      (fun k => (iblk m c 2 t : S1024x3712.Idx → EReal) (ix2 k j)) ((iblk m c 3 t : S1x3712.Idx → EReal) (ix2 0 j))
      = column (fun k => argX m c (ix2 R k)) (fun k => argG m c (ix1 k)) (fun k => packW (argW m c) (ix2 k j)) (packB (argB m c) (ix2 0 j)) := by
  have h0 : (fun l => (iblk m c 0 t : S512x1024.Idx → EReal) (ix2 r l)) = fun k => argX m c (ix2 R k) := funext fun l => iblk0_at m c t r l R hR
  have h1 : (fun l => (iblk m c 1 t : S1x1024.Idx → EReal) (ix2 0 l)) = fun k => argG m c (ix1 k) := funext fun l => (congrFun (iblk1_eq m c t) _).trans (gain_eq m c l)
  have h2 : (fun k => (iblk m c 2 t : S1024x3712.Idx → EReal) (ix2 k j)) = fun k => packW (argW m c) (ix2 k j) := funext fun k => congrFun ((iblk2_eq m c t).trans (weights_eq m c)) _
  have h3 : (iblk m c 3 t : S1x3712.Idx → EReal) (ix2 0 j) = packB (argB m c) (ix2 0 j) := congrFun ((iblk3_eq m c t).trans (bias_eq m c)) _
  rw [h0, h1, h2, h3]

/-! ## The three arrays -/

/-- The columns of the rest. -/
def restArr : S16384x2048.Idx → EReal := fun i =>
  restTotal (argX m c) (argG m c) (argW m c) (argB m c) ⟨(i 0).val, (i 0).isLt⟩ ⟨(i 1).val, (i 1).isLt⟩

/-- The columns of the gates. -/
def gateArr : S16384x128.Idx → EReal := fun i =>
  gateTotal (argX m c) (argG m c) (argW m c) (argB m c) ⟨(i 0).val, (i 0).isLt⟩ ⟨(i 1).val, (i 1).isLt⟩

/-- The values. -/
def valueArr : S16384x1024.Idx → EReal := fun i =>
  valueTotal (argX m c) (argG m c) (argW m c) (argB m c) ⟨(i 0).val, (i 0).isLt⟩ ⟨(i 1).val, (i 1).isLt⟩

theorem rest_outs (t : Fin cfg0.N) (r : Fin 512) (q : Fin 2048) (R : Fin 16384) (hR : R.val = t.val * 512 + r.val) :
    ((outsAt0 m c t.val t.isLt).2.2.2.1 : S512x2048.Idx → EReal) (ix2 r q) = restTotal (argX m c) (argG m c) (argW m c) (argB m c) R q := by
  refine Eq.trans ?_ ((step_column m c t r _ R hR).trans (rest_column (argW m c) (argB m c) (argX m c) (argG m c) R q ⟨1536 + q.val, by have := q.isLt; omega⟩ rfl))
  by_cases h : t.val % 16 = 0
  · rw [outsAt0_A m c t h]
    dsimp only
    exact restA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h) r q
  · rw [outsAt0_B m c t h]
    dsimp only
    exact restB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) _ (fun z => h ((hcond0_0 t).mp z)) r q

theorem rest_emb0 (t : Fin cfg0.N) (y : S512x2048.Idx) : (((cfg0.win 12).blk t).view.emb y 0).val = t.val * 512 + (y 0).val := by
  refine Eq.trans (b := cc0_transform_12 (grid0.coords t) 0 * 512 + 1 * (y 0).val) rfl ?_
  rw [ix_12 t]; simp

theorem rest_emb1 (t : Fin cfg0.N) (y : S512x2048.Idx) : (((cfg0.win 12).blk t).view.emb y 1).val = (y 1).val := by
  refine Eq.trans (b := cc0_transform_12 (grid0.coords t) 1 * 2048 + 1 * (y 1).val) rfl ?_
  rw [ix_12 t]; simp

theorem rest_res (t : Fin cfg0.N) (y : S512x2048.Idx) (i : S16384x2048.Idx) (h0 : (i 0).val = t.val * 512 + (y 0).val) (h1 : (i 1).val = (y 1).val) :
    ((outsAt0 m c t.val t.isLt).2.2.2.1 : S512x2048.Idx → EReal) y = restArr m c i := by
  obtain ⟨r, q, rfl⟩ : ∃ (r : Fin 512) (q : Fin 2048), y = (ix2 r q : S512x2048.Idx) := ⟨y 0, y 1, eq_ix2 _⟩
  refine (rest_outs m c t r q ⟨(i 0).val, (i 0).isLt⟩ h0).trans ?_
  have e : q = ⟨(i 1).val, (i 1).isLt⟩ := Fin.ext h1.symm
  exact congrArg (restTotal (argX m c) (argG m c) (argW m c) (argB m c) ⟨(i 0).val, (i 0).isLt⟩) e

theorem rest_covers : (cfg0.win 12).Covers := by decide +kernel

theorem rest_final : (dats m 0 c).arrAt 12 cfg0.N = restArr m c := by
  refine (dats m 0 c).arrAt_eq_of_covers 12 (restArr m c) rest_covers fun t _ y => ?_
  have key := rest_res m c t
  rw [after0_12]
  generalize (outsAt0 m c t.val t.isLt).2.2.2.1 = block at key ⊢
  exact key y _ (rest_emb0 t y) (rest_emb1 t y)

theorem gates_outs (t : Fin cfg0.N) (r : Fin 512) (q : Fin 128) (R : Fin 16384) (hR : R.val = t.val * 512 + r.val) :
    ((outsAt0 m c t.val t.isLt).2.2.2.2.1 : S512x128.Idx → EReal) (ix2 r q) = gateTotal (argX m c) (argG m c) (argW m c) (argB m c) R q := by
  refine Eq.trans ?_ ((step_column m c t r _ R hR).trans (gate_column (argW m c) (argB m c) (argX m c) (argG m c) R q ⟨3584 + q.val, by have := q.isLt; omega⟩ rfl))
  by_cases h : t.val % 16 = 0
  · rw [outsAt0_A m c t h]
    dsimp only
    exact gatesA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h) r q
  · rw [outsAt0_B m c t h]
    dsimp only
    exact gatesB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) _ (fun z => h ((hcond0_0 t).mp z)) r q

theorem gates_emb0 (t : Fin cfg0.N) (y : S512x128.Idx) : (((cfg0.win 13).blk t).view.emb y 0).val = t.val * 512 + (y 0).val := by
  refine Eq.trans (b := cc0_transform_13 (grid0.coords t) 0 * 512 + 1 * (y 0).val) rfl ?_
  rw [ix_13 t]; simp

theorem gates_emb1 (t : Fin cfg0.N) (y : S512x128.Idx) : (((cfg0.win 13).blk t).view.emb y 1).val = (y 1).val := by
  refine Eq.trans (b := cc0_transform_13 (grid0.coords t) 1 * 128 + 1 * (y 1).val) rfl ?_
  rw [ix_13 t]; simp

theorem gates_res (t : Fin cfg0.N) (y : S512x128.Idx) (i : S16384x128.Idx) (h0 : (i 0).val = t.val * 512 + (y 0).val) (h1 : (i 1).val = (y 1).val) :
    ((outsAt0 m c t.val t.isLt).2.2.2.2.1 : S512x128.Idx → EReal) y = gateArr m c i := by
  obtain ⟨r, q, rfl⟩ : ∃ (r : Fin 512) (q : Fin 128), y = (ix2 r q : S512x128.Idx) := ⟨y 0, y 1, eq_ix2 _⟩
  refine (gates_outs m c t r q ⟨(i 0).val, (i 0).isLt⟩ h0).trans ?_
  have e : q = ⟨(i 1).val, (i 1).isLt⟩ := Fin.ext h1.symm
  exact congrArg (gateTotal (argX m c) (argG m c) (argW m c) (argB m c) ⟨(i 0).val, (i 0).isLt⟩) e

theorem gates_covers : (cfg0.win 13).Covers := by decide +kernel

theorem gates_final : (dats m 0 c).arrAt 13 cfg0.N = gateArr m c := by
  refine (dats m 0 c).arrAt_eq_of_covers 13 (gateArr m c) gates_covers fun t _ y => ?_
  have key := gates_res m c t
  rw [after0_13]
  generalize (outsAt0 m c t.val t.isLt).2.2.2.2.1 = block at key ⊢
  exact key y _ (gates_emb0 t y) (gates_emb1 t y)

theorem values_outs (t : Fin cfg0.N) (r : Fin 512) (q : Fin 1024) (R : Fin 16384) (hR : R.val = t.val * 512 + r.val) :
    ((outsAt0 m c t.val t.isLt).2.2.1 : S512x1024.Idx → EReal) (ix2 r q) = valueTotal (argX m c) (argG m c) (argW m c) (argB m c) R q := by
  refine Eq.trans ?_ (congrArg (fun f => spread f q) (funext fun j => (step_column m c t r ⟨1024 + j.val, by have := j.isLt; omega⟩ R hR).trans (value_column (argW m c) (argB m c) (argX m c) (argG m c) R j)))
  by_cases h : t.val % 16 = 0
  · rw [outsAt0_A m c t h]
    dsimp only
    exact valuesA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h) r q
  · rw [outsAt0_B m c t h]
    dsimp only
    exact valuesB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) _ (fun z => h ((hcond0_0 t).mp z)) r q

theorem values_emb0 (t : Fin cfg0.N) (y : S512x1024.Idx) : (((cfg0.win 11).blk t).view.emb y 0).val = t.val * 512 + (y 0).val := by
  refine Eq.trans (b := cc0_transform_11 (grid0.coords t) 0 * 512 + 1 * (y 0).val) rfl ?_
  rw [ix_11 t]; simp

theorem values_emb1 (t : Fin cfg0.N) (y : S512x1024.Idx) : (((cfg0.win 11).blk t).view.emb y 1).val = (y 1).val := by
  refine Eq.trans (b := cc0_transform_11 (grid0.coords t) 1 * 1024 + 1 * (y 1).val) rfl ?_
  rw [ix_11 t]; simp

theorem values_res (t : Fin cfg0.N) (y : S512x1024.Idx) (i : S16384x1024.Idx) (h0 : (i 0).val = t.val * 512 + (y 0).val) (h1 : (i 1).val = (y 1).val) :
    ((outsAt0 m c t.val t.isLt).2.2.1 : S512x1024.Idx → EReal) y = valueArr m c i := by
  obtain ⟨r, q, rfl⟩ : ∃ (r : Fin 512) (q : Fin 1024), y = (ix2 r q : S512x1024.Idx) := ⟨y 0, y 1, eq_ix2 _⟩
  refine (values_outs m c t r q ⟨(i 0).val, (i 0).isLt⟩ h0).trans ?_
  have e : q = ⟨(i 1).val, (i 1).isLt⟩ := Fin.ext h1.symm
  exact congrArg (valueTotal (argX m c) (argG m c) (argW m c) (argB m c) ⟨(i 0).val, (i 0).isLt⟩) e

theorem values_covers : (cfg0.win 11).Covers := by decide +kernel

theorem values_final : (dats m 0 c).arrAt 11 cfg0.N = valueArr m c := by
  refine (dats m 0 c).arrAt_eq_of_covers 11 (valueArr m c) values_covers fun t _ y => ?_
  have key := values_res m c t
  rw [after0_11]
  generalize (outsAt0 m c t.val t.isLt).2.2.1 = block at key ⊢
  exact key y _ (values_emb0 t y) (values_emb1 t y)

end Cert.Proof.Proj
-- ==== Proof.Proj.Reference.lean ====
module

public import proofs.«01_k».proof.Proof.Gen.Reference4Ideal.Run
public import proofs.«01_k».proof.Proof.Proj.Words

@[expose] public section

set_option maxRecDepth 16384
set_option maxHeartbeats 4000000

noncomputable section

namespace Cert.Proof.Proj

open Cert.Reference4Ideal Cert.Reference4Ideal.Gen
open Idealize.ShloMosaic Idealize.ShloMosaic.TcCoe

/-! # The input projection's reference, entry by entry -/

variable (x : FVec Ideal S16384x1024 .f32) (g : FVec Ideal S1024 .f32) (w : FVec Ideal S1024x3600 .f32) (b : FVec Ideal S3600 .f32)

/-- The rows, normalised. -/
def rNorm : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Their projection. -/
def rProj : FVec Ideal S16384x3600 .f32 :=
  addf (Host.dotGeneral dot_S16384x1024_S1024x3600_S16384x3600_1_0_0_1_n_n none (rNorm x g) w)
    (broadcastInDim S16384x3600 ![0, 1] bcast_S1x3600_S16384x3600_0_1 (broadcastInDim S1x3600 ![1] bcast_S3600_S1x3600_1 b))

/-- The columns the other mixers and the output gates read. -/
def rRest : FVec Ideal S16384x2048 .bf16 :=
  truncf .bf16 (concatenate S16384x2048 1 [⟨S16384x768, extractStridedSlice S16384x768 ![0, 1544] (rProj x g w b) slices_S16384x3600_S16384x768_0_1544⟩,
    ⟨S16384x1280, extractStridedSlice S16384x1280 ![0, 2320] (rProj x g w b) slices_S16384x3600_S16384x1280_0_2320⟩]
    concatenates_S16384x768_S16384x1280_S16384x2048_d1) bitsLt_bf16_f32

/-- The columns of the gates. -/
def rGates : FVec Ideal S16384x128 .f32 :=
  concatenate S16384x128 1 [⟨S16384x8, (extractStridedSlice S16384x8 ![0, 1536] (rProj x g w b) slices_S16384x3600_S16384x8_0_1536 : (⟨S16384x8, .f32⟩ : BufTy).Contents (Elt Ideal))⟩,
    ⟨S16384x8, (extractStridedSlice S16384x8 ![0, 2312] (rProj x g w b) slices_S16384x3600_S16384x8_0_2312 : (⟨S16384x8, .f32⟩ : BufTy).Contents (Elt Ideal))⟩,
    ⟨S16384x112, (broadcastInDim S16384x112 ![] bcast_S_S16384x112 (constant (F := Ideal) S_ .f32 0x00000000#32) : (⟨S16384x112, .f32⟩ : BufTy).Contents (Elt Ideal))⟩]
    concatenates_S16384x8_S16384x8_S16384x112_S16384x128_d1

/-- The values of the heads, each with a one and zeros after it. -/
def rHeads : FVec Ideal S16384x8x128 .f32 :=
  concatenate S16384x8x128 2 [⟨S16384x8x64, (shapeCast _ (extractStridedSlice S16384x512 ![0, 1024] (rProj x g w b) slices_S16384x3600_S16384x512_0_1024) shapeCasts_S16384x512_S16384x8x64 : (⟨S16384x8x64, .f32⟩ : BufTy).Contents (Elt Ideal))⟩,
    ⟨S16384x8x1, (broadcastInDim S16384x8x1 ![] bcast_S_S16384x8x1 (constant (F := Ideal) S_ .f32 0x3F800000#32) : (⟨S16384x8x1, .f32⟩ : BufTy).Contents (Elt Ideal))⟩,
    ⟨S16384x8x63, (broadcastInDim S16384x8x63 ![] bcast_S_S16384x8x63 (constant (F := Ideal) S_ .f32 0x00000000#32) : (⟨S16384x8x63, .f32⟩ : BufTy).Contents (Elt Ideal))⟩]
    concatenates_S16384x8x64_S16384x8x1_S16384x8x63_S16384x8x128_d2

/-- The same, the heads side by side. -/
def rValues : FVec Ideal S16384x1024 .bf16 :=
  truncf .bf16 (shapeCast _ (rHeads x g w b) shapeCasts_S16384x8x128_S16384x1024) bitsLt_bf16_f32

theorem rNorm_at (r : Fin 16384) (k : Fin 1024) : rNorm x g (ix2 r k) = normed (fun l => x (ix2 r l)) (fun l => g (ix1 l)) k := by
  pointwise [rNorm, normed]

theorem rProj_at (r : Fin 16384) (j : Fin 3600) : rProj x g w b (ix2 r j) = projected x g w b r j := by
  pointwise [rProj]
  refine congrArg (fun z : EReal => z + _) (Finset.sum_congr rfl fun k _ => ?_)
  exact congrArg (fun z : EReal => z * _) (rNorm_at x g r k)

theorem rRest_first (r : Fin 16384) (l : Fin 768) :
    rRest x g w b (ix2 r ⟨l.val, by have := l.isLt; omega⟩) = projected x g w b r ⟨1544 + l.val, by have := l.isLt; omega⟩ := by
  have hl := l.isLt
  refine Eq.trans (b := rProj x g w b (ix2 r ⟨1544 + l.val, by omega⟩)) ?_ (rProj_at x g w b r _)
  pointwise [rRest]

theorem rRest_second (r : Fin 16384) (l : Fin 1280) :
    rRest x g w b (ix2 r ⟨768 + l.val, by have := l.isLt; omega⟩) = projected x g w b r ⟨2320 + l.val, by have := l.isLt; omega⟩ := by
  have hl := l.isLt
  refine Eq.trans (b := rProj x g w b (ix2 r ⟨2320 + l.val, by omega⟩)) ?_ (rProj_at x g w b r _)
  pointwise [rRest]

theorem rGates_first (r : Fin 16384) (l : Fin 8) :
    rGates x g w b (ix2 r ⟨l.val, by have := l.isLt; omega⟩) = projected x g w b r ⟨1536 + l.val, by have := l.isLt; omega⟩ := by
  have hl := l.isLt
  refine Eq.trans (b := rProj x g w b (ix2 r ⟨1536 + l.val, by omega⟩)) ?_ (rProj_at x g w b r _)
  pointwise [rGates]

theorem rGates_second (r : Fin 16384) (l : Fin 8) :
    rGates x g w b (ix2 r ⟨8 + l.val, by have := l.isLt; omega⟩) = projected x g w b r ⟨2312 + l.val, by have := l.isLt; omega⟩ := by
  have hl := l.isLt
  refine Eq.trans (b := rProj x g w b (ix2 r ⟨2312 + l.val, by omega⟩)) ?_ (rProj_at x g w b r _)
  pointwise [rGates]

theorem rGates_third (r : Fin 16384) (l : Fin 112) :
    rGates x g w b (ix2 r ⟨8 + (8 + l.val), by have := l.isLt; omega⟩) = (0 : EReal) := by
  have hl := l.isLt
  pointwise [rGates]

theorem rRest_at (r : Fin 16384) (q : Fin 2048) : rRest x g w b (ix2 r q) = restTotal x g w b r q := by
  have hq := q.isLt
  unfold restTotal
  by_cases c : q.val < 768
  · rw [dif_pos c]
    exact rRest_first x g w b r ⟨q.val, c⟩
  · rw [dif_neg c]
    refine Eq.trans (congrArg (fun z => rRest x g w b (ix2 r z)) (Fin.ext (by show q.val = 768 + (q.val - 768); omega))) (rRest_second x g w b r ⟨q.val - 768, by omega⟩)

theorem rGates_at (r : Fin 16384) (q : Fin 128) : rGates x g w b (ix2 r q) = gateTotal x g w b r q := by
  have hq := q.isLt
  unfold gateTotal
  by_cases c : q.val < 8
  · rw [dif_pos c]
    exact rGates_first x g w b r ⟨q.val, c⟩
  · rw [dif_neg c]
    by_cases d : q.val < 16
    · rw [dif_pos d]
      refine Eq.trans (congrArg (fun z => rGates x g w b (ix2 r z)) (Fin.ext (by show q.val = 8 + (q.val - 8); omega))) (rGates_second x g w b r ⟨q.val - 8, by omega⟩)
    · rw [dif_neg d]
      refine Eq.trans (congrArg (fun z => rGates x g w b (ix2 r z)) (Fin.ext (by show q.val = 8 + (8 + (q.val - 16)); omega))) (rGates_third x g w b r ⟨q.val - 16, by omega⟩)

theorem rHeads_first (r : Fin 16384) (h : Fin 8) (l : Fin 64) :
    rHeads x g w b (ix3 r h ⟨l.val, by have := l.isLt; omega⟩) = projected x g w b r ⟨1024 + (64 * h.val + l.val), by have := l.isLt; have := h.isLt; omega⟩ := by
  have hl := l.isLt
  have hh := h.isLt
  refine Eq.trans (b := rProj x g w b (ix2 r ⟨1024 + (64 * h.val + l.val), by omega⟩)) ?_ (rProj_at x g w b r _)
  pointwise [rHeads]
  exact congrArg (fun z => rProj x g w b (ix2 r z)) (Fin.ext (by show 1024 + (h.val * 64 + l.val) = 1024 + (64 * h.val + l.val); omega))

theorem rHeads_second (r : Fin 16384) (h : Fin 8) (l : Fin 1) : rHeads x g w b (ix3 r h ⟨64 + l.val, by have := l.isLt; omega⟩) = (1 : EReal) := by
  have hl := l.isLt
  pointwise [rHeads]

theorem rHeads_third (r : Fin 16384) (h : Fin 8) (l : Fin 63) : rHeads x g w b (ix3 r h ⟨64 + (1 + l.val), by have := l.isLt; omega⟩) = (0 : EReal) := by
  have hl := l.isLt
  pointwise [rHeads]

theorem rValues_head (r : Fin 16384) (q : Fin 1024) :
    (rValues x g w b (ix2 r q) : EReal) = rHeads x g w b (ix3 r ⟨q.val / 128, by have := q.isLt; omega⟩ ⟨q.val % 128, by omega⟩) := by
  have hq := q.isLt
  pointwise [rValues]

theorem rValues_at (r : Fin 16384) (q : Fin 1024) : rValues x g w b (ix2 r q) = valueTotal x g w b r q := by
  have hq := q.isLt
  refine (rValues_head x g w b r q).trans ?_
  unfold valueTotal spread
  by_cases c : q.val % 128 < 64
  · rw [dif_pos c]
    exact rHeads_first x g w b r ⟨q.val / 128, by omega⟩ ⟨q.val % 128, c⟩
  · rw [dif_neg c]
    by_cases d : q.val % 128 = 64
    · rw [if_pos d]
      exact (congrArg (fun z => rHeads x g w b (ix3 r ⟨q.val / 128, by omega⟩ z)) (Fin.ext d)).trans (rHeads_second x g w b r ⟨q.val / 128, by omega⟩ 0)
    · rw [if_neg d]
      exact (congrArg (fun z => rHeads x g w b (ix3 r ⟨q.val / 128, by omega⟩ z)) (Fin.ext (by show q.val % 128 = 64 + (1 + (q.val % 128 - 65)); omega))).trans
        (rHeads_third x g w b r ⟨q.val / 128, by omega⟩ ⟨q.val % 128 - 65, by omega⟩)

end Cert.Proof.Proj
-- ==== Proof.Proj.Equation.lean ====
module

public import proofs.«01_k».proof.Proof.Proj.Array
public import proofs.«01_k».proof.Proof.Proj.Reference

@[expose] public section

noncomputable section

namespace Cert.Proof.Proj

open Idealize.ShloMosaic Idealize.ShloMosaic.TcCoe

/-! # The kernel's arrays are the reference's -/

section Same

variable (m : (ℓ : Loc Cert.Kernel4Ideal.nD Cert.Kernel4Ideal.τ Cert.Kernel4Ideal.sig) → Buf (Elt Ideal) ℓ) (c : Dev Cert.Kernel4Ideal.nD)
  (x : FVec Ideal Cert.Reference4Ideal.S16384x1024 .f32) (g : FVec Ideal Cert.Reference4Ideal.S1024 .f32) (w : FVec Ideal Cert.Reference4Ideal.S1024x3600 .f32)
  (b : FVec Ideal Cert.Reference4Ideal.S3600 .f32)

/-- From the same arguments the reference's array is the kernel's. -/
theorem rRest_same (e0 : x = argX m c) (e1 : g = argG m c) (e2 : w = argW m c) (e3 : b = argB m c) : rRest x g w b = restArr m c := by
  subst e0 e1 e2 e3
  funext i
  obtain ⟨r, q, rfl⟩ : ∃ (r : Fin 16384) (q : Fin 2048), i = (ix2 r q : Cert.Reference4Ideal.S16384x2048.Idx) := ⟨i 0, i 1, eq_ix2 _⟩
  exact rRest_at (argX m c) (argG m c) (argW m c) (argB m c) r q

/-- From the same arguments the reference's array is the kernel's. -/
theorem rGates_same (e0 : x = argX m c) (e1 : g = argG m c) (e2 : w = argW m c) (e3 : b = argB m c) : rGates x g w b = gateArr m c := by
  subst e0 e1 e2 e3
  funext i
  obtain ⟨r, q, rfl⟩ : ∃ (r : Fin 16384) (q : Fin 128), i = (ix2 r q : Cert.Reference4Ideal.S16384x128.Idx) := ⟨i 0, i 1, eq_ix2 _⟩
  exact rGates_at (argX m c) (argG m c) (argW m c) (argB m c) r q

/-- From the same arguments the reference's array is the kernel's. -/
theorem rValues_same (e0 : x = argX m c) (e1 : g = argG m c) (e2 : w = argW m c) (e3 : b = argB m c) : rValues x g w b = valueArr m c := by
  subst e0 e1 e2 e3
  funext i
  obtain ⟨r, q, rfl⟩ : ∃ (r : Fin 16384) (q : Fin 1024), i = (ix2 r q : Cert.Reference4Ideal.S16384x1024.Idx) := ⟨i 0, i 1, eq_ix2 _⟩
  exact rValues_at (argX m c) (argG m c) (argW m c) (argB m c) r q

end Same

end Cert.Proof.Proj
-- ==== Proof.Fox.Words.lean ====
/-
  The integer arithmetic of one attention step: which keys its two loops visit. The step's coordinate is `i`, its table
  word `n` the first block of 512 keys it reads; a word of the table is at most twice the step's position along the rows.
  Each fact is a closed form decided once over the eight positions and the fifteen words.
-/
module

public import proofs.«01_k».proof.Proof.Gen.KernelIdeal.Skeleton

@[expose] public section

set_option maxRecDepth 16384

noncomputable section

namespace Cert.Proof.Fox

open Cert.KernelIdeal Cert.KernelIdeal.Gen
open Idealize.ShloMosaic

/-- A coordinate of the grid whose third component is `a`. -/
def at2 (a : Fin 8) : grid0.Coords := fun | 0 => (0 : Fin 2) | 1 => (0 : Fin 4) | 2 => a

theorem chk_at : ∀ (a : Fin 8) (n : Fin 15), n.val ≤ 2 * a.val → k0_chk1 (at2 a) (BitVec.ofNat 32 n.val) := by
  decide +kernel

theorem trips1_at : ∀ (a : Fin 8) (n : Fin 15), n.val ≤ 2 * a.val →
    (k0_t1_loop (at2 a) (BitVec.ofNat 32 n.val)).trips = a.val - (n.val + 1) / 2 := by
  decide +kernel

theorem trips2_at : ∀ (a : Fin 8) (n : Fin 15), n.val ≤ 2 * a.val →
    (k0_t2_loop (at2 a) (BitVec.ofNat 32 n.val)).trips = 0 := by
  decide +kernel

theorem off4_at : ∀ (a : Fin 8) (n : Fin 15), n.val ≤ 2 * a.val →
    ∀ k : Fin (k0_t1_loop (at2 a) (BitVec.ofNat 32 n.val)).trips,
      k0_off4 (at2 a) (BitVec.ofNat 32 n.val) k = ![((n.val + 1) / 2 + k.val) * 1024, 0] := by
  decide +kernel

theorem off5_at : ∀ (a : Fin 8) (n : Fin 15), n.val ≤ 2 * a.val →
    ∀ k : Fin (k0_t1_loop (at2 a) (BitVec.ofNat 32 n.val)).trips,
      k0_off5 (at2 a) (BitVec.ofNat 32 n.val) k = ![((n.val + 1) / 2 + k.val) * 1024, 128] := by
  decide +kernel

theorem cond_at : ∀ n : Fin 15, k0_cond1 (BitVec.ofNat 32 n.val) = 1#1 ↔ n.val % 2 = 1 := by
  decide +kernel

theorem off2_at : ∀ n : Fin 15, k0_off2 (BitVec.ofNat 32 n.val) = ![n.val * 512, 0] := by decide +kernel
theorem off3_at : ∀ n : Fin 15, k0_off3 (BitVec.ofNat 32 n.val) = ![n.val * 512, 128] := by decide +kernel
theorem off8_at : ∀ a : Fin 8, k0_off8 (at2 a) = ![a.val * 1024, 0] := by decide +kernel
theorem off9_at : ∀ a : Fin 8, k0_off9 (at2 a) = ![a.val * 1024, 128] := by decide +kernel
theorem off10_at : ∀ a : Fin 8, k0_off10 (at2 a) = ![a.val * 1024, 0] := by decide +kernel
theorem off11_at : ∀ a : Fin 8, k0_off11 (at2 a) = ![a.val * 1024, 128] := by decide +kernel

theorem off1_at : ∀ (x : Fin 2) (y : Fin 4) (a : Fin 8),
    k0_off1 (fun | 0 => x | 1 => y | 2 => a) = ![(x.val * 4 + y.val) * 8 + a.val] := by decide +kernel

section
variable (i : grid0.Coords) (n : ℕ) (hn : n ≤ 2 * (i 2).val)
include hn
theorem n_lt : n < 15 := by have : (i 2).val < 8 := (i 2).isLt; omega

theorem chk : k0_chk1 i (BitVec.ofNat 32 n) := chk_at (i 2) ⟨n, n_lt i n hn⟩ hn
theorem trips1 : (k0_t1_loop i (BitVec.ofNat 32 n)).trips = (i 2).val - (n + 1) / 2 := trips1_at (i 2) ⟨n, n_lt i n hn⟩ hn
theorem trips2 : (k0_t2_loop i (BitVec.ofNat 32 n)).trips = 0 := trips2_at (i 2) ⟨n, n_lt i n hn⟩ hn
theorem off4 (k : Fin (k0_t1_loop i (BitVec.ofNat 32 n)).trips) :
    k0_off4 i (BitVec.ofNat 32 n) k = ![((n + 1) / 2 + k.val) * 1024, 0] := off4_at (i 2) ⟨n, n_lt i n hn⟩ hn k
theorem off5 (k : Fin (k0_t1_loop i (BitVec.ofNat 32 n)).trips) :
    k0_off5 i (BitVec.ofNat 32 n) k = ![((n + 1) / 2 + k.val) * 1024, 128] := off5_at (i 2) ⟨n, n_lt i n hn⟩ hn k
theorem cond : k0_cond1 (BitVec.ofNat 32 n) = 1#1 ↔ n % 2 = 1 := cond_at ⟨n, n_lt i n hn⟩
theorem off2 : k0_off2 (BitVec.ofNat 32 n) = ![n * 512, 0] := off2_at ⟨n, n_lt i n hn⟩
theorem off3 : k0_off3 (BitVec.ofNat 32 n) = ![n * 512, 128] := off3_at ⟨n, n_lt i n hn⟩
end

theorem off8 (i : grid0.Coords) : k0_off8 i = ![(i 2).val * 1024, 0] := off8_at (i 2)
theorem off9 (i : grid0.Coords) : k0_off9 i = ![(i 2).val * 1024, 128] := off9_at (i 2)
theorem off10 (i : grid0.Coords) : k0_off10 i = ![(i 2).val * 1024, 0] := off10_at (i 2)
theorem off11 (i : grid0.Coords) : k0_off11 i = ![(i 2).val * 1024, 128] := off11_at (i 2)
theorem off1 (i : grid0.Coords) : k0_off1 i = ![((i 0).val * 4 + (i 1).val) * 8 + (i 2).val] := off1_at (i 0) (i 1) (i 2)

end Cert.Proof.Fox

end
-- ==== Proof.Fox.Body.lean ====
module

public import proofs.«01_k».proof.Proof.Gen.KernelIdeal.Loops
public import proofs.«01_k».proof.Proof.Gen.KernelIdeal.Launch
public import proofs.«01_k».proof.Proof.Fox.Words
public import Idealize.ShloMosaic.Lib.WritesUnit
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
abbrev tb (c : Dev nD) (f : Bf (F := F) c (Memref.whole main_arg0)) : sProp 𝕄 :=
  (Memref.whole main_arg0).view.loc (c : Thread nD τ) ↦{fullShare.right} f

/-- The word of the table that the step at `i` reads. -/
def word (i : grid0.Coords) (c : Dev nD) (T : Bf (F := F) c (Memref.whole main_arg0)) : BitVec 32 :=
  ((Memref.whole main_arg0).access (Rect.unit (s := S64) (k0_off1 i) S1.size (k0_off1_inb i))).read (Elt F) T
    (Shape.Idx.first (numel1_S1.symm ▸ Nat.one_pos))

/-! ## What a step computes, from its block of queries, keys and values -/

section Values

variable (Y4 : S1024x256.Idx → Elt F .bf16) (Y5 Y6 : S8192x256.Idx → Elt F .bf16)
variable (i : grid0.Coords) (w : BitVec 32) (hw : k0_chk1 i w)

abbrev q0 := View.ld Y4 (Rect.unit (s := S1024x256) ![0, 0] S1024x128.size inb_S1024x256_S1024x128_0_0)
abbrev q1 := View.ld Y4 (Rect.unit (s := S1024x256) ![0, 128] S1024x128.size inb_S1024x256_S1024x128_0_128)

/-- The two heads' sums before the loop: the odd block of 512 keys, when there is one. -/
def start : FVec F S1024x128 .f32 × FVec F S1024x128 .f32 :=
  if h : k0_cond1 w = 1#1 then
    (k0_pay3 (q0 Y4) (View.ld Y5 (Rect.unit (k0_off2 w) S512x128.size (k0_off2_inb i w hw h)))
        (View.ld Y6 (Rect.unit (k0_off2 w) S512x128.size (k0_off2_inb i w hw h))),
      k0_pay4 (q1 Y4) (View.ld Y5 (Rect.unit (k0_off3 w) S512x128.size (k0_off3_inb i w hw h)))
        (View.ld Y6 (Rect.unit (k0_off3 w) S512x128.size (k0_off3_inb i w hw h))))
  else (k0_pay2, k0_pay2)

/-- The two heads' sums after `k` trips of the loop. -/
def sums (ini : FVec F S1024x128 .f32 × FVec F S1024x128 .f32) : ℕ → FVec F S1024x128 .f32 × FVec F S1024x128 .f32
  | 0 => ini
  | k + 1 =>
    if h : k < (k0_t1_loop i w).trips then
      (k0_pay5 (sums ini k).1 (q0 Y4) (View.ld Y5 (Rect.unit (k0_off4 i w ⟨k, h⟩) S1024x128.size (k0_off4_inb i w hw ⟨k, h⟩)))
          (View.ld Y6 (Rect.unit (k0_off4 i w ⟨k, h⟩) S1024x128.size (k0_off4_inb i w hw ⟨k, h⟩))),
        k0_pay6 (sums ini k).2 (q1 Y4) (View.ld Y5 (Rect.unit (k0_off5 i w ⟨k, h⟩) S1024x128.size (k0_off5_inb i w hw ⟨k, h⟩)))
          (View.ld Y6 (Rect.unit (k0_off5 i w ⟨k, h⟩) S1024x128.size (k0_off5_inb i w hw ⟨k, h⟩))))
    else sums ini k

/-- The two heads' sums over the keys before the step's own block. -/
abbrev before : FVec F S1024x128 .f32 × FVec F S1024x128 .f32 :=
  sums Y4 Y5 Y6 i w hw (start Y4 Y5 Y6 i w hw) (k0_t1_loop i w).trips

/-- The step's first 512 rows of the result, from the two heads' sums. -/
def top (ab : FVec F S1024x128 .f32 × FVec F S1024x128 .f32) : FVec F S512x128 .bf16 :=
  k0_pay14 (iota .tc S512x128 32 [1] iota_S512x128_d1_w32) k0_pay9
    (k0_pay10 ab.1 (View.ld Y4 (Rect.unit (s := S1024x256) ![0, 0] S512x128.size inb_S1024x256_S512x128_0_0))
      (View.ld Y5 (Rect.unit (s := S8192x256) (k0_off8 i) S512x128.size (k0_off8_inb i)))
      (View.ld Y6 (Rect.unit (s := S8192x256) (k0_off8 i) S512x128.size (k0_off8_inb i))))
    (k0_pay11 ab.2)
    (k0_pay12 (View.ld Y4 (Rect.unit (s := S1024x256) ![0, 128] S512x128.size inb_S1024x256_S512x128_0_128)))
    (k0_pay13 (View.ld Y5 (Rect.unit (s := S8192x256) (k0_off9 i) S512x128.size (k0_off9_inb i))))
    (View.ld Y6 (Rect.unit (s := S8192x256) (k0_off9 i) S512x128.size (k0_off9_inb i)))

/-- The step's last 512 rows of the result, from the two heads' sums. -/
def bottom (ab : FVec F S1024x128 .f32 × FVec F S1024x128 .f32) : FVec F S512x128 .bf16 :=
  k0_pay1 ab.2 (iota .tc S512x128 32 [1] iota_S512x128_d1_w32) k0_pay15 (k0_pay16 ab.1)
    (k0_pay17 (View.ld Y4 (Rect.unit (s := S1024x256) ![512, 0] S512x128.size inb_S1024x256_S512x128_512_0))
      (View.ld Y5 (Rect.unit (s := S8192x256) (k0_off10 i) S1024x128.size (k0_off10_inb i))))
    (k0_pay18 (View.ld Y6 (Rect.unit (s := S8192x256) (k0_off10 i) S1024x128.size (k0_off10_inb i))))
    (View.ld Y4 (Rect.unit (s := S1024x256) ![512, 128] S512x128.size inb_S1024x256_S512x128_512_128))
    (View.ld Y5 (Rect.unit (s := S8192x256) (k0_off11 i) S1024x128.size (k0_off11_inb i)))
    (View.ld Y6 (Rect.unit (s := S8192x256) (k0_off11 i) S1024x128.size (k0_off11_inb i)))

/-- An index of a block of 512 rows. -/
def idx512 (r : Fin 512) (l : Fin 128) : S512x128.Idx := fun | ⟨0, _⟩ => r | ⟨1, _⟩ => l

/-- The step's block of the result. -/
def outOf (t b : FVec F S512x128 .bf16) : S1024x128.Idx → Elt F .bf16 := fun j =>
  if h : (j 0).val < 512 then t (idx512 ⟨(j 0).val, h⟩ (j 1))
  else b (idx512 ⟨(j 0).val - 512, by have : (j 0).val < 1024 := (j 0).isLt; omega⟩ (j 1))

def out : S1024x128.Idx → Elt F .bf16 :=
  outOf (top Y4 Y5 Y6 i (before Y4 Y5 Y6 i w hw)) (bottom Y4 Y5 Y6 i (before Y4 Y5 Y6 i w hw))

end Values

/-! ## The generated recursion is this one -/

section Rec
variable (c : Dev nD) (i : grid0.Coords)
    (M4 : Memref sig .tc .vmem S1024x256 .bf16) (h4 : M4.IsWhole) (M5 : Memref sig .tc .vmem S8192x256 .bf16) (h5 : M5.IsWhole)
    (M6 : Memref sig .tc .vmem S8192x256 .bf16) (h6 : M6.IsWhole) (M7 : Memref sig .tc .vmem S1024x128 .bf16) (h7 : M7.IsWhole)
    (X4 : Bf (F := F) c M4) (X5 : Bf (F := F) c M5) (X6 : Bf (F := F) c M6)
    (w : BitVec 32) (hw : k0_chk1 i w) (a b : FVec F S1024x128 .f32) (u1 : BitVec 32) (u2 : BitVec 1) (u3 : BitVec 32)
    (ini : FVec F S1024x128 .f32 × FVec F S1024x128 .f32)

theorem st_eq (k : ℕ) (hk : k ≤ (k0_t1_loop i w).trips) :
    st_k0_t1 Variants.none c none i (Memref.whole main_arg0) (Memref.isWhole_whole _) M4 h4 M5 h5 M6 h6 M7 h7 (BitVec.ofNat 32 (i 2).val) w hw a b u1 u2 u3 X4 X5 X6 ini k
      = sums (M4.view.read (Elt F) X4) (M5.view.read (Elt F) X5) (M6.view.read (Elt F) X6) i w hw ini k := by
  induction k with
  | zero => rfl
  | succ k ih =>
    rw [st_k0_t1_succ Variants.none c none i (Memref.whole main_arg0) (Memref.isWhole_whole _) M4 h4 M5 h5 M6 h6 M7 h7 (BitVec.ofNat 32 (i 2).val) w hw a b u1 u2 u3 X4 X5 X6 ini ⟨k, hk⟩, ih (Nat.le_of_lt hk)]
    rw [sums, dif_pos (show k < (k0_t1_loop i w).trips from hk)]
    unfold tripR_k0_t1 trip_k0_t1
    rfl

end Rec

/-! ## The step's three parts, run -/

omit [FloatOps F] [Named F] in
theorem of_eq {α : Type} (Q : α → sProp 𝕄) {x y : α} (h : x = y) : Q x ⊢ Q y := by subst h; exact .rfl

/-- What the first part hands on. -/
def after1 (Y4 : S1024x256.Idx → Elt F .bf16) (Y5 Y6 : S8192x256.Idx → Elt F .bf16) (i : grid0.Coords) (w : BitVec 32) (hw : k0_chk1 i w) :
    Σ' (arg2 : BitVec 32) (v5 : Elt F .i32) (k0_hw1 : k0_chk1 i v5) (v20_0 : FVec F S1024x128 .f32) (v20_1 : FVec F S1024x128 .f32)
      (v22 : BitVec 32) (v36 : BitVec 1), BitVec 32 :=
  ⟨BitVec.ofNat 32 (i 2).val, w, hw, (start Y4 Y5 Y6 i w hw).1, (start Y4 Y5 Y6 i w hw).2,
    Scalar.divsi (Scalar.addi w 1#32) 2#32,
    Scalar.andi
      (Scalar.cmpi .ne
        (Scalar.subi (Scalar.extui (Scalar.cmpi .sgt (Scalar.addi w 1#32) 0#32)) (Scalar.extui (Scalar.cmpi .slt (Scalar.addi w 1#32) 0#32)))
        (Scalar.subi (Scalar.extui (Scalar.cmpi .sgt 2#32 0#32)) (Scalar.extui (Scalar.cmpi .slt 2#32 0#32))))
      (Scalar.cmpi .ne (Scalar.remsi (Scalar.addi w 1#32) 2#32) 0#32),
    1#32⟩

/-- What the second part hands on. -/
def after2 (Y4 : S1024x256.Idx → Elt F .bf16) (Y5 Y6 : S8192x256.Idx → Elt F .bf16) (i : grid0.Coords)
    (ab : FVec F S1024x128 .f32 × FVec F S1024x128 .f32) :
    Σ' (v45_0 : FVec F S1024x128 .f32) (v45_1 : FVec F S1024x128 .f32) (v47 : BitVec 32) (v48 : IVec S512x128 32) (v53 : IVec S512x512 1)
      (v74 : FVec F S512x128 .f32) (v75 : FVec F S512x128 .f32) (v77 : FVec F S512x128 .bf16), FVec F S512x128 .bf16 :=
  ⟨ab.1, ab.2, Scalar.muli (BitVec.ofNat 32 (i 2).val) 1024#32, iota .tc S512x128 32 [1] iota_S512x128_d1_w32, k0_pay9,
    k0_pay10 ab.1
      (View.ld Y4 (Rect.unit (s := S1024x256) ![0, 0] S512x128.size inb_S1024x256_S512x128_0_0))
      (View.ld Y5 (Rect.unit (s := S8192x256) (k0_off8 i) S512x128.size (k0_off8_inb i)))
      (View.ld Y6 (Rect.unit (s := S8192x256) (k0_off8 i) S512x128.size (k0_off8_inb i))),
    k0_pay11 ab.2,
    k0_pay12 (View.ld Y4 (Rect.unit (s := S1024x256) ![0, 128] S512x128.size inb_S1024x256_S512x128_0_128)),
    k0_pay13 (View.ld Y5 (Rect.unit (s := S8192x256) (k0_off9 i) S512x128.size (k0_off9_inb i)))⟩

theorem part1_run (c : Dev nD) (i : grid0.Coords)
    (M4 : Memref sig .tc .vmem S1024x256 .bf16) (h4 : M4.IsWhole) (M5 : Memref sig .tc .vmem S8192x256 .bf16) (h5 : M5.IsWhole)
    (M6 : Memref sig .tc .vmem S8192x256 .bf16) (h6 : M6.IsWhole) (M7 : Memref sig .tc .vmem S1024x128 .bf16) (h7 : M7.IsWhole)
    (X4 : Bf (F := F) c M4) (X5 : Bf (F := F) c M5) (X6 : Bf (F := F) c M6)
    (T : Bf (F := F) c (Memref.whole main_arg0)) (w : BitVec 32) (hT : word i c T = w) (hw : k0_chk1 i w) (Q : _ → sProp 𝕄) :
    iprop(tb c T ∗ pt c M4 X4 ∗ pt c M5 X5 ∗ pt c M6 X6
      ∗ (iprop(tb c T ∗ pt c M4 X4 ∗ pt c M5 X5 ∗ pt c M6 X6) -∗ Q (after1 (M4.view.read (Elt F) X4) (M5.view.read (Elt F) X5) (M6.view.read (Elt F) X6) i w hw)))
    ⊢ wp frame (wpE (defs₀ (F := F)) Variants.none c none) Set.univ (k0_part1 i (Memref.whole main_arg0) (Memref.isWhole_whole _) M4 h4 M5 h5 M6 h6 M7 h7) Q := by
  rw [k0_part1_eq_skeleton]; unfold k0_part1_skel
  simp only [smemLoad, smemLoadElt, Prog.bind_op, Prog.bind_ret, Prog.pure_eq_ret, Prog.lift]
  iintro ⟨Ht, H4, H5, H6, Hk⟩
  iapply (wp_load_rect Variants.none (c : Thread nD τ) none Set.univ (m := Memref.whole main_arg0)
    (r := Rect.unit (s := S64) (k0_off1 i) S1.size (k0_off1_inb i)) (Finset.subset_univ _)) $$ Ht
  iintro Ht
  unfold word at hT
  rw [hT]
  rw [wp_assume_of Variants.none (c : Thread nD τ) none Set.univ hw]
  by_cases h : k0_cond1 w = 1#1
  · rw [dif_pos h]
    sl_exec
    sl_step
    iapply (show Q (after1 (M4.view.read (Elt F) X4) (M5.view.read (Elt F) X5) (M6.view.read (Elt F) X6) i w hw) ⊢ Q _ from ?e)
    case e => exact of_eq Q (by unfold after1 start; rw [dif_pos h]; rfl)
    iapply Hk
    isplitl [Ht]; · iexact Ht
    isplitl [H4]; · iexact H4
    isplitl [H5]; · iexact H5
    iexact H6
  · rw [dif_neg h]
    sl_step
    iapply (show Q (after1 (M4.view.read (Elt F) X4) (M5.view.read (Elt F) X5) (M6.view.read (Elt F) X6) i w hw) ⊢ Q _ from ?e)
    case e => exact of_eq Q (by unfold after1 start; rw [dif_neg h])
    iapply Hk
    isplitl [Ht]; · iexact Ht
    isplitl [H4]; · iexact H4
    isplitl [H5]; · iexact H5
    iexact H6

theorem part2_run (c : Dev nD) (i : grid0.Coords)
    (M4 : Memref sig .tc .vmem S1024x256 .bf16) (h4 : M4.IsWhole) (M5 : Memref sig .tc .vmem S8192x256 .bf16) (h5 : M5.IsWhole)
    (M6 : Memref sig .tc .vmem S8192x256 .bf16) (h6 : M6.IsWhole) (M7 : Memref sig .tc .vmem S1024x128 .bf16) (h7 : M7.IsWhole)
    (X4 : Bf (F := F) c M4) (X5 : Bf (F := F) c M5) (X6 : Bf (F := F) c M6)
    (w : BitVec 32) (hw : k0_chk1 i w) (h2 : (k0_t2_loop i w).trips = 0) (a b : FVec F S1024x128 .f32) (u1 : BitVec 32) (u2 : BitVec 1) (u3 : BitVec 32)
    (Q : _ → sProp 𝕄) :
    iprop(pt c M4 X4 ∗ pt c M5 X5 ∗ pt c M6 X6
      ∗ (iprop(pt c M4 X4 ∗ pt c M5 X5 ∗ pt c M6 X6) -∗ Q (after2 (M4.view.read (Elt F) X4) (M5.view.read (Elt F) X5) (M6.view.read (Elt F) X6) i (sums (M4.view.read (Elt F) X4) (M5.view.read (Elt F) X5) (M6.view.read (Elt F) X6) i w hw (a, b) (k0_t1_loop i w).trips))))
    ⊢ wp frame (wpE (defs₀ (F := F)) Variants.none c none) Set.univ
        (k0_part2 i (Memref.whole main_arg0) (Memref.isWhole_whole _) M4 h4 M5 h5 M6 h6 M7 h7 (BitVec.ofNat 32 (i 2).val) w hw a b u1 u2 u3) Q := by
  rw [k0_part2_eq_skeleton]; unfold k0_part2_skel
  iintro ⟨H4, H5, H6, Hk⟩
  sl_exec
  sl_step
  rw [show Scf.trips (k0_t2_loop i w).lb (k0_t2_loop i w).ub (k0_t2_loop i w).st = 0 from h2]
  simp only [st_k0_t2_zero]
  rw [show Scf.trips (k0_t1_loop i w).lb (k0_t1_loop i w).ub (k0_t1_loop i w).st = (k0_t1_loop i w).trips from rfl]
  rw [st_eq c i M4 h4 M5 h5 M6 h6 M7 h7 X4 X5 X6 w hw a b u1 u2 u3 (a, b) _ le_rfl]
  iapply (show Q (after2 (M4.view.read (Elt F) X4) (M5.view.read (Elt F) X5) (M6.view.read (Elt F) X6) i (sums (M4.view.read (Elt F) X4) (M5.view.read (Elt F) X5) (M6.view.read (Elt F) X6) i w hw (a, b) (k0_t1_loop i w).trips)) ⊢ Q _ from ?e)
  case e => exact of_eq Q rfl
  iapply Hk
  isplitl [H4]; · iexact H4
  isplitl [H5]; · iexact H5
  iexact H6

/-- What the third part hands on. -/
def after3 (Y4 : S1024x256.Idx → Elt F .bf16) (Y5 Y6 : S8192x256.Idx → Elt F .bf16) (i : grid0.Coords)
    (ab : FVec F S1024x128 .f32 × FVec F S1024x128 .f32) :
    Σ' (v106 : IVec S512x1024 1) (v107 : FVec F S512x128 .f32) (v119 : FVec F S512x1024 .bf16), FVec F S1024x128 .bf16 :=
  ⟨k0_pay15, k0_pay16 ab.1,
    k0_pay17 (View.ld Y4 (Rect.unit (s := S1024x256) ![512, 0] S512x128.size inb_S1024x256_S512x128_512_0))
      (View.ld Y5 (Rect.unit (s := S8192x256) (k0_off10 i) S1024x128.size (k0_off10_inb i))),
    k0_pay18 (View.ld Y6 (Rect.unit (s := S8192x256) (k0_off10 i) S1024x128.size (k0_off10_inb i)))⟩

/-- The store of the first 512 rows, and of the last. -/
abbrev pieceT (t : FVec F S512x128 .bf16) : View.Piece (Elt F) S1024x128 .bf16 := ⟨Rect.unit (s := S1024x128) ![0, 0] S512x128.size inb_S1024x128_S512x128_0_0, t⟩
abbrev pieceB (b : FVec F S512x128 .bf16) : View.Piece (Elt F) S1024x128 .bf16 := ⟨Rect.unit (s := S1024x128) ![512, 0] S512x128.size inb_S1024x128_S512x128_512_0, b⟩

theorem part3_run (c : Dev nD) (i : grid0.Coords)
    (M4 : Memref sig .tc .vmem S1024x256 .bf16) (h4 : M4.IsWhole) (M5 : Memref sig .tc .vmem S8192x256 .bf16) (h5 : M5.IsWhole)
    (M6 : Memref sig .tc .vmem S8192x256 .bf16) (h6 : M6.IsWhole) (M7 : Memref sig .tc .vmem S1024x128 .bf16) (h7 : M7.IsWhole)
    (X4 : Bf (F := F) c M4) (X5 : Bf (F := F) c M5) (X6 : Bf (F := F) c M6) (X7 : Bf (F := F) c M7)
    (p : _) (Q : _ → sProp 𝕄) :
    iprop(pt c M4 X4 ∗ pt c M5 X5 ∗ pt c M6 X6 ∗ pt c M7 X7
      ∗ (iprop(pt c M4 X4 ∗ pt c M5 X5 ∗ pt c M6 X6 ∗ pt c M7 (M7.view.writes (Elt F) X7 [pieceT (top (M4.view.read (Elt F) X4) (M5.view.read (Elt F) X5) (M6.view.read (Elt F) X6) i p)])) -∗ Q (after3 (M4.view.read (Elt F) X4) (M5.view.read (Elt F) X5) (M6.view.read (Elt F) X6) i p)))
    ⊢ wp frame (wpE (defs₀ (F := F)) Variants.none c none) Set.univ
        (k0_part3 i (Memref.whole main_arg0) (Memref.isWhole_whole _) M4 h4 M5 h5 M6 h6 M7 h7 (after2 (M4.view.read (Elt F) X4) (M5.view.read (Elt F) X5) (M6.view.read (Elt F) X6) i p).1 (after2 (M4.view.read (Elt F) X4) (M5.view.read (Elt F) X5) (M6.view.read (Elt F) X6) i p).2.2.1 (after2 (M4.view.read (Elt F) X4) (M5.view.read (Elt F) X5) (M6.view.read (Elt F) X6) i p).2.2.2.1 (after2 (M4.view.read (Elt F) X4) (M5.view.read (Elt F) X5) (M6.view.read (Elt F) X6) i p).2.2.2.2.1 (after2 (M4.view.read (Elt F) X4) (M5.view.read (Elt F) X5) (M6.view.read (Elt F) X6) i p).2.2.2.2.2.1
          (after2 (M4.view.read (Elt F) X4) (M5.view.read (Elt F) X5) (M6.view.read (Elt F) X6) i p).2.2.2.2.2.2.1 (after2 (M4.view.read (Elt F) X4) (M5.view.read (Elt F) X5) (M6.view.read (Elt F) X6) i p).2.2.2.2.2.2.2.1 (after2 (M4.view.read (Elt F) X4) (M5.view.read (Elt F) X5) (M6.view.read (Elt F) X6) i p).2.2.2.2.2.2.2.2) Q := by
  rw [k0_part3_eq_skeleton]; unfold k0_part3_skel
  iintro ⟨H4, H5, H6, H7, Hk⟩
  sl_exec
  sl_step
  iapply (show Q (after3 (M4.view.read (Elt F) X4) (M5.view.read (Elt F) X5) (M6.view.read (Elt F) X6) i p) ⊢ Q _ from ?e)
  case e => exact of_eq Q rfl
  iapply Hk
  isplitl [H4]; · iexact H4
  isplitl [H5]; · iexact H5
  isplitl [H6]; · iexact H6
  iapply (show pt c M7 _ ⊢ pt c M7 _ from ?e)
  case e => exact of_eq (pt c M7) rfl
  iexact H7

theorem read_out (M7 : Memref sig .tc .vmem S1024x128 .bf16) (X7 : M7.view.ty.Contents (Elt F)) (t b : FVec F S512x128 .bf16) :
    M7.view.read (Elt F) (M7.view.writes (Elt F) X7 [pieceB b, pieceT t]) = outOf t b := by
  funext j
  have hj : (j 0).val < 1024 := (j 0).isLt
  unfold outOf
  split
  · rename_i h
    rw [View.read_writes_cons_rows_of_not_mem (o := 512) (W := 512) _ _ _ _ _ _ rfl rfl (Or.inl h)]
    exact View.read_writes_cons_rows_of_mem (o := 0) _ _ _ _ _ _ (idx512 ⟨(j 0).val, h⟩ (j 1)) rfl (Nat.zero_add _).symm rfl
  · rename_i h
    exact View.read_writes_cons_rows_of_mem (o := 512) _ _ _ _ _ _ (idx512 ⟨(j 0).val - 512, by omega⟩ (j 1)) rfl
      (show (j 0).val = 512 + ((j 0).val - 512) by omega) rfl

theorem kernelRun (c : Dev nD) (i : grid0.Coords)
    (M4 : Memref sig .tc .vmem S1024x256 .bf16) (h4 : M4.IsWhole) (M5 : Memref sig .tc .vmem S8192x256 .bf16) (h5 : M5.IsWhole)
    (M6 : Memref sig .tc .vmem S8192x256 .bf16) (h6 : M6.IsWhole) (M7 : Memref sig .tc .vmem S1024x128 .bf16) (h7 : M7.IsWhole)
    (X4 : Bf (F := F) c M4) (X5 : Bf (F := F) c M5) (X6 : Bf (F := F) c M6) (X7 : Bf (F := F) c M7)
    (T : Bf (F := F) c (Memref.whole main_arg0)) (w : BitVec 32) (hT : word i c T = w) (hw : k0_chk1 i w) (h2 : (k0_t2_loop i w).trips = 0)
    (Q : PUnit → sProp 𝕄) :
    iprop(tb c T ∗ pt c M4 X4 ∗ pt c M5 X5 ∗ pt c M6 X6 ∗ pt c M7 X7
      ∗ (iprop(tb c T ∗ pt c M4 X4 ∗ pt c M5 X5 ∗ pt c M6 X6 ∗ owns (c : Thread nD τ) M7 fullShare (out (M4.view.read (Elt F) X4) (M5.view.read (Elt F) X5) (M6.view.read (Elt F) X6) i w hw)) -∗ Q ⟨⟩))
    ⊢ wp frame (wpE (defs₀ (F := F)) Variants.none c none) Set.univ (cc0_fox i (Memref.whole main_arg0) (Memref.isWhole_whole _) M4 h4 M5 h5 M6 h6 M7 h7) Q := by
  rw [cc0_fox_eq_skeleton]; unfold cc0_fox_skel
  iintro ⟨Ht, H4, H5, H6, H7, Hk⟩
  rw [wp_bind]
  iapply (part1_run c i M4 h4 M5 h5 M6 h6 M7 h7 X4 X5 X6 T w hT hw)
  isplitl [Ht]; · iexact Ht
  isplitl [H4]; · iexact H4
  isplitl [H5]; · iexact H5
  isplitl [H6]; · iexact H6
  iintro ⟨Ht, H4, H5, H6⟩
  rw [wp_bind]
  iapply (part2_run c i M4 h4 M5 h5 M6 h6 M7 h7 X4 X5 X6 w hw h2)
  isplitl [H4]; · iexact H4
  isplitl [H5]; · iexact H5
  isplitl [H6]; · iexact H6
  iintro ⟨H4, H5, H6⟩
  rw [wp_bind]
  iapply (part3_run c i M4 h4 M5 h5 M6 h6 M7 h7 X4 X5 X6 X7)
  isplitl [H4]; · iexact H4
  isplitl [H5]; · iexact H5
  isplitl [H6]; · iexact H6
  isplitl [H7]; · iexact H7
  iintro ⟨H4, H5, H6, H7⟩
  sl_exec
  sl_step
  iapply Hk
  isplitl [Ht]; · iexact Ht
  isplitl [H4]; · iexact H4
  isplitl [H5]; · iexact H5
  isplitl [H6]; · iexact H6
  unfold owns
  iexists _
  isplitr; swap; (· iexact H7)
  ipureintro
  exact read_out M7 X7 _ _

end Cert.Proof.Fox

end
-- ==== Proof.Fox.Run.lean ====
module

public import proofs.«01_k».proof.Proof.Fox.Body

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (ℓ : Loc nD τ sig) → Buf (Elt F) ℓ)

/-- The table of first blocks, as the launch memory holds it. -/
abbrev tbl : pre0.Contents (Elt F) := fun k => m (((0 : Dev nD) : Thread nD τ).loc (pre0.ref k))

/-- The table as the body of the step reads it. -/
abbrev tblT (c : Dev nD) : Bf (F := F) c (Memref.whole main_arg0) := tbl m 0

/-- Every step's word is in range: at most twice the step's block of queries. -/
def InRange : Prop := ∀ i : grid0.Coords, ∃ n : ℕ, n ≤ 2 * (i 2).val ∧ word i 0 (tblT m 0) = BitVec.ofNat 32 n

abbrev adm : (p : Fin 1) → (pcfgs (F := F) p).Adm := fun _ => ⟨tbl m, trivial⟩

/-- The contents of the buffers when the call starts. -/
def V (c : Dev nD) (b : Ref sig .tc) : Buf (Elt F) ((c : Thread nD τ).loc b) :=
  StableHlo.after hostOps0 (fun b => m (c, b)) b

variable {m}

theorem chk_of (H : InRange m) (c : Dev nD) (i : grid0.Coords) : k0_chk1 i (word i c (tblT m c)) := by
  obtain ⟨n, hn, hw⟩ := H i
  have e : word i c (tblT m c) = BitVec.ofNat 32 n := hw
  rw [e]; exact chk i n hn

theorem trips_of (H : InRange m) (c : Dev nD) (i : grid0.Coords) : (k0_t2_loop i (word i c (tblT m c))).trips = 0 := by
  obtain ⟨n, hn, hw⟩ := H i
  have e : word i c (tblT m c) = BitVec.ofNat 32 n := hw
  rw [e]; exact trips2 i n hn

abbrev cfgA (m : (ℓ : Loc nD τ sig) → Buf (Elt F) ℓ) : Pipeline.Cfg sig Λ₀ := cfg0 (adm m 0)

variable (m) in
/-- The block of a window at a step. -/
def iblk (c : Dev nD) (w : Fin 4) (t : Fin (cfgA m).N) : ((cfgA m).win w).block.Idx → Elt F ((cfgA m).win w).elt :=
  (((cfgA m).win w).blk t).view.read (Elt F) (V m c (Pipeline.arrRef spec0 w))

/-- What a step writes. -/
def oblk (H : InRange m) (c : Dev nD) (t : Fin (cfgA m).N) : S1024x128.Idx → Elt F .bf16 :=
  out (iblk m c 0 t) (iblk m c 1 t) (iblk m c 2 t) (grid0.coords t) (word (grid0.coords t) c (tblT m c)) (chk_of H c _)

def dats (H : InRange m) (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk H c t
    | ⟨_ + 4, h⟩ => absurd h (Nat.not_lt.2 (Nat.le_add_left _ _))
  Φ _ := iprop(ΦA spec0 c ∗ ΦT pre0 (tbl m) c)
  q _ := fullShare
  owed _ := 0

theorem A_eq (H : InRange m) (c : Dev nD) (w : Fin (cfgA m).W) : (dats H 0 c).A w = V m c (Pipeline.arrRef spec0 w) := by
  dsimp only [dats]

theorem before_0 (H : InRange m) (c : Dev nD) (t : Fin (cfgA m).N) (d) : (dats H 0 c).before (0 : Fin 4) t d = iblk m c 0 t := by
  refine ((dats H 0 c).before_in_eq_fetched (0 : Fin 4) rfl (fun _ => rfl) (fun _ _ _ => rfl) (fun _ => rfl) t d).trans ?_
  unfold Dat.fetched Dat.blockOf; dsimp only [dats]; rfl
theorem before_1 (H : InRange m) (c : Dev nD) (t : Fin (cfgA m).N) (d) : (dats H 0 c).before (1 : Fin 4) t d = iblk m c 1 t := by
  refine ((dats H 0 c).before_in_eq_fetched (1 : Fin 4) rfl (fun _ => rfl) (fun _ _ _ => rfl) (fun _ => rfl) t d).trans ?_
  unfold Dat.fetched Dat.blockOf; dsimp only [dats]; rfl
theorem before_2 (H : InRange m) (c : Dev nD) (t : Fin (cfgA m).N) (d) : (dats H 0 c).before (2 : Fin 4) t d = iblk m c 2 t := by
  refine ((dats H 0 c).before_in_eq_fetched (2 : Fin 4) rfl (fun _ => rfl) (fun _ _ _ => rfl) (fun _ => rfl) t d).trans ?_
  unfold Dat.fetched Dat.blockOf; dsimp only [dats]; rfl

theorem prefHeld_eq (c : Dev nD) : (ΦT (Val := Elt F) (τ := τ) (U := UR sig nD τ) pre0 (tbl m) c) = tb c (tblT m c) := by
  unfold Pipeline.ΦT Pipeline.prefHeld
  rw [show (Finset.univ : Finset (Fin 1)) = {(0 : Fin 1)} from by decide, bigSep_singleton]
  rfl

theorem body_obligation (H : InRange m) (c : Dev nD) : BodyObligation (dats H 0 c) (defs₀ (F := F)) Variants.none () Set.univ := fun t => by
  rw [bigSep_W0, bigSep_W0]
  rw [show (dats H 0 c).Φ t.castSucc = iprop(ΦA spec0 c ∗ ΦT pre0 (tbl m) c) from rfl,
    show (dats H 0 c).Φ t.succ = iprop(ΦA spec0 c ∗ ΦT pre0 (tbl m) c) from rfl]
  rw [prefHeld_eq]
  unfold Dat.owesAt Pipeline.owesWithin
  rw [show (dats H 0 c).owed t.castSucc = 0 from rfl, show (dats H 0 c).owed t.succ = 0 from rfl]
  unfold owns
  iintro ⟨⟨HA, HT⟩, ⟨%W, %hW, HO⟩, ⟨%d0, ⟨%f0, %hf0, H0⟩⟩, ⟨%d1, ⟨%f1, %hf1, H1⟩⟩, ⟨%d2, ⟨%f2, %hf2, H2⟩⟩, ⟨%d3, ⟨%f3, %hf3, H3⟩⟩⟩
  rw [before_0] at hf0
  rw [before_1] at hf1
  rw [before_2] at hf2
  iapply (kernelRun c (grid0.coords t) _ _ _ _ _ _ _ _ f0 f1 f2 f3 (tblT m c) _ rfl (chk_of H c _) (trips_of H c _))
  isplitl [HT]; · iexact HT
  isplitl [H0]; · iexact H0
  isplitl [H1]; · iexact H1
  isplitl [H2]; · iexact H2
  isplitl [H3]; · iexact H3
  iintro ⟨HT, H0, H1, H2, H3⟩
  isplitl [HA HT]
  · isplitl [HA]; · iexact HA
    iexact HT
  isplitl [HO]
  · iexists W; isplitr; · ipureintro; exact fun _ _ => Or.inl trivial
    iexact HO
  isplitl [H0]
  · iexists f0; isplitr; swap; (· iexact H0); ipureintro; exact hf0
  isplitl [H1]
  · iexists f1; isplitr; swap; (· iexact H1); ipureintro; exact hf1
  isplitl [H2]
  · iexists f2; isplitr; swap; (· iexact H2); ipureintro; exact hf2
  unfold owns
  icases H3 with ⟨%f, %hf, H3⟩
  iexists f; isplitr; swap; (· iexact H3); ipureintro
  refine hf.trans ?_
  show _ = oblk H c t
  have key : ∀ a b d, a = iblk m c 0 t → b = iblk m c 1 t → d = iblk m c 2 t →
      out a b d (grid0.coords t) (word (grid0.coords t) c (tblT m c)) (chk_of H c _) = oblk H c t := by
    rintro _ _ _ rfl rfl rfl; rfl
  exact key _ _ _ hf0 hf1 hf2

/-! ## What the host operations leave alone -/

/-- The buffers the host operations write, in order. -/
abbrev hostRefs : List (Ref sig .tc) :=
  [main_v0, main_v1, main_v2, main_v3, main_v4, main_v5, main_v6, main_v7, main_v8, main_v9, main_v10, main_v11,
   main_cst, main_v12, main_v13, main_cst_0, main_v14, main_cst_1, main_v15, main_cst_2, main_v16, main_v17, main_v18, main_v19,
   main_cst_3, main_v20, main_v21, main_v22, main_cst_4, main_v23, main_v24, main_v25, main_v26,
   main_cst_5, main_v27, main_cst_6, main_v28, main_v29, main_v30, main_v31]

theorem hostOps0_writes : (hostOps0 : List (HloOp τ sig (Elt F))).Forall fun op =>
    op.writes ⊆ (hostRefs.map (Proc.devRef (τ := τ) .tc)).toFinset :=
  StableHlo.forall_writes_sub_of_map rfl

theorem hostOps0_fresh : (hostOps0 : List (HloOp τ sig (Elt F))).Forall fun op => op.fresh = ∅ :=
  StableHlo.forall_fresh_of_map rfl

theorem V_arg (c : Dev nD) (b : Ref sig .tc) (h : b ∉ hostRefs) : V m c b = m ((c : Thread nD τ).loc b) :=
  StableHlo.after_of_writes_sub hostOps0 _ hostOps0_writes h

theorem V_pre (c : Dev nD) (k : Fin 1) : V m c (pre0.ref k) = tbl m k := by
  obtain rfl : k = 0 := Subsingleton.elim _ _
  obtain rfl : c = 0 := Subsingleton.elim _ _
  exact V_arg 0 main_arg0 (by decide)

/-- The whole run: it ends, the result's array holds the steps' blocks, every other buffer is as the host operations left it. -/
theorem run_main (m : (ℓ : Loc nD τ sig) → Buf (Elt F) ℓ) (g : Dev nD → PrngReg) (H : InRange m) :
    θ_run (defs (F := F)) (onTc (τ := τ) (main (F := F))) ⟨m, fun _ => 0, g⟩
      fun r => FramePost (Pipeline.pin pcfgs (adm m)) (dats H) 0 (V m) r ∧ r.2.sem = fun _ => 0 :=
  Pipeline.θ_run_frameP pcfgs (adm m) (dats H) 0 launch0 defs₀ Variants.none m g main
    (hbody := fun c => (body_obligation H c).loose) (hshare := fun c => (dats H 0 c).share_full fun _ => rfl)
    (howed := fun _ _ => rfl) (V := V m)
    (hmain := Pipeline.hmainP_prefix _ _ _ _ m main hostOps0 hostOps0_sub hostOps0_fresh main_chain)
    (hA := A_eq H) (hpf := V_pre) (hΦ := fun _ _ => rfl) (Q' := fun r => FramePost (Pipeline.pin pcfgs (adm m)) (dats H) 0 (V m) r ∧ r.2.sem = fun _ => 0) (hQ' := fun _ h => h)

theorem arg_kept (H : InRange m) (r) (h : FramePost (Pipeline.pin pcfgs (adm m)) (dats H) 0 (V m) r) (c : Dev nD) (b : Ref sig .tc)
    (hs : b.isScoped = false) (ha : ∀ w : Fin 4, (spec0 w).arr.view.ref ≠ b) (hb : b ∉ hostRefs) :
    r.2.mem ((c : Thread nD τ).loc b) = m ((c : Thread nD τ).loc b) :=
  ((h c).2 b (Pipeline.mem_restRefs_of b hs ha)).trans (V_arg c b hb)

/-- The run leaves its arguments as they were, and the result's array at the steps' blocks. -/
theorem run_args (m : (ℓ : Loc nD τ sig) → Buf (Elt F) ℓ) (g : Dev nD → PrngReg) (H : InRange m) :
    θ_run (defs (F := F)) (onTc (τ := τ) (main (F := F))) ⟨m, fun _ => 0, g⟩ fun r =>
      ((∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)) ∧ r.2.sem = fun _ => 0)
      ∧ ∀ c : Dev nD, r.2.mem ((c : Thread nD τ).loc main_v32) = (dats H 0 c).arrAt (3 : Fin 4) (cfgA m).N :=
  (θ_run defs _ _).mono (fun r h => ⟨⟨fun c =>
    ⟨arg_kept H r h.1 c main_arg0 rfl (by decide) (by decide), arg_kept H r h.1 c main_arg1 rfl (by decide) (by decide),
     arg_kept H r h.1 c main_arg2 rfl (by decide) (by decide), arg_kept H r h.1 c main_arg3 rfl (by decide) (by decide),
     arg_kept H r h.1 c main_arg4 rfl (by decide) (by decide), arg_kept H r h.1 c main_arg5 rfl (by decide) (by decide)⟩, h.2⟩,
    fun c => (h.1 c).1 (3 : Fin 4)⟩) (run_main m g H)

end Cert.Proof.Fox
-- ==== Proof.Fox.Pre.lean ====
module

public import proofs.«01_k».proof.Proof.Fox.Run
public import proofs.«01_k».proof.Proof.Gen.Pre_first_in_range
public import proofs.«01_k».proof.Proof.Gen.Pre_finite
public import Idealize.ShloMosaic.Lib.StableHlo.Predicate
public import Idealize.ShloMosaic.Lib.ReduceAll

@[expose] public section

set_option maxRecDepth 16384
set_option maxHeartbeats 1000000

noncomputable section

namespace Cert.Proof.Fox

open Cert.KernelIdeal Cert.KernelIdeal.Gen
open Idealize.ShloMosaic Idealize.ShloMosaic.TcCoe

variable {F : FTy → Type} [FloatOps F] [Named F]

theorem andi_one {p q : BitVec 1} (h : IntOp.andi p q = 1#1) : p = 1#1 ∧ q = 1#1 := by
  revert p q; decide

/-- A word between zero and `2 n` is a natural number up to `2 n`. -/
theorem word_of_bounds (w : BitVec 32) (n : ℕ) (hn : n < 8) (h0 : IntOp.cmpi .sge w 0#32 = 1#1)
    (h1 : IntOp.cmpi .sle w (BitVec.ofNat 32 (2 * n)) = 1#1) : ∃ k, k ≤ 2 * n ∧ w = BitVec.ofNat 32 k := by
  have e0 : (BitVec.ofBool ((0#32).sle w)) = 1#1 := h0
  have e1 : (BitVec.ofBool (w.sle (BitVec.ofNat 32 (2 * n)))) = 1#1 := h1
  rw [StableHlo.Predicate.ofBool_eq_one_iff] at e0 e1
  refine ⟨w.toNat, ?_, by simp⟩
  simp only [BitVec.sle, decide_eq_true_eq, BitVec.toInt, BitVec.toNat_ofNat] at e0 e1
  omega

/-- A remainder by eight moved to the divisor's sign, on words. -/
def rem8Word (r : BitVec 32) : BitVec 32 :=
  if IntOp.andi (IntOp.cmpi .ne (IntOp.cmpi .slt r 0#32) (IntOp.cmpi .slt 8#32 0#32)) (IntOp.cmpi .ne r 0#32) = 1#1 then
    IntOp.addi r 8#32 else r

/-- Twice the remainder by eight, as it is computed on words. -/
theorem rem8 : ∀ s : Fin 64,
    IntOp.muli 2#32 (rem8Word (IntOp.remsi .host (BitVec.ofNat 32 s.val) 8#32)) = BitVec.ofNat 32 (2 * (s.val % 8)) := by
  intro s
  rw [IntOp.remsi_of_pos .host (by decide)]
  revert s
  decide +kernel

/-- The bound the precondition compares the words with. -/
theorem bound_first [Cert.Pre_first_in_range.Facts] : ∀ s : Fin 64,
    IntOp.muli 2#32 (Cert.Pre_first_in_range.fn_remainder (F := F) (iotaInDim Cert.Pre_first_in_range.S64 32 0)
      (constantI Cert.Pre_first_in_range.S_ 32 8#32) (Shape.Idx.ofFin s)) = BitVec.ofNat 32 (2 * (s.val % 8)) := by
  intro s
  refine Eq.trans ?_ (rem8 s)
  unfold Cert.Pre_first_in_range.fn_remainder Cert.Pre_first_in_range.fn_where
  rfl

theorem bound_finite [Cert.Pre_finite.Facts] : ∀ s : Fin 64,
    IntOp.muli 2#32 (Cert.Pre_finite.fn_remainder (F := F) (iotaInDim Cert.Pre_finite.S64 32 0)
      (constantI Cert.Pre_finite.S_ 32 8#32) (Shape.Idx.ofFin s)) = BitVec.ofNat 32 (2 * (s.val % 8)) := by
  intro s
  refine Eq.trans ?_ (rem8 s)
  unfold Cert.Pre_finite.fn_remainder Cert.Pre_finite.fn_where
  rfl

/-- The table's words bounded one by one are in range at every step. -/
theorem inRange_of (m : (ℓ : Loc nD τ sig) → Buf (Elt F) ℓ)
    (h : ∀ s : Fin 64, ∃ k, k ≤ 2 * (s.val % 8) ∧ (m (((0 : Dev nD) : Thread nD τ).loc main_arg0) : IVec S64 32) (Shape.Idx.ofFin s) = BitVec.ofNat 32 k) :
    InRange m := by
  intro i
  have hb : (((i 0).val * 4 + (i 1).val) * 8 + (i 2).val) < 64 := by
    have h0 : (i 0).val < 2 := (i 0).isLt
    have h1 : (i 1).val < 4 := (i 1).isLt
    have h2 : (i 2).val < 8 := (i 2).isLt
    omega
  obtain ⟨k, hk, e⟩ := h ⟨_, hb⟩
  have h2 : (i 2).val < 8 := (i 2).isLt
  refine ⟨k, by simp only at hk; omega, ?_⟩
  refine Eq.trans ?_ e
  unfold word
  rw [View.read_apply, cast_eq]
  congr 1
  funext a
  apply Fin.ext
  have ho := congrFun (off1 i) 0
  obtain ⟨_ | a, ha⟩ := a
  · refine Eq.trans ?_ (ho.trans rfl)
    rfl
  · exact absurd ha (by show ¬ (a + 1 < 1); omega)

theorem inRange_first [Cert.Pre_first_in_range.Facts] (m : (ℓ : Loc nD τ sig) → Buf (Elt F) ℓ) (b c d e f)
    (h : Cert.Pre_first_in_range.fn (F := F) (m (((0 : Dev nD) : Thread nD τ).loc main_arg0)) b c d e f = fun _ => 1#1) :
    InRange m := by
  refine inRange_of m fun s => ?_
  have e := congrFun h (Shape.Idx.ofFin s)
  obtain ⟨e0, e1⟩ := andi_one (show IntOp.andi _ _ = 1#1 from e)
  refine word_of_bounds _ _ (Nat.mod_lt _ (by decide)) e0 ?_
  rw [← bound_first (F := F) s]
  exact e1

theorem fin_of_lt {x : EReal} (h : FloatOps.cmpf (F := Ideal) (φ := .f32) .olt (FloatOps.hostAbsf (F := Ideal) (φ := .f32) x)
    (FloatOps.ofBits (F := Ideal) .f32 0x7F800000#32) = 1#1) : x ≠ ⊤ ∧ x ≠ ⊥ := by
  have e : (FloatOps.ofBits (F := Ideal) .f32 0x7F800000#32) = (⊤ : EReal) := by
    show Ideal.ofBits .f32 0x7F800000#32 = ⊤
    simp [Ideal.ofBits, Ideal.ieee]
  rw [e] at h
  have h' : BitVec.ofBool (decide (max x (-x) < ⊤)) = 1#1 := h
  rw [StableHlo.Predicate.ofBool_eq_one_iff, decide_eq_true_eq] at h'
  constructor <;> rintro rfl <;> simp at h'

instance : Subsingleton Cert.Pre_finite.S_.Idx := ⟨fun a b => funext fun i => i.elim0⟩

/-- The finiteness precondition, read out. -/
theorem of_finite [Cert.Pre_finite.Facts] (m : (ℓ : Loc nD τ sig) → Buf (Elt Ideal) ℓ)
    (h : Cert.Pre_finite.fn (F := Ideal) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) = fun _ => 1#1) :
    InRange m
      ∧ (∀ x, (m (((0 : Dev nD) : Thread nD τ).loc main_arg1) : FVec Ideal S2x8192x8x64 .f32) x ≠ (⊤ : EReal) ∧ (m (((0 : Dev nD) : Thread nD τ).loc main_arg1) : FVec Ideal S2x8192x8x64 .f32) x ≠ (⊥ : EReal))
      ∧ (∀ x, (m (((0 : Dev nD) : Thread nD τ).loc main_arg2) : FVec Ideal S2x8192x8x64 .f32) x ≠ (⊤ : EReal) ∧ (m (((0 : Dev nD) : Thread nD τ).loc main_arg2) : FVec Ideal S2x8192x8x64 .f32) x ≠ (⊥ : EReal))
      ∧ (∀ x, (m (((0 : Dev nD) : Thread nD τ).loc main_arg3) : FVec Ideal S2x8192x8x64 .f32) x ≠ (⊤ : EReal) ∧ (m (((0 : Dev nD) : Thread nD τ).loc main_arg3) : FVec Ideal S2x8192x8x64 .f32) x ≠ (⊥ : EReal))
      ∧ (∀ x, (m (((0 : Dev nD) : Thread nD τ).loc main_arg4) : FVec Ideal S2x8192x8 .f32) x ≠ (⊤ : EReal) ∧ (m (((0 : Dev nD) : Thread nD τ).loc main_arg4) : FVec Ideal S2x8192x8 .f32) x ≠ (⊥ : EReal))
      ∧ (∀ x, (m (((0 : Dev nD) : Thread nD τ).loc main_arg5) : FVec Ideal S1x1x1x1 .f32) x ≠ (⊤ : EReal) ∧ (m (((0 : Dev nD) : Thread nD τ).loc main_arg5) : FVec Ideal S1x1x1x1 .f32) x ≠ (⊥ : EReal)) := by
  have e := congrFun h (Shape.Idx.first (Cert.Pre_finite.Facts.h_S_))
  unfold Cert.Pre_finite.fn Cert.Pre_finite.fn_part1 at e
  obtain ⟨e, e5⟩ := andi_one (show IntOp.andi _ _ = 1#1 from e)
  obtain ⟨e, e4⟩ := andi_one (show IntOp.andi _ _ = 1#1 from e)
  obtain ⟨e, e3⟩ := andi_one (show IntOp.andi _ _ = 1#1 from e)
  obtain ⟨e, e2⟩ := andi_one (show IntOp.andi _ _ = 1#1 from e)
  obtain ⟨e0, e1⟩ := andi_one (show IntOp.andi _ _ = 1#1 from e)
  refine ⟨inRange_of m fun s => ?_, fun x => fin_of_lt (Host.reduce_andi_all _ _ _ _ _ e1 x), fun x => fin_of_lt (Host.reduce_andi_all _ _ _ _ _ e2 x),
    fun x => fin_of_lt (Host.reduce_andi_all _ _ _ _ _ e3 x), fun x => fin_of_lt (Host.reduce_andi_all _ _ _ _ _ e4 x),
    fun x => fin_of_lt (Host.reduce_andi_all _ _ _ _ _ e5 x)⟩
  have e := Host.reduce_andi_all _ _ _ _ _ e0 (Shape.Idx.ofFin s)
  obtain ⟨e0, e1⟩ := andi_one (show IntOp.andi _ _ = 1#1 from e)
  refine word_of_bounds _ _ (Nat.mod_lt _ (by decide)) e0 ?_
  rw [← bound_finite (F := Ideal) s]
  exact e1

end Cert.Proof.Fox
-- ==== Proof.Fox.Attend.lean ====
module

public import proofs.«01_k».proof.Proof.Fox.Body
public import Idealize.ShloMosaic.Lib.Pointwise
public import Idealize.ShloMosaic.Lib.StableHlo.Predicate

@[expose] public section

set_option maxRecDepth 16384

noncomputable section

namespace Cert.Proof.Fox

open Cert.KernelIdeal Cert.KernelIdeal.Gen
open Idealize.ShloMosaic

/-! # The step's operations on arrays of real numbers -/

/-- The array holds the real numbers `f row lane`. -/
def Holds {M N : ℕ} (x : (⟨2, ![M, N]⟩ : Shape).Idx → EReal) (f : ℕ → ℕ → ℝ) : Prop :=
  ∀ (r : Fin M) (l : Fin N), x (ix2 r l) = ((f r.val l.val : ℝ) : EReal)

/-- The weight of key `j` for the query `r`. -/
def wt (q k : ℕ → ℕ → ℝ) (r j : ℕ) : ℝ := Real.exp (∑ x : Fin 128, q r x.val * k j x.val)

theorem exp2_log2e (s : ℝ) : Ideal.exp2 ((s : EReal) * (((Real.log 2)⁻¹ : ℝ) : EReal)) = ((Real.exp s : ℝ) : EReal) := by
  rw [← EReal.coe_mul]
  show ((Real.rpow 2 _ : ℝ) : EReal) = _
  congr 1
  show (2 : ℝ) ^ (s * (Real.log 2)⁻¹) = _
  rw [Real.rpow_def_of_pos (by norm_num)]
  congr 1
  have : Real.log 2 ≠ 0 := (Real.log_pos (by norm_num)).ne'
  field_simp

theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

theorem log2e : (Named.named κ "log2e" 0x3FB8AA3B#32 : Ideal .f32) = (((Real.log 2)⁻¹ : ℝ) : EReal) := rfl

theorem neg_inf : (Scalar.ofBits .f32 0xFF800000#32 : Ideal .f32) = ⊥ := by
  show Ideal.ofBits .f32 _ = _
  simp [Ideal.ofBits, Ideal.ieee]

theorem neg_inf' : (FloatOps.ofBits .f32 0xFF800000#32 : Ideal .f32) = ⊥ := neg_inf

/-- One key's weight, as the step computes it. -/
theorem wt_eq {M N : ℕ} (q : (⟨2, ![M, 128]⟩ : Shape).Idx → EReal) (k : (⟨2, ![N, 128]⟩ : Shape).Idx → EReal) (Q K : ℕ → ℕ → ℝ)
    (hq : Holds q Q) (hk : Holds k K) (r : Fin M) (j : Fin N) :
    Ideal.exp2 ((∑ x : Fin 128, q (ix2 r x) * k (ix2 j x)) * (Named.named κ "log2e" 0x3FB8AA3B#32 : Ideal .f32))
      = ((wt Q K r.val j.val : ℝ) : EReal) := by
  have h : (∑ x : Fin 128, q (ix2 r x) * k (ix2 j x)) = ((∑ x : Fin 128, Q r.val x.val * K j.val x.val : ℝ) : EReal) := by
    rw [← coe_sum]
    refine Finset.sum_congr rfl fun x _ => ?_
    rw [hq, hk, EReal.coe_mul]
  rw [log2e, h, exp2_log2e, wt]

/-- A weighted sum of values, as the step computes it. -/
theorem sum_eq {M N : ℕ} (q : (⟨2, ![M, 128]⟩ : Shape).Idx → EReal) (k v : (⟨2, ![N, 128]⟩ : Shape).Idx → EReal) (Q K V : ℕ → ℕ → ℝ)
    (hq : Holds q Q) (hk : Holds k K) (hv : Holds v V) (r : Fin M) (l : Fin 128) :
    (∑ j : Fin N, FloatOps.exp2 (F := Ideal) (φ := .f32) ((∑ x : Fin 128, q (ix2 r x) * k (ix2 j x)) * (Named.named κ "log2e" 0x3FB8AA3B#32 : Ideal .f32)) * v (ix2 j l))
      = ((∑ j : Fin N, wt Q K r.val j.val * V j.val l.val : ℝ) : EReal) := by
  rw [← coe_sum]
  refine Finset.sum_congr rfl fun j _ => ?_
  rw [show ∀ y : EReal, FloatOps.exp2 (F := Ideal) (φ := .f32) y = Ideal.exp2 y from fun _ => rfl, wt_eq q k Q K hq hk, hv, EReal.coe_mul]

theorem le_word (x y off : ℕ) (hx : x < 2048) (hy : y < 2048) (ho : off < 2048) :
    IntOp.cmpi .sle (BitVec.ofNat 32 x) (IntOp.addi (BitVec.ofNat 32 y) (BitVec.ofNat 32 off)) = 1#1 ↔ x ≤ y + off := by
  rw [show IntOp.addi (BitVec.ofNat 32 y) (BitVec.ofNat 32 off) = BitVec.ofNat 32 (y + off) from (BitVec.ofNat_add ..).symm]
  unfold IntOp.cmpi
  exact StableHlo.Predicate.sle_ofNat_iff x (y + off) (by omega) (by omega)

theorem lt_word (x y : ℕ) (hx : x < 2048) (hy : y < 2048) :
    IntOp.cmpi .slt (BitVec.ofNat 32 x) (BitVec.ofNat 32 y) = 1#1 ↔ x < y := by
  unfold IntOp.cmpi
  rw [StableHlo.Predicate.ofBool_eq_one_iff]
  show BitVec.slt _ _ = true ↔ _
  have ex : (BitVec.ofNat 32 x).toInt = x := by rw [BitVec.toInt_eq_toNat_cond, BitVec.toNat_ofNat, Nat.mod_eq_of_lt (by omega), if_pos (by omega)]
  have ey : (BitVec.ofNat 32 y).toInt = y := by rw [BitVec.toInt_eq_toNat_cond, BitVec.toNat_ofNat, Nat.mod_eq_of_lt (by omega), if_pos (by omega)]
  rw [BitVec.slt_iff_toInt_lt, ex, ey]
  omega

/-- The same with the keys past a limit left out. -/
theorem masked_eq {M N : ℕ} (q : (⟨2, ![M, 128]⟩ : Shape).Idx → EReal) (k v : (⟨2, ![N, 128]⟩ : Shape).Idx → EReal) (Q K V : ℕ → ℕ → ℝ)
    (hq : Holds q Q) (hk : Holds k K) (hv : Holds v V) (r : Fin M) (l : Fin 128) (off : ℕ) (hM : M ≤ 1024) (hN : N ≤ 1024) (ho : off < 2048) :
    (∑ j : Fin N, FloatOps.exp2 (F := Ideal) (φ := .f32)
        (Scalar.select (IntOp.cmpi CmpIPredicate.sle (BitVec.ofNat 32 j.val) (IntOp.addi (BitVec.ofNat 32 r.val) (BitVec.ofNat 32 off)))
          ((∑ x : Fin 128, q (ix2 r x) * k (ix2 j x)) * (Named.named κ "log2e" 0x3FB8AA3B#32 : Ideal .f32)) (Ideal.ofBits FTy.f32 0xFF800000#32)) * v (ix2 j l))
      = ((∑ j : Fin N, (if j.val ≤ r.val + off then wt Q K r.val j.val else 0) * V j.val l.val : ℝ) : EReal) := by
  rw [← coe_sum]
  refine Finset.sum_congr rfl fun j _ => ?_
  rw [show ∀ y : EReal, FloatOps.exp2 (F := Ideal) (φ := .f32) y = Ideal.exp2 y from fun _ => rfl, hv, EReal.coe_mul]
  have hb := le_word j.val r.val off (by omega) (by omega) ho
  by_cases h : j.val ≤ r.val + off
  · rw [hb.2 h, if_pos h, show ∀ a b : EReal, Scalar.select 1#1 a b = a from fun _ _ => rfl, wt_eq q k Q K hq hk]
  · rw [if_neg h, show ∀ (c : BitVec 1) (a b : EReal), Scalar.select c a b = if c = 1#1 then a else b from fun _ _ _ => rfl,
      if_neg (fun h' => h (hb.1 h')), show Ideal.ofBits FTy.f32 0xFF800000#32 = ⊥ from neg_inf]
    rfl

theorem pay2_holds : Holds (k0_pay2 (F := Ideal)) (fun _ _ => 0) := by
  intro r l
  pointwise [k0_pay2]
  rfl

theorem pay3_holds (q : FVec Ideal S1024x128 .bf16) (k v : FVec Ideal S512x128 .bf16) (Q K V : ℕ → ℕ → ℝ)
    (hq : Holds q Q) (hk : Holds k K) (hv : Holds v V) :
    Holds (k0_pay3 (F := Ideal) q k v) (fun r l => ∑ j : Fin 512, wt Q K r j.val * V j.val l) := by
  intro r l
  pointwise [k0_pay3]
  exact sum_eq q k v Q K V hq hk hv r l

theorem pay4_holds (q : FVec Ideal S1024x128 .bf16) (k v : FVec Ideal S512x128 .bf16) (Q K V : ℕ → ℕ → ℝ)
    (hq : Holds q Q) (hk : Holds k K) (hv : Holds v V) :
    Holds (k0_pay4 (F := Ideal) q k v) (fun r l => ∑ j : Fin 512, wt Q K r j.val * V j.val l) :=
  pay3_holds q k v Q K V hq hk hv

theorem pay5_holds (acc : FVec Ideal S1024x128 .f32) (q k v : FVec Ideal S1024x128 .bf16) (A Q K V : ℕ → ℕ → ℝ)
    (ha : Holds acc A) (hq : Holds q Q) (hk : Holds k K) (hv : Holds v V) :
    Holds (k0_pay5 (F := Ideal) acc q k v) (fun r l => A r l + ∑ j : Fin 1024, wt Q K r j.val * V j.val l) := by
  intro r l
  pointwise [k0_pay5]
  rw [ha, EReal.coe_add]
  exact congrArg _ (sum_eq q k v Q K V hq hk hv r l)

theorem pay6_holds (acc : FVec Ideal S1024x128 .f32) (q k v : FVec Ideal S1024x128 .bf16) (A Q K V : ℕ → ℕ → ℝ)
    (ha : Holds acc A) (hq : Holds q Q) (hk : Holds k K) (hv : Holds v V) :
    Holds (k0_pay6 (F := Ideal) acc q k v) (fun r l => A r l + ∑ j : Fin 1024, wt Q K r j.val * V j.val l) :=
  pay5_holds acc q k v A Q K V ha hq hk hv

/-- The sums of the first 512 rows and of the last 512, with the keys of the step's own block. -/
def own (A Q K V : ℕ → ℕ → ℝ) (n off : ℕ) (r l : ℕ) : ℝ :=
  A (off + r) l + ∑ j : Fin n, (if j.val ≤ r + off then wt Q K r j.val else 0) * V j.val l

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- What the step divides and by what. -/
def quo (A Q K V : ℕ → ℕ → ℝ) (n off : ℕ) (r l : ℕ) : ℝ := own A Q K V n off r l / own A Q K V n off r 64

theorem select_lane (l : ℕ) (hl : l < 128) (a b : EReal) :
    Scalar.select (IntOp.cmpi CmpIPredicate.slt (BitVec.ofNat 32 l) 64#32) a b = if l < 64 then a else b := by
  have hb := lt_word l 64 (by omega) (by omega)
  by_cases h : l < 64
  · rw [hb.2 h, if_pos h]; rfl
  · rw [if_neg h, show ∀ (c : BitVec 1) (a b : EReal), Scalar.select c a b = if c = 1#1 then a else b from fun _ _ _ => rfl,
      if_neg (fun h' => h (hb.1 h'))]

theorem own_eq {N : ℕ} (a : EReal) (q : (⟨2, ![512, 128]⟩ : Shape).Idx → EReal) (k v : (⟨2, ![N, 128]⟩ : Shape).Idx → EReal) (A Q K V : ℕ → ℕ → ℝ)
    (hq : Holds q Q) (hk : Holds k K) (hv : Holds v V) (r : Fin 512) (l : Fin 128) (off : ℕ) (hN : N ≤ 1024) (ho : off < 2048)
    (ha : a = ((A (off + r.val) l.val : ℝ) : EReal)) :
    a + (∑ j : Fin N, FloatOps.exp2 (F := Ideal) (φ := .f32)
        (Scalar.select (IntOp.cmpi CmpIPredicate.sle (BitVec.ofNat 32 j.val) (IntOp.addi (BitVec.ofNat 32 r.val) (BitVec.ofNat 32 off)))
          ((∑ x : Fin 128, q (ix2 r x) * k (ix2 j x)) * (Named.named κ "log2e" 0x3FB8AA3B#32 : Ideal .f32)) (Ideal.ofBits FTy.f32 0xFF800000#32)) * v (ix2 j l))
      = ((own A Q K V N off r.val l.val : ℝ) : EReal) := by
  rw [masked_eq q k v Q K V hq hk hv r l off (by omega) hN ho, ha, own, EReal.coe_add]

theorem quo_eq {N : ℕ} (a a' : EReal) (q : (⟨2, ![512, 128]⟩ : Shape).Idx → EReal) (k v : (⟨2, ![N, 128]⟩ : Shape).Idx → EReal) (A Q K V : ℕ → ℕ → ℝ)
    (hq : Holds q Q) (hk : Holds k K) (hv : Holds v V) (r : Fin 512) (l : Fin 128) (off : ℕ) (hN : N ≤ 1024) (ho : off < 2048)
    (ha : a = ((A (off + r.val) l.val : ℝ) : EReal)) (ha' : a' = ((A (off + r.val) 64 : ℝ) : EReal))
    (hd : own A Q K V N off r.val 64 ≠ 0) :
    Ideal.div (a + (∑ j : Fin N, FloatOps.exp2 (F := Ideal) (φ := .f32)
        (Scalar.select (IntOp.cmpi CmpIPredicate.sle (BitVec.ofNat 32 j.val) (IntOp.addi (BitVec.ofNat 32 r.val) (BitVec.ofNat 32 off)))
          ((∑ x : Fin 128, q (ix2 r x) * k (ix2 j x)) * (Named.named κ "log2e" 0x3FB8AA3B#32 : Ideal .f32)) (Ideal.ofBits FTy.f32 0xFF800000#32)) * v (ix2 j l)))
      (a' + (∑ j : Fin N, FloatOps.exp2 (F := Ideal) (φ := .f32)
        (Scalar.select (IntOp.cmpi CmpIPredicate.sle (BitVec.ofNat 32 j.val) (IntOp.addi (BitVec.ofNat 32 r.val) (BitVec.ofNat 32 off)))
          ((∑ x : Fin 128, q (ix2 r x) * k (ix2 j x)) * (Named.named κ "log2e" 0x3FB8AA3B#32 : Ideal .f32)) (Ideal.ofBits FTy.f32 0xFF800000#32)) * v (ix2 j (64 : Fin 128))))
      = ((quo A Q K V N off r.val l.val : ℝ) : EReal) := by
  rw [own_eq a q k v A Q K V hq hk hv r l off hN ho ha, own_eq a' q k v A Q K V hq hk hv r (64 : Fin 128) off hN ho ha']
  exact div_coe _ _ hd

theorem pay10_holds (acc : FVec Ideal S1024x128 .f32) (q k v : FVec Ideal S512x128 .bf16) (A Q K V : ℕ → ℕ → ℝ)
    (ha : Holds acc A) (hq : Holds q Q) (hk : Holds k K) (hv : Holds v V) (hd : ∀ r : Fin 512, own A Q K V 512 0 r.val 64 ≠ 0) :
    Holds (k0_pay10 (F := Ideal) acc q k v) (quo A Q K V 512 0) := by
  intro r l
  pointwise [k0_pay10, k0_pay9]
  exact quo_eq _ _ q k v A Q K V hq hk hv r l 0 (by omega) (by omega) (by rw [ha]; simp) (by rw [ha]; simp) (hd r)

/-- Two heads' rows side by side. -/
def pair (a b : ℕ → ℕ → ℝ) (r l : ℕ) : ℝ := if l < 64 then a r l else b r (l - 64)

theorem top_holds (acc0 acc1 : FVec Ideal S1024x128 .f32) (q0 q1 k0 k1 v0 v1 : FVec Ideal S512x128 .bf16)
    (A Q K V A' Q' K' V' : ℕ → ℕ → ℝ)
    (ha : Holds acc0 A) (hq : Holds q0 Q) (hk : Holds k0 K) (hv : Holds v0 V) (hd : ∀ r : Fin 512, own A Q K V 512 0 r.val 64 ≠ 0)
    (ha' : Holds acc1 A') (hq' : Holds q1 Q') (hk' : Holds k1 K') (hv' : Holds v1 V') (hd' : ∀ r : Fin 512, own A' Q' K' V' 512 0 r.val 64 ≠ 0) :
    Holds (k0_pay14 (F := Ideal) (iota .tc S512x128 32 [1] iota_S512x128_d1_w32) k0_pay9 (k0_pay10 acc0 q0 k0 v0) (k0_pay11 acc1) (k0_pay12 q1) (k0_pay13 k1) v1)
      (pair (quo A Q K V 512 0) (quo A' Q' K' V' 512 0)) := by
  intro r l
  pointwise [k0_pay14, k0_pay9, k0_pay11, k0_pay12, k0_pay13]
  rw [select_lane l.val l.isLt, pair]
  by_cases h : l.val < 64
  · rw [if_pos h, if_pos h, pay10_holds acc0 q0 k0 v0 A Q K V ha hq hk hv hd]
  · rw [if_neg h, if_neg h]
    have e : (⟨(l.val + 128 - 64) % 128, Nat.mod_lt _ (by omega)⟩ : Fin 128) = ⟨l.val - 64, by omega⟩ := Fin.ext (by show (l.val + 128 - 64) % 128 = l.val - 64; omega)
    rw [e]
    exact quo_eq _ _ q1 k1 v1 A' Q' K' V' hq' hk' hv' r ⟨l.val - 64, by omega⟩ 0 (by omega) (by omega) (by rw [ha']; simp) (by rw [ha']; simp) (hd' r)

theorem bottom_holds (acc0 acc1 : FVec Ideal S1024x128 .f32) (q0 q1 : FVec Ideal S512x128 .bf16) (k0 k1 v0 v1 : FVec Ideal S1024x128 .bf16)
    (A Q K V A' Q' K' V' : ℕ → ℕ → ℝ)
    (ha : Holds acc0 A) (hq : Holds q0 Q) (hk : Holds k0 K) (hv : Holds v0 V) (hd : ∀ r : Fin 512, own A Q K V 1024 512 r.val 64 ≠ 0)
    (ha' : Holds acc1 A') (hq' : Holds q1 Q') (hk' : Holds k1 K') (hv' : Holds v1 V') (hd' : ∀ r : Fin 512, own A' Q' K' V' 1024 512 r.val 64 ≠ 0) :
    Holds (k0_pay1 (F := Ideal) acc1 (iota .tc S512x128 32 [1] iota_S512x128_d1_w32) k0_pay15 (k0_pay16 acc0) (k0_pay17 q0 k0) (k0_pay18 v0) q1 k1 v1)
      (pair (quo A Q K V 1024 512) (quo A' Q' K' V' 1024 512)) := by
  intro r l
  pointwise [k0_pay1, k0_pay15, k0_pay16, k0_pay17, k0_pay18]
  rw [select_lane l.val l.isLt, pair]
  by_cases h : l.val < 64
  · rw [if_pos h, if_pos h]
    exact quo_eq _ _ q0 k0 v0 A Q K V hq hk hv r l 512 (by omega) (by omega) (by rw [ha]) (by rw [ha]; rfl) (hd r)
  · rw [if_neg h, if_neg h]
    have e : (⟨(l.val + 128 - 64) % 128, Nat.mod_lt _ (by omega)⟩ : Fin 128) = ⟨l.val - 64, by omega⟩ := Fin.ext (by show (l.val + 128 - 64) % 128 = l.val - 64; omega)
    rw [e]
    exact quo_eq _ _ q1 k1 v1 A' Q' K' V' hq' hk' hv' r ⟨l.val - 64, by omega⟩ 512 (by omega) (by omega) (by rw [ha']) (by rw [ha']; rfl) (hd' r)

end Cert.Proof.Fox
-- ==== Proof.Fox.Host.lean ====
module

public import proofs.«01_k».proof.Proof.Fox.Run
public import proofs.«01_k».proof.Proof.Fox.Attend

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The values with a lane of ones after each head. -/
def vals4 (v : FVec Ideal S2x8192x8x64 .f32) : FVec Ideal S2x8192x8x128 .f32 :=
  concatenate S2x8192x8x128 3 [⟨S2x8192x8x64, v⟩,
    ⟨S2x8192x8x1, broadcastInDim S2x8192x8x1 ![] bcast_S_S2x8192x8x1 (constant S_ .f32 0x3F800000#32)⟩,
    ⟨S2x8192x8x63, broadcastInDim S2x8192x8x63 ![] bcast_S_S2x8192x8x63 (constant S_ .f32 0x00000000#32)⟩]
    concatenates_S2x8192x8x64_S2x8192x8x1_S2x8192x8x63_S2x8192x8x128_d3

/-- The decay's first part, and its second, and its third. -/
def hi (c : FVec Ideal S2x8192x8 .f32) : FVec Ideal S2x8192x8 .f32 := extf .f32 (truncf .bf16 c bitsLt_bf16_f32) bitsLt_bf16_f32
def mid (c : FVec Ideal S2x8192x8 .f32) : FVec Ideal S2x8192x8 .f32 := extf .f32 (truncf .bf16 (subf c (hi c)) bitsLt_bf16_f32) bitsLt_bf16_f32
def lo (c : FVec Ideal S2x8192x8 .f32) : FVec Ideal S2x8192x8 .f32 :=
  extf .f32 (truncf .bf16 (subf (subf c (hi c)) (mid c)) bitsLt_bf16_f32) bitsLt_bf16_f32

def one4 (x : FVec Ideal S2x8192x8 .f32) : FVec Ideal S2x8192x8x1 .f32 := broadcastInDim S2x8192x8x1 ![0, 1, 2] bcast_S2x8192x8_S2x8192x8x1_0_1_2 x

/-- The queries, scaled, with the decay's parts after each head. -/
def quer4 (q : FVec Ideal S2x8192x8x64 .f32) (c : FVec Ideal S2x8192x8 .f32) : FVec Ideal S2x8192x8x128 .f32 :=
  concatenate S2x8192x8x128 3 [⟨S2x8192x8x64, mulf q (broadcastInDim S2x8192x8x64 ![] bcast_S_S2x8192x8x64 (constant S_ .f32 0x3E000000#32))⟩,
    ⟨S2x8192x8x3, broadcastInDim S2x8192x8x3 ![] bcast_S_S2x8192x8x3 (constant S_ .f32 0xBF800000#32)⟩,
    ⟨S2x8192x8x1, one4 (hi c)⟩, ⟨S2x8192x8x1, one4 (mid c)⟩, ⟨S2x8192x8x1, one4 (lo c)⟩,
    ⟨S2x8192x8x1, broadcastInDim S2x8192x8x1 ![] bcast_S_S2x8192x8x1 (constant S_ .f32 0x3F800000#32)⟩,
    ⟨S2x8192x8x57, broadcastInDim S2x8192x8x57 ![] bcast_S_S2x8192x8x57 (constant S_ .f32 0x00000000#32)⟩]
    concatenates_S2x8192x8x64_S2x8192x8x3_S2x8192x8x1_S2x8192x8x1_S2x8192x8x1_S2x8192x8x1_S2x8192x8x57_S2x8192x8x128_d3

/-- The keys, with the decay's parts and the bound after each head. -/
def keys4 (k : FVec Ideal S2x8192x8x64 .f32) (c : FVec Ideal S2x8192x8 .f32) (b : FVec Ideal S1x1x1x1 .f32) : FVec Ideal S2x8192x8x128 .f32 :=
  concatenate S2x8192x8x128 3 [⟨S2x8192x8x64, k⟩, ⟨S2x8192x8x1, one4 (hi c)⟩, ⟨S2x8192x8x1, one4 (mid c)⟩, ⟨S2x8192x8x1, one4 (lo c)⟩,
    ⟨S2x8192x8x3, broadcastInDim S2x8192x8x3 ![] bcast_S_S2x8192x8x3 (constant S_ .f32 0x3F800000#32)⟩,
    ⟨S2x8192x8x1, broadcastInDim S2x8192x8x1 ![0, 1, 2, 3] bcast_S1x1x1x1_S2x8192x8x1_0_1_2_3 (Host.negf b)⟩,
    ⟨S2x8192x8x57, broadcastInDim S2x8192x8x57 ![] bcast_S_S2x8192x8x57 (constant S_ .f32 0x00000000#32)⟩]
    concatenates_S2x8192x8x64_S2x8192x8x1_S2x8192x8x1_S2x8192x8x1_S2x8192x8x3_S2x8192x8x1_S2x8192x8x57_S2x8192x8x128_d3

/-- Heads laid side by side. -/
def flat (x : FVec Ideal S2x8192x8x128 .f32) : FVec Ideal S16384x1024 .bf16 :=
  truncf .bf16 (shapeCast S16384x1024 x shapeCasts_S2x8192x8x128_S16384x1024) bitsLt_bf16_f32

theorem vals_eq : V m c main_v31 = flat (vals4 (m ((c : Thread nD τ).loc main_arg3))) := by
  unfold V
  after_results_simp
  rfl

theorem keys_eq : V m c main_v26 = flat (keys4 (m ((c : Thread nD τ).loc main_arg2)) (m ((c : Thread nD τ).loc main_arg4)) (m ((c : Thread nD τ).loc main_arg5))) := by
  unfold V
  after_results_simp
  rfl

theorem quer_eq : V m c main_v19 = flat (quer4 (m ((c : Thread nD τ).loc main_arg1)) (m ((c : Thread nD τ).loc main_arg4))) := by
  unfold V
  after_results_simp
  rfl

end Cert.Proof.Fox
-- ==== Proof.Fox.Packed.lean ====
module

public import proofs.«01_k».proof.Proof.Fox.Host

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic

/-! # The packed arrays, read as real numbers -/

/-- No element is infinite. -/
def Fin' {S : Shape} (x : S.Idx → EReal) : Prop := ∀ i, x i ≠ ⊤ ∧ x i ≠ ⊥

theorem coe_toReal {S : Shape} {x : S.Idx → EReal} (h : Fin' x) (i : S.Idx) : x i = ((x i).toReal : EReal) :=
  (EReal.coe_toReal (h i).1 (h i).2).symm

def rd4 (x : S2x8192x8x64.Idx → EReal) (b t h d : ℕ) : ℝ :=
  if hh : b < 2 ∧ t < 8192 ∧ h < 8 ∧ d < 64 then (x (ix4 ⟨b, hh.1⟩ ⟨t, hh.2.1⟩ ⟨h, hh.2.2.1⟩ ⟨d, hh.2.2.2⟩)).toReal else 0

def rd3 (x : S2x8192x8.Idx → EReal) (b t h : ℕ) : ℝ :=
  if hh : b < 2 ∧ t < 8192 ∧ h < 8 then (x (ix3 ⟨b, hh.1⟩ ⟨t, hh.2.1⟩ ⟨h, hh.2.2⟩)).toReal else 0

theorem rd4_eq {x : S2x8192x8x64.Idx → EReal} (hx : Fin' x) (b : Fin 2) (t : Fin 8192) (h : Fin 8) (d : Fin 64) :
    x (ix4 b t h d) = ((rd4 x b t h d : ℝ) : EReal) := by
  rw [rd4, dif_pos ⟨b.isLt, t.isLt, h.isLt, d.isLt⟩]
  exact coe_toReal hx _

theorem rd3_eq {x : S2x8192x8.Idx → EReal} (hx : Fin' x) (b : Fin 2) (t : Fin 8192) (h : Fin 8) :
    x (ix3 b t h) = ((rd3 x b t h : ℝ) : EReal) := by
  rw [rd3, dif_pos ⟨b.isLt, t.isLt, h.isLt⟩]
  exact coe_toReal hx _

def qf (q : S2x8192x8x64.Idx → EReal) (c : S2x8192x8.Idx → EReal) (b t h x : ℕ) : ℝ :=
  if x < 64 then rd4 q b t h x * 8⁻¹ else if x < 67 then -1 else if x < 68 then rd3 c b t h else if x < 70 then 0
  else if x < 71 then 1 else 0

def kf (k : S2x8192x8x64.Idx → EReal) (c : S2x8192x8.Idx → EReal) (bd : ℝ) (b t h x : ℕ) : ℝ :=
  if x < 64 then rd4 k b t h x else if x < 65 then rd3 c b t h else if x < 67 then 0 else if x < 70 then 1
  else if x < 71 then -bd else 0

def vf (v : S2x8192x8x64.Idx → EReal) (b t h x : ℕ) : ℝ :=
  if x < 64 then rd4 v b t h x else if x < 65 then 1 else 0

theorem eighth : (Ideal.ofBits .f32 0x3E000000#32 : EReal) = ((8⁻¹ : ℝ) : EReal) := by
  simp [Ideal.ofBits, Ideal.ieee]
  rw [← EReal.coe_mul, EReal.coe_eq_coe_iff]
  norm_num

theorem neg_one : (Ideal.ofBits .f32 0xBF800000#32 : EReal) = ((-1 : ℝ) : EReal) := by
  simp [Ideal.ofBits, Ideal.ieee]
  rw [← EReal.coe_mul, ← EReal.coe_one, EReal.coe_eq_coe_iff]
  norm_num

theorem vals4_at (v : FVec Ideal S2x8192x8x64 .f32) (hv : Fin' v) (b : Fin 2) (t : Fin 8192) (h : Fin 8) (x : Fin 128) :
    vals4 v (ix4 b t h x) = ((vf v b t h x : ℝ) : EReal) := by
  pointwise [vals4]
  unfold vf
  split_ifs <;> first
    | omega
    | rfl
    | exact rd4_eq hv b t h _

theorem flat_at (x : FVec Ideal S2x8192x8x128 .f32) (r : Fin 16384) (l : Fin 1024) :
    flat x (ix2 r l) = x (ix4 ⟨r.val / 8192, by omega⟩ ⟨r.val % 8192, by omega⟩ ⟨l.val / 128, by omega⟩ ⟨l.val % 128, by omega⟩) := by
  pointwise [flat]

theorem quer4_at (q : FVec Ideal S2x8192x8x64 .f32) (c : FVec Ideal S2x8192x8 .f32) (hq : Fin' q) (hc : Fin' c) (b : Fin 2) (t : Fin 8192) (h : Fin 8) (x : Fin 128) :
    quer4 q c (ix4 b t h x) = ((qf q c b t h x : ℝ) : EReal) := by
  pointwise [quer4, one4, hi, mid, lo]
  rw [eighth, neg_one, rd3_eq hc, ← EReal.coe_sub, ← EReal.coe_sub, sub_self, sub_self]
  unfold qf
  split_ifs <;> first
    | omega
    | rfl
    | (rw [rd4_eq hq, ← EReal.coe_mul])

theorem keys4_at (k : FVec Ideal S2x8192x8x64 .f32) (c : FVec Ideal S2x8192x8 .f32) (bd : FVec Ideal S1x1x1x1 .f32) (hk : Fin' k) (hc : Fin' c) (hb : Fin' bd) (b : Fin 2) (t : Fin 8192) (h : Fin 8) (x : Fin 128) :
    keys4 k c bd (ix4 b t h x) = ((kf k c (bd (ix4 0 0 0 0)).toReal b t h x : ℝ) : EReal) := by
  pointwise [keys4, one4, hi, mid, lo]
  rw [rd3_eq hc, ← EReal.coe_sub, ← EReal.coe_sub, sub_self, sub_self]
  unfold kf
  split_ifs <;> first
    | omega
    | rfl
    | (rw [rd4_eq hk])
    | (rw [EReal.coe_neg, ← coe_toReal hb])

/-- The score of a packed query against a packed key. -/
theorem score_eq (q k : S2x8192x8x64.Idx → EReal) (c : S2x8192x8.Idx → EReal) (bd : ℝ) (b t j h : ℕ) :
    ∑ x : Fin 128, qf q c b t h x.val * kf k c bd b j h x.val
      = (∑ d : Fin 64, rd4 q b t h d * rd4 k b j h d) * 8⁻¹ + rd3 c b t h - rd3 c b j h - bd := by
  have e : ∀ f : ℕ → ℝ, ∑ x : Fin 128, f x.val = (∑ d : Fin 64, f d.val) + ∑ d : Fin 64, f (64 + d.val) := fun f => by
    rw [show (128 : ℕ) = 64 + 64 from rfl, Fin.sum_univ_add]; rfl
  rw [e (fun x => qf q c b t h x * kf k c bd b j h x)]
  have e1 : ∑ d : Fin 64, qf q c b t h d.val * kf k c bd b j h d.val = (∑ d : Fin 64, rd4 q b t h d * rd4 k b j h d) * 8⁻¹ := by
    rw [Finset.sum_mul]
    refine Finset.sum_congr rfl fun d _ => ?_
    rw [qf, kf, if_pos d.isLt, if_pos d.isLt]; ring
  have e2 : ∑ d : Fin 64, qf q c b t h (64 + d.val) * kf k c bd b j h (64 + d.val)
      = ∑ d : Fin 64, (if d.val = 0 then - rd3 c b j h else if d.val = 3 then rd3 c b t h else if d.val = 6 then -bd else 0) := by
    refine Finset.sum_congr rfl fun d _ => ?_
    unfold qf kf
    split_ifs <;> first
      | omega
      | ring
  rw [e1, e2]
  have e3 : ∀ (a : Fin 64) (y : ℝ), ∑ d : Fin 64, (if d = a then y else 0) = y := fun a y => by simp
  have e4 : ∑ d : Fin 64, (if d.val = 0 then - rd3 c b j h else if d.val = 3 then rd3 c b t h else if d.val = 6 then -bd else 0)
      = ∑ d : Fin 64, ((if d = (0 : Fin 64) then - rd3 c b j h else 0) + (if d = (3 : Fin 64) then rd3 c b t h else 0) + (if d = (6 : Fin 64) then -bd else 0)) := by
    refine Finset.sum_congr rfl fun d _ => ?_
    have h0 : d = (0 : Fin 64) ↔ d.val = 0 := Fin.ext_iff
    have h3 : d = (3 : Fin 64) ↔ d.val = 3 := Fin.ext_iff
    have h6 : d = (6 : Fin 64) ↔ d.val = 6 := Fin.ext_iff
    simp only [h0, h3, h6]
    split_ifs <;> first
      | omega
      | ring
  rw [e4, Finset.sum_add_distrib, Finset.sum_add_distrib, e3, e3, e3]
  ring

end Cert.Proof.Fox
-- ==== Proof.Fox.Softmax.lean ====
module

public import proofs.«01_k».proof.Proof.Fox.Attend

@[expose] public section

noncomputable section

namespace Cert.Proof.Fox

open Idealize.ShloMosaic

/-! # A softmax over visible keys is a quotient of two weighted sums -/

variable {N : ℕ} (x : Fin N → EReal) (s v : Fin N → ℝ) (vis : Fin N → Prop) [DecidablePred vis]

/-- The largest visible score is a real number. -/
theorem max_real (hx : ∀ j, x j = if vis j then ((s j : ℝ) : EReal) else ⊥) (j0 : Fin N) (h0 : vis j0) :
    ∃ M : ℝ, Finset.univ.fold max ⊥ x = (M : EReal) := by
  have top : Finset.univ.fold max ⊥ x < ⊤ := by
    rw [Finset.fold_max_lt]
    refine ⟨bot_lt_top, fun j _ => ?_⟩
    rw [hx]
    split_ifs
    · exact EReal.coe_lt_top _
    · exact bot_lt_top
  have bot : ⊥ < Finset.univ.fold max ⊥ x := by
    rw [Finset.lt_fold_max]
    refine Or.inr ⟨j0, Finset.mem_univ _, ?_⟩
    rw [hx, if_pos h0]
    exact EReal.bot_lt_coe _
  exact ⟨_, (EReal.coe_toReal top.ne bot.ne').symm⟩

/-- The exponential of a shifted score: of a hidden one, zero. -/
theorem exp_shift (hx : ∀ j, x j = if vis j then ((s j : ℝ) : EReal) else ⊥) (M : ℝ) (j : Fin N) :
    Ideal.exp (x j - (M : EReal)) = ((if vis j then Real.exp (s j - M) else 0 : ℝ) : EReal) := by
  rw [hx]
  split_ifs
  · rw [← EReal.coe_sub, Ideal.exp_coe]
  · rw [EReal.bot_sub, Ideal.exp_bot, EReal.coe_zero]

/-- Weighted by a softmax, whatever common shift `b` the weights of the quotient carry. -/
theorem softmax_quot (hx : ∀ j, x j = if vis j then ((s j : ℝ) : EReal) else ⊥) (j0 : Fin N) (h0 : vis j0) (b : ℝ) :
    ∑ j, Ideal.div (Ideal.exp (x j - Finset.univ.fold max ⊥ x)) (∑ k, Ideal.exp (x k - Finset.univ.fold max ⊥ x)) * ((v j : ℝ) : EReal)
      = (((∑ j, if vis j then Real.exp (s j - b) * v j else 0) / (∑ j, if vis j then Real.exp (s j - b) else 0) : ℝ) : EReal) := by
  obtain ⟨M, hM⟩ := max_real x s vis hx j0 h0
  rw [hM]
  simp only [exp_shift x s vis hx M]
  rw [coe_sum]
  have pos : ∀ a : ℝ, 0 < ∑ k, (if vis k then Real.exp (s k - a) else 0) := fun a => by
    refine Finset.sum_pos' (fun k _ => ?_) ⟨j0, Finset.mem_univ _, ?_⟩
    · split_ifs
      · exact (Real.exp_pos _).le
      · exact le_rfl
    · rw [if_pos h0]; exact Real.exp_pos _
  have step : ∀ j, Ideal.div (((if vis j then Real.exp (s j - M) else 0 : ℝ)) : EReal) ((∑ k, (if vis k then Real.exp (s k - M) else 0) : ℝ) : EReal) * ((v j : ℝ) : EReal)
      = (((if vis j then Real.exp (s j - M) else 0) / (∑ k, (if vis k then Real.exp (s k - M) else 0)) * v j : ℝ) : EReal) := fun j => by
    rw [div_coe _ _ (pos M).ne', EReal.coe_mul]
  simp only [step]
  rw [coe_sum]
  refine congrArg Real.toEReal ?_
  have sh : ∀ j, (if vis j then Real.exp (s j - M) else 0) = Real.exp (b - M) * (if vis j then Real.exp (s j - b) else 0) := fun j => by
    split_ifs
    · rw [← Real.exp_add]; congr 1; ring
    · rw [mul_zero]
  simp only [sh]
  rw [← Finset.mul_sum, Finset.sum_div]
  refine Finset.sum_congr rfl fun j _ => ?_
  have e : (Real.exp (b - M)) ≠ 0 := (Real.exp_pos _).ne'
  rw [mul_div_mul_left _ _ e]
  split_ifs
  · ring
  · simp

/-- A sum over the visible stretch of keys, as a sum over an interval. -/
theorem sum_stretch (N lo t : ℕ) (ht : t < N) (f : ℕ → ℝ) :
    (∑ j : Fin N, if j.val ≤ t ∧ lo ≤ j.val then f j.val else 0) = ∑ j ∈ Finset.Ico lo (t + 1), f j := by
  rw [Fin.sum_univ_eq_sum_range (fun j => if j ≤ t ∧ lo ≤ j then f j else 0) N, ← Finset.sum_filter]
  refine Finset.sum_congr ?_ fun _ _ => rfl
  ext j
  simp only [Finset.mem_filter, Finset.mem_range, Finset.mem_Ico]
  omega

end Cert.Proof.Fox
-- ==== Proof.Fox.Reference.lean ====
module

public import proofs.«01_k».proof.Proof.Gen.ReferenceIdeal.Run
public import proofs.«01_k».proof.Proof.Fox.Packed
public import proofs.«01_k».proof.Proof.Fox.Softmax

@[expose] public section

set_option maxRecDepth 16384
set_option maxHeartbeats 4000000

noncomputable section

namespace Cert.Proof.Fox

open Cert.ReferenceIdeal Cert.ReferenceIdeal.Gen
open Idealize.ShloMosaic Idealize.ShloMosaic.TcCoe Idealize.ShloMosaic.Tactic

/-! # The reference's softmax attention, entry by entry -/

/-- Which keys a query sees: those not after it, from the first block the table names. -/
def seen (first : IVec S64 32) : IVec S2x8x8192x8192 1 :=
  andi (broadcastInDim S2x8x8192x8192 ![0, 1, 2, 3] bcast_S1x1x8192x8192_S2x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (cmpi .sge (broadcastInDim S2x8x8192x8192 ![0, 1, 2, 3] bcast_S1x1x1x8192_S2x8x8192x8192_0_1_2_3 (broadcastInDim S1x1x1x8192 ![3] bcast_S8192_S1x1x1x8192_3 (iotaInDim S8192 32 0))) (broadcastInDim S2x8x8192x8192 ![0, 1, 2, 3] bcast_S2x8x8192x1_S2x8x8192x8192_0_1_2_3 (shapeCast _ (broadcastInDim S2x4x2x8x1024 ![0, 1, 2, 3, 4] bcast_S2x4x1x8x1_S2x4x2x8x1024_0_1_2_3_4 (muli (shapeCast _ first shapeCasts_S64_S2x4x1x8x1) (broadcastInDim S2x4x1x8x1 ![] bcast_S_S2x4x1x8x1 (constantI S_ 32 512#32)))) shapeCasts_S2x4x2x8x1024_S2x8x8192x1)))

/-- The scores, before masking. -/
def scores (q k : FVec Ideal S2x8192x8x64 .f32) (dec : FVec Ideal S2x8192x8 .f32) : FVec Ideal S2x8x8192x8192 .f32 :=
  subf (addf (mulf (Host.dotGeneral dot_S2x8x8192x64_S2x8x8192x64_S2x8x8192x8192_3_3_2_2_01_01 none (transpose S2x8x8192x64 [0, 2, 1, 3] q transposes_S2x8192x8x64_S2x8x8192x64_0_2_1_3) (transpose S2x8x8192x64 [0, 2, 1, 3] k transposes_S2x8192x8x64_S2x8x8192x64_0_2_1_3)) (broadcastInDim S2x8x8192x8192 ![] bcast_S_S2x8x8192x8192 (constant S_ .f32 0x3E000000#32))) (broadcastInDim S2x8x8192x8192 ![0, 1, 2, 3] bcast_S2x8x8192x1_S2x8x8192x8192_0_1_2_3 (broadcastInDim S2x8x8192x1 ![0, 1, 2] bcast_S2x8x8192_S2x8x8192x1_0_1_2 (transpose S2x8x8192 [0, 2, 1] dec transposes_S2x8192x8_S2x8x8192_0_2_1)))) (broadcastInDim S2x8x8192x8192 ![0, 1, 2, 3] bcast_S2x8x1x8192_S2x8x8192x8192_0_1_2_3 (broadcastInDim S2x8x1x8192 ![0, 1, 3] bcast_S2x8x8192_S2x8x1x8192_0_1_3 (transpose S2x8x8192 [0, 2, 1] dec transposes_S2x8192x8_S2x8x8192_0_2_1)))

/-- The masked scores. -/
def masked (first : IVec S64 32) (q k : FVec Ideal S2x8192x8x64 .f32) (dec : FVec Ideal S2x8192x8 .f32) : FVec Ideal S2x8x8192x8192 .f32 :=
  select (seen first) (scores q k dec) (broadcastInDim S2x8x8192x8192 ![] bcast_S_S2x8x8192x8192 (id (constant S_ .f32 0xFF800000#32)))

/-- The largest entry of each row. -/
def rowTop (x : FVec Ideal S2x8x8192x8192 .f32) : FVec Ideal S2x8x8192 .f32 :=
  Host.reduce FloatOps.maximumf x (constant S_ .f32 0xFF800000#32) reducesTo_S2x8x8192x8192_S2x8x8192_d3 h_S_

/-- The same, compared with the least value once more. -/
def rowMax (x : FVec Ideal S2x8x8192x8192 .f32) : FVec Ideal S2x8x8192 .f32 :=
  maximumf (broadcastInDim S2x8x8192 ![] bcast_S_S2x8x8192 (constant S_ .f32 0xFF800000#32)) (rowTop x)

/-- The exponentials, each row shifted by its largest entry. -/
def expo (x : FVec Ideal S2x8x8192x8192 .f32) : FVec Ideal S2x8x8192x8192 .f32 :=
  Host.exp (subf x (broadcastInDim S2x8x8192x8192 ![0, 1, 2, 3] bcast_S2x8x8192x1_S2x8x8192x8192_0_1_2_3 (broadcastInDim S2x8x8192x1 ![0, 1, 2] bcast_S2x8x8192_S2x8x8192x1_0_1_2 (rowMax x))))

/-- The sum of each row's exponentials. -/
def rowSum (x : FVec Ideal S2x8x8192x8192 .f32) : FVec Ideal S2x8x8192 .f32 :=
  Host.reduceAdd (expo x) (constant S_ .f32 0x00000000#32) reducesTo_S2x8x8192x8192_S2x8x8192_d3 h_S_

/-- The softmax of each row. -/
def soft (x : FVec Ideal S2x8x8192x8192 .f32) : FVec Ideal S2x8x8192x8192 .f32 :=
  Host.divf (expo x) (broadcastInDim S2x8x8192x8192 ![0, 1, 2, 3] bcast_S2x8x8192x1_S2x8x8192x8192_0_1_2_3 (broadcastInDim S2x8x8192x1 ![0, 1, 2] bcast_S2x8x8192_S2x8x8192x1_0_1_2 (rowSum x)))

/-- The attention read out with the given row weights. -/
def readOut (x : FVec Ideal S2x8x8192x8192 .f32) (v : FVec Ideal S2x8192x8x64 .f32) : FVec Ideal S16384x512 .bf16 :=
  truncf .bf16 (shapeCast _ (transpose S2x8192x8x64 [0, 2, 1, 3] (Host.dotGeneral dot_S2x8x8192x8192_S2x8x8192x64_S2x8x8192x64_3_2_2_3_01_01 none x (transpose S2x8x8192x64 [0, 2, 1, 3] v transposes_S2x8192x8x64_S2x8x8192x64_0_2_1_3)) transposes_S2x8x8192x64_S2x8192x8x64_0_2_1_3) shapeCasts_S2x8192x8x64_S16384x512) bitsLt_bf16_f32

theorem top_at {n0 n1 n2 n3 : ℕ} (h : (⟨4, ![n0, n1, n2, n3]⟩ : Shape).ReducesTo [3] ⟨3, ![n0, n1, n2]⟩) (x : FVec Ideal ⟨4, ![n0, n1, n2, n3]⟩ .f32)
    (init : FVec Ideal S_ .f32) (hu : 0 < S_.numel) (a : Fin n0) (b : Fin n1) (c : Fin n2) :
    Host.reduce FloatOps.maximumf x init h hu (ix3 a b c) = Finset.univ.fold max (init (Shape.Idx.first hu)) fun k : Fin n3 => x (ix4 a b c k) := by
  pointwise

theorem rowTop_at (x : FVec Ideal S2x8x8192x8192 .f32) (b : Fin 2) (h : Fin 8) (t : Fin 8192) :
    rowTop x (ix3 b h t) = Finset.univ.fold max ⊥ fun j : Fin 8192 => x (ix4 b h t j) := by
  refine (top_at (n0 := 2) (n1 := 8) (n2 := 8192) (n3 := 8192) _ x _ _ b h t).trans ?_
  rw [constant_apply, neg_inf]

theorem least_at (i : S2x8x8192.Idx) : (broadcastInDim S2x8x8192 ![] bcast_S_S2x8x8192 (constant S_ .f32 0xFF800000#32) : FVec Ideal S2x8x8192 .f32) i = ⊥ := by
  show (Scalar.ofBits .f32 0xFF800000#32 : Ideal .f32) = ⊥
  exact neg_inf

theorem maximumf_at {s : Shape} (x y : FVec Ideal s .f32) (i : s.Idx) : maximumf x y i = max (x i) (y i) := rfl

theorem rowMax_at (x : FVec Ideal S2x8x8192x8192 .f32) (b : Fin 2) (h : Fin 8) (t : Fin 8192) :
    rowMax x (ix3 b h t) = Finset.univ.fold max ⊥ fun j : Fin 8192 => x (ix4 b h t j) := by
  unfold rowMax
  rw [maximumf_at, least_at, rowTop_at]
  exact max_eq_right bot_le

theorem expo_at (x : FVec Ideal S2x8x8192x8192 .f32) (b : Fin 2) (h : Fin 8) (t j : Fin 8192) :
    expo x (ix4 b h t j) = Ideal.exp (x (ix4 b h t j) - rowMax x (ix3 b h t)) := by
  pointwise [expo]

theorem rowSum_at (x : FVec Ideal S2x8x8192x8192 .f32) (b : Fin 2) (h : Fin 8) (t : Fin 8192) :
    rowSum x (ix3 b h t) = ∑ j : Fin 8192, expo x (ix4 b h t j) := by
  pointwise [rowSum]

theorem soft_at (x : FVec Ideal S2x8x8192x8192 .f32) (b : Fin 2) (h : Fin 8) (t j : Fin 8192) :
    soft x (ix4 b h t j) = Ideal.div (expo x (ix4 b h t j)) (rowSum x (ix3 b h t)) := by
  pointwise [soft]

theorem readOut_at (x : FVec Ideal S2x8x8192x8192 .f32) (v : FVec Ideal S2x8192x8x64 .f32) (r : Fin 16384) (l : Fin 512) :
    readOut x v (ix2 r l) = ∑ j : Fin 8192, x (ix4 ⟨r.val / 8192, by omega⟩ ⟨l.val / 64, by omega⟩ ⟨r.val % 8192, by omega⟩ j)
      * v (ix4 ⟨r.val / 8192, by omega⟩ j ⟨l.val / 64, by omega⟩ ⟨l.val % 64, by omega⟩) := by
  pointwise [readOut]

theorem scores_at (q k : FVec Ideal S2x8192x8x64 .f32) (dec : FVec Ideal S2x8192x8 .f32) (hq : Fin' q) (hk : Fin' k) (hd : Fin' dec)
    (b : Fin 2) (h : Fin 8) (t j : Fin 8192) :
    scores q k dec (ix4 b h t j)
      = (((∑ d : Fin 64, rd4 q b t h d * rd4 k b j h d) * 8⁻¹ + rd3 dec b t h - rd3 dec b j h : ℝ) : EReal) := by
  pointwise [scores]
  rw [eighth, rd3_eq hd, rd3_eq hd]
  simp only [rd4_eq hq, rd4_eq hk, ← EReal.coe_mul]
  rw [coe_sum, ← EReal.coe_mul, ← EReal.coe_add, ← EReal.coe_sub]

theorem and_bit (a b : BitVec 1) : IntOp.andi a b = 1#1 ↔ a = 1#1 ∧ b = 1#1 := by
  revert a b; decide

theorem seen_at (first : IVec S64 32) (b : Fin 2) (h : Fin 8) (t j : Fin 8192) (n : ℕ) (hn : n ≤ 14)
    (hf : first (ix1 ⟨b.val * 32 + h.val / 2 * 8 + t.val / 1024, by omega⟩) = BitVec.ofNat 32 n) :
    seen first (ix4 b h t j) = 1#1 ↔ j.val ≤ t.val ∧ n * 512 ≤ j.val := by
  pointwise [seen]
  rw [hf, and_bit]
  have e : IntOp.muli (BitVec.ofNat 32 n) 512#32 = BitVec.ofNat 32 (n * 512) := (BitVec.ofNat_mul ..).symm
  rw [e]
  unfold IntOp.cmpi
  refine and_congr ?_ ?_
  · exact StableHlo.Predicate.sle_ofNat_iff _ _ (by omega) (by omega)
  · exact StableHlo.Predicate.sle_ofNat_iff _ _ (by omega) (by omega)

theorem masked_at (first : IVec S64 32) (q k : FVec Ideal S2x8192x8x64 .f32) (dec : FVec Ideal S2x8192x8 .f32) (hq : Fin' q) (hk : Fin' k) (hd : Fin' dec)
    (b : Fin 2) (h : Fin 8) (t j : Fin 8192) (n : ℕ) (hn : n ≤ 14)
    (hf : first (ix1 ⟨b.val * 32 + h.val / 2 * 8 + t.val / 1024, by omega⟩) = BitVec.ofNat 32 n) :
    masked first q k dec (ix4 b h t j)
      = if j.val ≤ t.val ∧ n * 512 ≤ j.val then
          (((∑ d : Fin 64, rd4 q b t h d * rd4 k b j h d) * 8⁻¹ + rd3 dec b t h - rd3 dec b j h : ℝ) : EReal) else ⊥ := by
  pointwise [masked]
  rw [scores_at q k dec hq hk hd]
  have e : (id (constant S_ .f32 0xFF800000#32) : FVec Ideal S_ .f32) ix0 = ⊥ := neg_inf
  rw [e]
  unfold Scalar.select
  have hs := seen_at first b h t j n hn hf
  by_cases hc : seen first (ix4 b h t j) = 1#1
  · rw [if_pos (hs.mp hc)]; simp [hc]
  · rw [if_neg (fun h' => hc (hs.mpr h'))]; simp [hc]

/-- The reference's attention, entry by entry: a quotient of two sums over the keys the query sees; the common shift `bd` cancels. -/
theorem attention_at (first : IVec S64 32) (q k v : FVec Ideal S2x8192x8x64 .f32) (dec : FVec Ideal S2x8192x8 .f32) (bd : ℝ)
    (hq : Fin' q) (hk : Fin' k) (hv : Fin' v) (hd : Fin' dec) (r : Fin 16384) (l : Fin 512) (n : ℕ) (hn : n ≤ 2 * (r.val % 8192 / 1024))
    (hf : first (ix1 ⟨r.val / 8192 * 32 + l.val / 64 / 2 * 8 + r.val % 8192 / 1024, by omega⟩) = BitVec.ofNat 32 n) :
    readOut (soft (masked first q k dec)) v (ix2 r l)
      = (((∑ j ∈ Finset.Ico (n * 512) (r.val % 8192 + 1),
              Real.exp ((∑ d : Fin 64, rd4 q (r.val / 8192) (r.val % 8192) (l.val / 64) d * rd4 k (r.val / 8192) j (l.val / 64) d) * 8⁻¹
                + rd3 dec (r.val / 8192) (r.val % 8192) (l.val / 64) - rd3 dec (r.val / 8192) j (l.val / 64) - bd) * rd4 v (r.val / 8192) j (l.val / 64) (l.val % 64))
          / (∑ j ∈ Finset.Ico (n * 512) (r.val % 8192 + 1),
              Real.exp ((∑ d : Fin 64, rd4 q (r.val / 8192) (r.val % 8192) (l.val / 64) d * rd4 k (r.val / 8192) j (l.val / 64) d) * 8⁻¹
                + rd3 dec (r.val / 8192) (r.val % 8192) (l.val / 64) - rd3 dec (r.val / 8192) j (l.val / 64) - bd)) : ℝ) : EReal) := by
  rw [readOut_at]
  simp only [soft_at, expo_at, rowSum_at, rowMax_at, rd4_eq hv]
  have hx := fun j : Fin 8192 => masked_at first q k dec hq hk hd ⟨r.val / 8192, by omega⟩ ⟨l.val / 64, by omega⟩ ⟨r.val % 8192, by omega⟩ j n (by omega) hf
  refine (softmax_quot (fun j : Fin 8192 => masked first q k dec (ix4 ⟨r.val / 8192, by omega⟩ ⟨l.val / 64, by omega⟩ ⟨r.val % 8192, by omega⟩ j))
    _ (fun j : Fin 8192 => rd4 v (r.val / 8192) j (l.val / 64) (l.val % 64)) _ hx ⟨r.val % 8192, by omega⟩ ⟨le_rfl, by show n * 512 ≤ r.val % 8192; omega⟩ bd).trans ?_
  refine congrArg Real.toEReal ?_
  refine congrArg₂ (· / ·) ?_ ?_
  · exact sum_stretch 8192 (n * 512) (r.val % 8192) (by omega) (fun j =>
      Real.exp ((∑ d : Fin 64, rd4 q (r.val / 8192) (r.val % 8192) (l.val / 64) d * rd4 k (r.val / 8192) j (l.val / 64) d) * 8⁻¹
                + rd3 dec (r.val / 8192) (r.val % 8192) (l.val / 64) - rd3 dec (r.val / 8192) j (l.val / 64) - bd) * rd4 v (r.val / 8192) j (l.val / 64) (l.val % 64))
  · exact sum_stretch 8192 (n * 512) (r.val % 8192) (by omega) (fun j =>
      Real.exp ((∑ d : Fin 64, rd4 q (r.val / 8192) (r.val % 8192) (l.val / 64) d * rd4 k (r.val / 8192) j (l.val / 64) d) * 8⁻¹
                + rd3 dec (r.val / 8192) (r.val % 8192) (l.val / 64) - rd3 dec (r.val / 8192) j (l.val / 64) - bd))

end Cert.Proof.Fox
-- ==== Proof.Fox.Block.lean ====
module

public import proofs.«01_k».proof.Proof.Fox.Attend
public import Idealize.ShloMosaic.Lib.Pipeline.ValueKit

@[expose] public section

set_option maxRecDepth 16384
set_option maxHeartbeats 1000000

noncomputable section

namespace Cert.Proof.Fox

open Cert.KernelIdeal Cert.KernelIdeal.Gen
open Idealize.ShloMosaic

/-! # One step's block of the result, as quotients of sums over a range of keys -/

/-- The part of an array from row `a` and lane `o`. -/
def part (f : ℕ → ℕ → ℝ) (a o : ℕ) (r l : ℕ) : ℝ := f (a + r) (o + l)

/-- The weighted sum of the values of the keys from `lo` up to `hi`, in the head whose lanes begin at `o`. -/
def num (Q K V : ℕ → ℕ → ℝ) (o lo hi : ℕ) (r l : ℕ) : ℝ :=
  ∑ j ∈ Finset.Ico lo hi, wt (part Q 0 o) (part K 0 o) r j * V j (o + l)

theorem fin_sum (f : ℕ → ℝ) (a n : ℕ) : ∑ j : Fin n, f (a + j.val) = ∑ j ∈ Finset.Ico a (a + n), f j := by
  rw [Finset.sum_Ico_eq_sum_range, Nat.add_sub_cancel_left, Finset.sum_range]

theorem wt_part (Q K : ℕ → ℕ → ℝ) (o a b r j : ℕ) :
    wt (part Q b o) (part K a o) r j = wt (part Q 0 o) (part K 0 o) (b + r) (a + j) := by
  unfold wt part; simp only [Nat.zero_add]

theorem num_fin (Q K V : ℕ → ℕ → ℝ) (o a n r l : ℕ) :
    ∑ j : Fin n, wt (part Q 0 o) (part K a o) r j.val * part V a o j.val l = num Q K V o a (a + n) r l := by
  rw [num, ← fin_sum (fun j => wt (part Q 0 o) (part K 0 o) r j * V j (o + l)) a n]
  refine Finset.sum_congr rfl fun j _ => ?_
  rw [wt_part, Nat.zero_add]; rfl

theorem own_num (Q K V : ℕ → ℕ → ℝ) (o lo a N off r l : ℕ) (hlo : lo ≤ a) (hN : r + off < N) :
    own (num Q K V o lo a) (part Q off o) (part K a o) (part V a o) N off r l = num Q K V o lo (a + (off + r) + 1) (off + r) l := by
  have h : ∑ j : Fin N, (if j.val ≤ r + off then wt (part Q off o) (part K a o) r j.val else 0) * part V a o j.val l
      = ∑ j ∈ Finset.Ico a (a + (off + r) + 1), wt (part Q 0 o) (part K 0 o) (off + r) j * V j (o + l) := by
    rw [show a + (off + r) + 1 = a + (off + r + 1) by omega, ← fin_sum (fun j => wt (part Q 0 o) (part K 0 o) (off + r) j * V j (o + l)) a (off + r + 1),
      ← Finset.sum_range (fun j => wt (part Q 0 o) (part K 0 o) (off + r) (a + j) * V (a + j) (o + l)),
      ← Finset.sum_range (fun j => (if j ≤ r + off then wt (part Q off o) (part K a o) r j else 0) * part V a o j l)]
    rw [← Finset.sum_subset (s₁ := Finset.range (off + r + 1)) (fun x hx => by simp only [Finset.mem_range] at hx ⊢; omega)
      (fun x _ hx => by rw [if_neg (by simp only [Finset.mem_range] at hx; omega), zero_mul])]
    refine Finset.sum_congr rfl fun j hj => ?_
    rw [if_pos (by simp only [Finset.mem_range] at hj; omega), wt_part]; rfl
  unfold own
  rw [h]
  exact Finset.sum_Ico_consecutive _ hlo (by omega)

theorem num_pos (Q K V : ℕ → ℕ → ℝ) (o lo hi r : ℕ) (h : lo < hi) (hV : ∀ j, V j (o + 64) = 1) : 0 < num Q K V o lo hi r 64 := by
  refine Finset.sum_pos (fun j _ => ?_) ⟨lo, Finset.mem_Ico.2 ⟨le_rfl, h⟩⟩
  rw [hV, mul_one]; exact Real.exp_pos _

theorem ld_holds {M N M' N' : ℕ} (Y : (⟨2, ![M, N]⟩ : Shape).Idx → Elt Ideal .bf16) (f : ℕ → ℕ → ℝ) (hY : Holds Y f) (off : Fin 2 → ℕ) (a o : ℕ)
    (e : off = ![a, o]) (inb : ∀ x, off x + (![M', N'] : Fin 2 → ℕ) x ≤ (![M, N] : Fin 2 → ℕ) x) :
    Holds (M := M') (N := N') (View.ld (Val := Elt Ideal) (e' := .bf16) Y (Rect.unit (s := ⟨2, ![M, N]⟩) off ![M', N'] inb) : FVec Ideal ⟨2, ![M', N']⟩ .bf16)
      (part f a o) := by
  subst e
  intro r l
  have b0 : a + M' ≤ M := inb 0
  have b1 : o + N' ≤ N := inb 1
  have h := Idealize.ShloMosaic.View.ld_unit_apply_of (Val := Elt Ideal) (e := .bf16) Y ![a, o] ![M', N'] inb (ix2 r l)
    (ix2 ⟨a + r.val, by have := r.isLt; omega⟩ ⟨o + l.val, by have := l.isLt; omega⟩)
    (fun x => match x with | ⟨0, _⟩ => rfl | ⟨1, _⟩ => rfl)
  exact h.trans (hY _ _)

section Step

variable (Y4 : S1024x256.Idx → Elt Ideal .bf16) (Y5 Y6 : S8192x256.Idx → Elt Ideal .bf16) (i : grid0.Coords) (n : ℕ)
  (hn : n ≤ 2 * (i 2).val) (hw : k0_chk1 i (BitVec.ofNat 32 n)) (Q K V : ℕ → ℕ → ℝ) (h4 : Holds Y4 Q) (h5 : Holds Y5 K) (h6 : Holds Y6 V)

include hn h4 h5 h6

theorem start_holds :
    Holds (start Y4 Y5 Y6 i (BitVec.ofNat 32 n) hw).1 (num Q K V 0 (n * 512) ((n + 1) / 2 * 1024))
    ∧ Holds (start Y4 Y5 Y6 i (BitVec.ofNat 32 n) hw).2 (num Q K V 128 (n * 512) ((n + 1) / 2 * 1024)) := by
  unfold start
  by_cases h : k0_cond1 (BitVec.ofNat 32 n) = 1#1
  · rw [dif_pos h]
    have hodd := (cond i n hn).1 h
    have key := fun (o : ℕ) r l => num_fin Q K V o (n * 512) 512 r l
    have e : n * 512 + 512 = (n + 1) / 2 * 1024 := by omega
    rw [e] at key
    constructor <;> intro r l
    · rw [← key]
      exact pay3_holds _ _ _ _ _ _ (ld_holds Y4 Q h4 _ 0 0 rfl _) (ld_holds Y5 K h5 _ _ _ (off2 i n hn) _) (ld_holds Y6 V h6 _ _ _ (off2 i n hn) _) r l
    · rw [← key]
      exact pay4_holds _ _ _ _ _ _ (ld_holds Y4 Q h4 _ 0 128 rfl _) (ld_holds Y5 K h5 _ _ _ (off3 i n hn) _) (ld_holds Y6 V h6 _ _ _ (off3 i n hn) _) r l
  · rw [dif_neg h]
    have hev : n % 2 ≠ 1 := fun h' => h ((cond i n hn).2 h')
    have e : (n + 1) / 2 * 1024 = n * 512 := by omega
    rw [e]
    constructor <;> intro r l <;> (unfold num; rw [Finset.Ico_self, Finset.sum_empty]; exact pay2_holds r l)

theorem sums_holds (ini : FVec Ideal S1024x128 .f32 × FVec Ideal S1024x128 .f32)
    (h1 : Holds ini.1 (num Q K V 0 (n * 512) ((n + 1) / 2 * 1024))) (h2 : Holds ini.2 (num Q K V 128 (n * 512) ((n + 1) / 2 * 1024)))
    (k : ℕ) (hk : k ≤ (k0_t1_loop i (BitVec.ofNat 32 n)).trips) :
    Holds (sums Y4 Y5 Y6 i (BitVec.ofNat 32 n) hw ini k).1 (num Q K V 0 (n * 512) (((n + 1) / 2 + k) * 1024))
    ∧ Holds (sums Y4 Y5 Y6 i (BitVec.ofNat 32 n) hw ini k).2 (num Q K V 128 (n * 512) (((n + 1) / 2 + k) * 1024)) := by
  induction k with
  | zero => exact ⟨h1, h2⟩
  | succ k ih =>
    obtain ⟨a, b⟩ := ih (by omega)
    have hk' : k < (k0_t1_loop i (BitVec.ofNat 32 n)).trips := hk
    rw [sums, dif_pos hk']
    have key : ∀ o r l, num Q K V o (n * 512) (((n + 1) / 2 + (k + 1)) * 1024) r l
        = num Q K V o (n * 512) (((n + 1) / 2 + k) * 1024) r l
          + ∑ j : Fin 1024, wt (part Q 0 o) (part K (((n + 1) / 2 + k) * 1024) o) r j.val * part V (((n + 1) / 2 + k) * 1024) o j.val l := fun o r l => by
      rw [num_fin, show ((n + 1) / 2 + (k + 1)) * 1024 = ((n + 1) / 2 + k) * 1024 + 1024 by omega]
      exact (Finset.sum_Ico_consecutive _ (by omega) (by omega)).symm
    constructor <;> intro r l
    · rw [key]
      exact pay5_holds _ _ _ _ _ _ _ _ a (ld_holds Y4 Q h4 _ 0 0 rfl _) (ld_holds Y5 K h5 _ _ _ (off4 i n hn ⟨k, hk'⟩) _) (ld_holds Y6 V h6 _ _ _ (off4 i n hn ⟨k, hk'⟩) _) r l
    · rw [key]
      exact pay6_holds _ _ _ _ _ _ _ _ b (ld_holds Y4 Q h4 _ 0 128 rfl _) (ld_holds Y5 K h5 _ _ _ (off5 i n hn ⟨k, hk'⟩) _) (ld_holds Y6 V h6 _ _ _ (off5 i n hn ⟨k, hk'⟩) _) r l

theorem before_holds :
    Holds (before Y4 Y5 Y6 i (BitVec.ofNat 32 n) hw).1 (num Q K V 0 (n * 512) ((i 2).val * 1024))
    ∧ Holds (before Y4 Y5 Y6 i (BitVec.ofNat 32 n) hw).2 (num Q K V 128 (n * 512) ((i 2).val * 1024)) := by
  have hs := start_holds Y4 Y5 Y6 i n hn hw Q K V h4 h5 h6
  have h := sums_holds Y4 Y5 Y6 i n hn hw Q K V h4 h5 h6 _ hs.1 hs.2 _ le_rfl
  have e : ((n + 1) / 2 + (k0_t1_loop i (BitVec.ofNat 32 n)).trips) * 1024 = (i 2).val * 1024 := by
    rw [trips1 i n hn]; congr 1; omega
  rw [e] at h
  exact h

/-- A head's quotient. -/
def frac (Q K V : ℕ → ℕ → ℝ) (o lo hi r l : ℕ) : ℝ := num Q K V o lo hi r l / num Q K V o lo hi r 64

theorem out_holds (hV0 : ∀ j, V j 64 = 1) (hV1 : ∀ j, V j 192 = 1) :
    Holds (out Y4 Y5 Y6 i (BitVec.ofNat 32 n) hw)
      (fun r => pair (fun r => frac Q K V 0 (n * 512) ((i 2).val * 1024 + r + 1) r) (fun r => frac Q K V 128 (n * 512) ((i 2).val * 1024 + r + 1) r) r) := by
  obtain ⟨a, b⟩ := before_holds Y4 Y5 Y6 i n hn hw Q K V h4 h5 h6
  have hlo : n * 512 ≤ (i 2).val * 1024 := by omega
  have own0 := fun r (hr : r < 512) l => own_num Q K V 0 (n * 512) ((i 2).val * 1024) 512 0 r l hlo (by omega)
  have own1 := fun r (hr : r < 512) l => own_num Q K V 128 (n * 512) ((i 2).val * 1024) 512 0 r l hlo (by omega)
  have own2 := fun r (hr : r < 512) l => own_num Q K V 0 (n * 512) ((i 2).val * 1024) 1024 512 r l hlo (by omega)
  have own3 := fun r (hr : r < 512) l => own_num Q K V 128 (n * 512) ((i 2).val * 1024) 1024 512 r l hlo (by omega)
  have t := top_holds _ _ _ _ _ _ _ _ _ _ _ _ _ _ _ _ a
    (ld_holds Y4 Q h4 _ 0 0 rfl inb_S1024x256_S512x128_0_0) (ld_holds Y5 K h5 _ _ _ (off8 i) (k0_off8_inb i)) (ld_holds Y6 V h6 _ _ _ (off8 i) (k0_off8_inb i))
    (fun r => by rw [own0 r.val r.isLt]; exact (num_pos Q K V 0 _ _ _ (by omega) hV0).ne')
    b (ld_holds Y4 Q h4 _ 0 128 rfl inb_S1024x256_S512x128_0_128) (ld_holds Y5 K h5 _ _ _ (off9 i) (k0_off9_inb i)) (ld_holds Y6 V h6 _ _ _ (off9 i) (k0_off9_inb i))
    (fun r => by rw [own1 r.val r.isLt]; exact (num_pos Q K V 128 _ _ _ (by omega) hV1).ne')
  have u := bottom_holds _ _ _ _ _ _ _ _ _ _ _ _ _ _ _ _ a
    (ld_holds Y4 Q h4 _ 512 0 rfl inb_S1024x256_S512x128_512_0) (ld_holds Y5 K h5 _ _ _ (off10 i) (k0_off10_inb i)) (ld_holds Y6 V h6 _ _ _ (off10 i) (k0_off10_inb i))
    (fun r => by rw [own2 r.val r.isLt]; exact (num_pos Q K V 0 _ _ _ (by omega) hV0).ne')
    b (ld_holds Y4 Q h4 _ 512 128 rfl inb_S1024x256_S512x128_512_128) (ld_holds Y5 K h5 _ _ _ (off11 i) (k0_off11_inb i)) (ld_holds Y6 V h6 _ _ _ (off11 i) (k0_off11_inb i))
    (fun r => by rw [own3 r.val r.isLt]; exact (num_pos Q K V 128 _ _ _ (by omega) hV1).ne')
  have ei : ∀ (r : Fin 512) (l : Fin 128), idx512 r l = ix2 r l := fun r l => by
    funext x; match x with | ⟨0, _⟩ => rfl | ⟨1, _⟩ => rfl
  intro r l
  show outOf (top Y4 Y5 Y6 i (before Y4 Y5 Y6 i (BitVec.ofNat 32 n) hw)) (bottom Y4 Y5 Y6 i (before Y4 Y5 Y6 i (BitVec.ofNat 32 n) hw)) (ix2 r l) = _
  unfold outOf
  by_cases h : r.val < 512
  · have h' : (ix2 r l 0).val < 512 := h
    rw [dif_pos h']
    show top Y4 Y5 Y6 i (before Y4 Y5 Y6 i (BitVec.ofNat 32 n) hw) (idx512 ⟨r.val, h⟩ l) = _
    rw [ei]
    have ht : top Y4 Y5 Y6 i (before Y4 Y5 Y6 i (BitVec.ofNat 32 n) hw) (ix2 ⟨r.val, h⟩ l) = _ := t ⟨r.val, h⟩ l
    refine ht.trans (congrArg Real.toEReal ?_)
    unfold pair quo frac
    simp only [own0 r.val h, own1 r.val h, Nat.zero_add]
  · have h' : ¬ (ix2 r l 0).val < 512 := h
    rw [dif_neg h']
    have hr : r.val - 512 < 512 := by have := r.isLt; omega
    show bottom Y4 Y5 Y6 i (before Y4 Y5 Y6 i (BitVec.ofNat 32 n) hw) (idx512 ⟨r.val - 512, hr⟩ l) = _
    rw [ei]
    have hu : bottom Y4 Y5 Y6 i (before Y4 Y5 Y6 i (BitVec.ofNat 32 n) hw) (ix2 ⟨r.val - 512, hr⟩ l) = _ := u ⟨r.val - 512, hr⟩ l
    refine hu.trans (congrArg Real.toEReal ?_)
    unfold pair quo frac
    simp only [own2 _ hr, own3 _ hr, show 512 + (r.val - 512) = r.val by omega]

end Step

end Cert.Proof.Fox
-- ==== Proof.Fox.Array.lean ====
module

public import proofs.«01_k».proof.Proof.Fox.Packed
public import proofs.«01_k».proof.Proof.Fox.Block
public import proofs.«01_k».proof.Proof.Fox.Pre

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.ShloMosaic.Pipeline

variable (m : (ℓ : Loc nD τ sig) → Buf (Elt Ideal) ℓ) (c : Dev nD)

/-! # The whole result array -/

theorem ix_0 : ∀ t : Fin grid0.N, cc0_transform_0 (grid0.coords t) = ![(grid0.coords t 0).val * 8 + (grid0.coords t 2).val, (grid0.coords t 1).val] := by decide +kernel
theorem ix_1 : ∀ t : Fin grid0.N, cc0_transform_1 (grid0.coords t) = ![(grid0.coords t 0).val, (grid0.coords t 1).val] := by decide +kernel
theorem ix_2 : ∀ t : Fin grid0.N, cc0_transform_2 (grid0.coords t) = ![(grid0.coords t 0).val, (grid0.coords t 1).val] := by decide +kernel
theorem ix_3 : ∀ t : Fin grid0.N, cc0_transform_3 (grid0.coords t) = ![(grid0.coords t 0).val * 8 + (grid0.coords t 2).val, (grid0.coords t 1).val] := by decide +kernel

theorem covers : ((cfgA m).win (3 : Fin 4)).Covers := by
  have h : ((cfg0 (F := Ideal) ⟨fun | ⟨0, _⟩ => fun _ => (0#32 : BitVec 32) | ⟨_ + 1, h⟩ => absurd h (Nat.not_lt.2 (Nat.le_add_left _ _)), trivial⟩).win (3 : Fin 4)).Covers := by decide +kernel
  exact h

theorem iblk0_at (t : Fin (cfgA m).N) (r : Fin 1024) (l : Fin 256) (R : Fin 16384) (L : Fin 1024)
    (hR : R.val = ((grid0.coords t 0).val * 8 + (grid0.coords t 2).val) * 1024 + r.val) (hL : L.val = (grid0.coords t 1).val * 256 + l.val) :
    iblk m c 0 t (ix2 r l) = V m c main_v19 (ix2 R L) := by
  blk_simp [iblk]
  congr 1
  have e := ix_0 t
  funext a
  match a with
  | ⟨0, _⟩ =>
    refine Fin.ext (Eq.trans (b := cc0_transform_0 (grid0.coords t) 0 * 1024 + 1 * r.val) rfl ?_)
    rw [e]; show _ = R.val; rw [hR]; simp
  | ⟨1, _⟩ =>
    refine Fin.ext (Eq.trans (b := cc0_transform_0 (grid0.coords t) 1 * 256 + 1 * l.val) rfl ?_)
    rw [e]; show _ = L.val; rw [hL]; simp

theorem iblk1_at (t : Fin (cfgA m).N) (r : Fin 8192) (l : Fin 256) (R : Fin 16384) (L : Fin 1024)
    (hR : R.val = (grid0.coords t 0).val * 8192 + r.val) (hL : L.val = (grid0.coords t 1).val * 256 + l.val) :
    iblk m c 1 t (ix2 r l) = V m c main_v26 (ix2 R L) := by
  blk_simp [iblk]
  congr 1
  have e := ix_1 t
  funext a
  match a with
  | ⟨0, _⟩ =>
    refine Fin.ext (Eq.trans (b := cc0_transform_1 (grid0.coords t) 0 * 8192 + 1 * r.val) rfl ?_)
    rw [e]; show _ = R.val; rw [hR]; simp
  | ⟨1, _⟩ =>
    refine Fin.ext (Eq.trans (b := cc0_transform_1 (grid0.coords t) 1 * 256 + 1 * l.val) rfl ?_)
    rw [e]; show _ = L.val; rw [hL]; simp

theorem iblk2_at (t : Fin (cfgA m).N) (r : Fin 8192) (l : Fin 256) (R : Fin 16384) (L : Fin 1024)
    (hR : R.val = (grid0.coords t 0).val * 8192 + r.val) (hL : L.val = (grid0.coords t 1).val * 256 + l.val) :
    iblk m c 2 t (ix2 r l) = V m c main_v31 (ix2 R L) := by
  blk_simp [iblk]
  congr 1
  have e := ix_2 t
  funext a
  match a with
  | ⟨0, _⟩ =>
    refine Fin.ext (Eq.trans (b := cc0_transform_2 (grid0.coords t) 0 * 8192 + 1 * r.val) rfl ?_)
    rw [e]; show _ = R.val; rw [hR]; simp
  | ⟨1, _⟩ =>
    refine Fin.ext (Eq.trans (b := cc0_transform_2 (grid0.coords t) 1 * 256 + 1 * l.val) rfl ?_)
    rw [e]; show _ = L.val; rw [hL]; simp

/-! ## The arguments, as real numbers -/

abbrev argQ : S2x8192x8x64.Idx → EReal := m ((c : Thread nD τ).loc main_arg1)
abbrev argK : S2x8192x8x64.Idx → EReal := m ((c : Thread nD τ).loc main_arg2)
abbrev argV : S2x8192x8x64.Idx → EReal := m ((c : Thread nD τ).loc main_arg3)
abbrev argC : S2x8192x8.Idx → EReal := m ((c : Thread nD τ).loc main_arg4)
abbrev argB : S1x1x1x1.Idx → EReal := m ((c : Thread nD τ).loc main_arg5)

/-- No argument has an infinite element. -/
structure Finite : Prop where
  q : Fin' (argQ m c)
  k : Fin' (argK m c)
  v : Fin' (argV m c)
  dec : Fin' (argC m c)
  bound : Fin' (argB m c)

/-- The first block of keys of a step. -/
def firstAt (b p i : ℕ) : ℕ :=
  if h : (b * 4 + p) * 8 + i < 64 then ((m ((c : Thread nD τ).loc main_arg0) : IVec S64 32) (Shape.Idx.ofFin ⟨_, h⟩)).toNat else 0

/-- The weight of key `j` for query `t`. -/
def weight (b h t j : ℕ) : ℝ :=
  Real.exp ((∑ d : Fin 64, rd4 (argQ m c) b t h d * rd4 (argK m c) b j h d) * 8⁻¹ + rd3 (argC m c) b t h - rd3 (argC m c) b j h
    - (argB m c (ix4 0 0 0 0)).toReal)

/-- The result as a real number: the weighted mean of the values of the keys that the query sees. -/
def result (b t h d : ℕ) : ℝ :=
  (∑ j ∈ Finset.Ico (firstAt m c b (h / 2) (t / 1024) * 512) (t + 1), weight m c b h t j * rd4 (argV m c) b j h d)
    / (∑ j ∈ Finset.Ico (firstAt m c b (h / 2) (t / 1024) * 512) (t + 1), weight m c b h t j)

/-- The result's array. -/
def resultArr : S16384x512.Idx → EReal := fun i => ((result m c ((i 0).val / 8192) ((i 0).val % 8192) ((i 1).val / 64) ((i 1).val % 64) : ℝ) : EReal)

section Step

variable (hf : Finite m c) (t : Fin (cfgA m).N)

abbrev gb (t : Fin (cfgA m).N) : ℕ := (grid0.coords t 0).val
abbrev gp (t : Fin (cfgA m).N) : ℕ := (grid0.coords t 1).val
abbrev gi (t : Fin (cfgA m).N) : ℕ := (grid0.coords t 2).val

def blkQ (r l : ℕ) : ℝ := qf (argQ m c) (argC m c) (gb m t) (gi m t * 1024 + r) (2 * gp m t + l / 128) (l % 128)
def blkK (r l : ℕ) : ℝ := kf (argK m c) (argC m c) (argB m c (ix4 0 0 0 0)).toReal (gb m t) r (2 * gp m t + l / 128) (l % 128)
def blkV (r l : ℕ) : ℝ := vf (argV m c) (gb m t) r (2 * gp m t + l / 128) (l % 128)

theorem coords_lt : gb m t < 2 ∧ gp m t < 4 ∧ gi m t < 8 :=
  ⟨(grid0.coords t 0).isLt, (grid0.coords t 1).isLt, (grid0.coords t 2).isLt⟩

include hf

theorem blkQ_holds : Holds (M := 1024) (N := 256) (iblk m c 0 t) (blkQ m c t) := by
  intro r l
  obtain ⟨h0, h1, h2⟩ := coords_lt m t
  have hr := r.isLt
  have hl := l.isLt
  rw [iblk0_at m c t r l ⟨(gb m t * 8 + gi m t) * 1024 + r.val, by omega⟩ ⟨gp m t * 256 + l.val, by omega⟩ rfl rfl, quer_eq, flat_at, quer4_at _ _ hf.q hf.dec]
  unfold blkQ
  congr 2 <;> (simp only []; omega)

theorem blkK_holds : Holds (M := 8192) (N := 256) (iblk m c 1 t) (blkK m c t) := by
  intro r l
  obtain ⟨h0, h1, h2⟩ := coords_lt m t
  have hr := r.isLt
  have hl := l.isLt
  rw [iblk1_at m c t r l ⟨gb m t * 8192 + r.val, by omega⟩ ⟨gp m t * 256 + l.val, by omega⟩ rfl rfl, keys_eq, flat_at, keys4_at _ _ _ hf.k hf.dec hf.bound]
  unfold blkK
  congr 2 <;> (simp only []; omega)

theorem blkV_holds : Holds (M := 8192) (N := 256) (iblk m c 2 t) (blkV m c t) := by
  intro r l
  obtain ⟨h0, h1, h2⟩ := coords_lt m t
  have hr := r.isLt
  have hl := l.isLt
  rw [iblk2_at m c t r l ⟨gb m t * 8192 + r.val, by omega⟩ ⟨gp m t * 256 + l.val, by omega⟩ rfl rfl, vals_eq, flat_at, vals4_at _ hf.v]
  unfold blkV
  congr 2 <;> (simp only []; omega)

omit hf in
theorem wt_blk (o r j : ℕ) (ho : o = 0 ∨ o = 128) :
    wt (part (blkQ m c t) 0 o) (part (blkK m c t) 0 o) r j = weight m c (gb m t) (2 * gp m t + o / 128) (gi m t * 1024 + r) j := by
  unfold wt weight
  rw [← score_eq]
  congr 1
  refine Finset.sum_congr rfl fun x _ => ?_
  have hx := x.isLt
  unfold part blkQ blkK
  have e1 : (o + x.val) / 128 = o / 128 := by omega
  have e2 : (o + x.val) % 128 = x.val := by omega
  rw [e1, e2, Nat.zero_add, Nat.zero_add]

omit hf in
theorem frac_blk (o n r l : ℕ) (ho : o = 0 ∨ o = 128) (hl : l < 64)
    (hn : firstAt m c (gb m t) (gp m t) (gi m t) = n) (hr : r < 1024) :
    frac (blkQ m c t) (blkK m c t) (blkV m c t) o (n * 512) (gi m t * 1024 + r + 1) r l
      = result m c (gb m t) (gi m t * 1024 + r) (2 * gp m t + o / 128) l := by
  have e1 : (2 * gp m t + o / 128) / 2 = gp m t := by omega
  have e2 : (gi m t * 1024 + r) / 1024 = gi m t := by omega
  have e3 : (o + l) / 128 = o / 128 := by omega
  have e4 : (o + l) % 128 = l := by omega
  have e5 : (o + 64) / 128 = o / 128 := by omega
  have e6 : (o + 64) % 128 = 64 := by omega
  unfold frac result num
  rw [e1, e2, hn]
  congr 1
  · refine Finset.sum_congr rfl fun j _ => ?_
    rw [wt_blk m c t o r j ho, blkV, e3, e4, vf, if_pos hl]
  · refine Finset.sum_congr rfl fun j _ => ?_
    rw [wt_blk m c t o r j ho, blkV, e5, e6, vf, if_neg (by omega), if_pos (by omega), mul_one]

omit hf in
theorem word_eq (i : grid0.Coords) (hb : ((i 0).val * 4 + (i 1).val) * 8 + (i 2).val < 64) :
    word i c (tblT m c) = (m ((c : Thread nD τ).loc main_arg0) : IVec S64 32) (Shape.Idx.ofFin ⟨_, hb⟩) := by
  obtain rfl : c = 0 := Subsingleton.elim _ _
  unfold word
  rw [View.read_apply, cast_eq]
  congr 1
  funext a
  apply Fin.ext
  have ho := congrFun (off1 i) 0
  obtain ⟨_ | a, ha⟩ := a
  · refine Eq.trans ?_ (ho.trans rfl)
    rfl
  · exact absurd ha (by show ¬ (a + 1 < 1); omega)

theorem oblk_at (H : InRange m) (r : Fin 1024) (l : Fin 128) :
    oblk H c t (ix2 r l) = ((result m c (gb m t) (gi m t * 1024 + r.val) (2 * gp m t + l.val / 64) (l.val % 64) : ℝ) : EReal) := by
  obtain ⟨n, hn, hw⟩ := H (grid0.coords t)
  obtain ⟨h0, h1, h2⟩ := coords_lt m t
  have ew : word (grid0.coords t) c (tblT m c) = BitVec.ofNat 32 n := hw
  have hn' : n ≤ 2 * gi m t := hn
  have hfirst : firstAt m c (gb m t) (gp m t) (gi m t) = n := by
    have hb : (gb m t * 4 + gp m t) * 8 + gi m t < 64 := by omega
    rw [firstAt, dif_pos hb, ← word_eq m c (grid0.coords t) hb, ew, BitVec.toNat_ofNat, Nat.mod_eq_of_lt (by omega)]
  have key : ∀ (w : BitVec 32) (hw' : k0_chk1 (grid0.coords t) w), w = BitVec.ofNat 32 n →
      out (iblk m c 0 t) (iblk m c 1 t) (iblk m c 2 t) (grid0.coords t) w hw' (ix2 r l)
        = ((result m c (gb m t) (gi m t * 1024 + r.val) (2 * gp m t + l.val / 64) (l.val % 64) : ℝ) : EReal) := by
    rintro _ hw' rfl
    have h := out_holds (iblk m c 0 t) (iblk m c 1 t) (iblk m c 2 t) (grid0.coords t) n hn hw' (blkQ m c t) (blkK m c t) (blkV m c t)
      (blkQ_holds m c hf t) (blkK_holds m c hf t) (blkV_holds m c hf t)
      (fun j => by unfold blkV vf; norm_num) (fun j => by unfold blkV vf; norm_num) r l
    refine h.trans (congrArg Real.toEReal ?_)
    unfold pair
    beta_reduce
    have hl := l.isLt
    by_cases hl' : l.val < 64
    · rw [if_pos hl', frac_blk m c t 0 n r.val l.val (Or.inl rfl) hl' hfirst r.isLt, show 0 / 128 = l.val / 64 by omega, show l.val % 64 = l.val by omega]
    · rw [if_neg hl', frac_blk m c t 128 n r.val (l.val - 64) (Or.inr rfl) (by omega) hfirst r.isLt, show 128 / 128 = l.val / 64 by omega,
        show l.val % 64 = l.val - 64 by omega]
  exact key _ _ ew

omit hf in
theorem emb0 (y : S1024x128.Idx) : ((((cfgA m).win (3 : Fin 4)).blk t).view.emb y 0).val = (gb m t * 8 + gi m t) * 1024 + (y 0).val := by
  refine Eq.trans (b := cc0_transform_3 (grid0.coords t) 0 * 1024 + 1 * (y 0).val) rfl ?_
  rw [ix_3 t]; simp

omit hf in
theorem emb1 (y : S1024x128.Idx) : ((((cfgA m).win (3 : Fin 4)).blk t).view.emb y 1).val = gp m t * 128 + (y 1).val := by
  refine Eq.trans (b := cc0_transform_3 (grid0.coords t) 1 * 128 + 1 * (y 1).val) rfl ?_
  rw [ix_3 t]; simp

theorem oblk_res (H : InRange m) (y : S1024x128.Idx) (i : S16384x512.Idx) (h0 : (i 0).val = (gb m t * 8 + gi m t) * 1024 + (y 0).val)
    (h1 : (i 1).val = gp m t * 128 + (y 1).val) : oblk H c t y = resultArr m c i := by
  obtain ⟨r, l, rfl⟩ : ∃ (r : Fin 1024) (l : Fin 128), y = (ix2 r l : S1024x128.Idx) := ⟨y 0, y 1, eq_ix2 _⟩
  have h0' : (i 0).val = (gb m t * 8 + gi m t) * 1024 + r.val := h0
  have h1' : (i 1).val = gp m t * 128 + l.val := h1
  obtain ⟨b0, b1, b2⟩ := coords_lt m t
  have hr := r.isLt
  have hl := l.isLt
  rw [oblk_at m c hf t H r l]
  unfold resultArr
  refine congrArg Real.toEReal ?_
  rw [h0', h1']
  congr 1 <;> omega

theorem final (H : InRange m) : (dats H 0 c).arrAt (3 : Fin 4) (cfgA m).N = resultArr m c := by
  refine (dats H 0 c).arrAt_eq_of_covers (3 : Fin 4) (resultArr m c) (covers m) fun t _ y => ?_
  blk_simp
  exact oblk_res m c hf t H y _ (emb0 m t y) (emb1 m t y)

end Step

end Cert.Proof.Fox
-- ==== Proof.Fox.Equation.lean ====
module

public import proofs.«01_k».proof.Proof.Fox.Reference
public import proofs.«01_k».proof.Proof.Fox.Array
public import proofs.«01_k».proof.Proof.Gen.ReferenceIdeal.Run

@[expose] public section

set_option maxRecDepth 16384
set_option maxHeartbeats 4000000

noncomputable section

namespace Cert.Proof.Fox

open Cert.ReferenceIdeal Cert.ReferenceIdeal.Gen
open Idealize.ShloMosaic Idealize.ShloMosaic.TcCoe Idealize.ShloMosaic.Tactic

/-! # The reference's result is the kernel's -/

theorem res_eq (m : (ℓ : Loc nD τ sig) → Buf (Elt Ideal) ℓ) (c : Dev nD) :
    Cert.ReferenceIdeal.Value.res_main_v46 m c
      = readOut (soft (masked (m ((c.tc : Thread nD τ).loc main_arg0)) (m ((c.tc : Thread nD τ).loc main_arg1)) (m ((c.tc : Thread nD τ).loc main_arg2))
          (m ((c.tc : Thread nD τ).loc main_arg4)))) (m ((c.tc : Thread nD τ).loc main_arg3)) := by
  delta Cert.ReferenceIdeal.Value.res_main_v46 readOut soft rowSum expo rowMax rowTop masked scores seen
  rfl

theorem arr_ext {n k : ℕ} {α : Type} (x y : (⟨2, ![n, k]⟩ : Shape).Idx → α) (h : ∀ r l, x (ix2 r l) = y (ix2 r l)) : x = y :=
  funext fun i => by rw [eq_ix2 i]; exact h _ _

/-- A word of the table, at the step that reads it. -/
theorem first_word (m : (ℓ : Loc Cert.KernelIdeal.nD Cert.KernelIdeal.τ Cert.KernelIdeal.sig) → Buf (Elt Ideal) ℓ) (c : Dev Cert.KernelIdeal.nD)
    (H : InRange m) (b p i : ℕ) (hb : b < 2) (hp : p < 4) (hi : i < 8) (hs : b * 32 + p * 8 + i < 64) :
    firstAt m c b p i ≤ 2 * i
      ∧ (m ((c.tc : Thread Cert.KernelIdeal.nD Cert.KernelIdeal.τ).loc Cert.KernelIdeal.main_arg0) : IVec S64 32) (ix1 ⟨b * 32 + p * 8 + i, hs⟩)
        = BitVec.ofNat 32 (firstAt m c b p i) := by
  obtain rfl : c = 0 := Subsingleton.elim _ _
  let q : Cert.KernelIdeal.grid0.Coords := fun | ⟨0, _⟩ => ⟨b, hb⟩ | ⟨1, _⟩ => ⟨p, hp⟩ | ⟨2, _⟩ => ⟨i, hi⟩
  obtain ⟨n, hn, hw⟩ := H q
  have hlt : (b * 4 + p) * 8 + i < 64 := by omega
  have e := (word_eq m 0 q hlt).symm.trans hw
  have ei : (ix1 ⟨b * 32 + p * 8 + i, hs⟩ : S64.Idx) = Shape.Idx.ofFin ⟨(b * 4 + p) * 8 + i, hlt⟩ := by
    funext a
    obtain ⟨_ | a, ha⟩ := a
    · apply Fin.ext; show b * 32 + p * 8 + i = (b * 4 + p) * 8 + i; omega
    · exact absurd ha (by show ¬ (a + 1 < 1); omega)
  have hn' : n ≤ 2 * i := hn
  have ef : firstAt m 0 b p i = n := by
    rw [firstAt, dif_pos hlt]
    refine (congrArg BitVec.toNat e).trans ?_
    rw [BitVec.toNat_ofNat, Nat.mod_eq_of_lt (by omega)]
  rw [ef, ei]
  exact ⟨hn', e⟩

/-- From memories that agree on the arguments, the reference's result is the array the kernel leaves. -/
theorem reference_result (m : (ℓ : Loc Cert.KernelIdeal.nD Cert.KernelIdeal.τ Cert.KernelIdeal.sig) → Buf (Elt Ideal) ℓ)
    (m' : (ℓ : Loc nD τ sig) → Buf (Elt Ideal) ℓ) (c : Dev nD) (H : InRange m) (hf : Finite m c)
    (e0 : m' ((c.tc : Thread nD τ).loc main_arg0) = m ((c.tc : Thread Cert.KernelIdeal.nD Cert.KernelIdeal.τ).loc Cert.KernelIdeal.main_arg0))
    (e1 : m' ((c.tc : Thread nD τ).loc main_arg1) = m ((c.tc : Thread Cert.KernelIdeal.nD Cert.KernelIdeal.τ).loc Cert.KernelIdeal.main_arg1))
    (e2 : m' ((c.tc : Thread nD τ).loc main_arg2) = m ((c.tc : Thread Cert.KernelIdeal.nD Cert.KernelIdeal.τ).loc Cert.KernelIdeal.main_arg2))
    (e3 : m' ((c.tc : Thread nD τ).loc main_arg3) = m ((c.tc : Thread Cert.KernelIdeal.nD Cert.KernelIdeal.τ).loc Cert.KernelIdeal.main_arg3))
    (e4 : m' ((c.tc : Thread nD τ).loc main_arg4) = m ((c.tc : Thread Cert.KernelIdeal.nD Cert.KernelIdeal.τ).loc Cert.KernelIdeal.main_arg4)) :
    Cert.ReferenceIdeal.Value.res_main_v46 m' c = resultArr m c := by
  rw [res_eq, e0, e1, e2, e3, e4]
  refine arr_ext _ _ fun r l => ?_
  obtain ⟨hn, hw⟩ := first_word m c H (r.val / 8192) (l.val / 64 / 2) (r.val % 8192 / 1024) (by omega) (by omega) (by omega) (by omega)
  exact attention_at _ _ _ _ _ (argB m c (ix4 0 0 0 0)).toReal hf.q hf.k hf.v hf.dec r l _ hn hw

end Cert.Proof.Fox
-- ==== Proof.FoxBits.Pre.lean ====
module

public import proofs.«01_k».proof.Proof.FoxBits.Run
public import proofs.«01_k».proof.Proof.Gen.Pre_first_in_range
public import Idealize.ShloMosaic.Lib.StableHlo.Predicate
public import Idealize.ShloMosaic.Lib.ReduceAll

@[expose] public section

set_option maxRecDepth 16384
set_option maxHeartbeats 1000000

noncomputable section

namespace Cert.Proof.FoxBits

open Cert.Kernel Cert.Kernel.Gen
open Idealize.ShloMosaic Idealize.ShloMosaic.TcCoe

variable {F : FTy → Type} [FloatOps F]

theorem andi_one {p q : BitVec 1} (h : IntOp.andi p q = 1#1) : p = 1#1 ∧ q = 1#1 := by
  revert p q; decide

/-- A word between zero and `2 n` is a natural number up to `2 n`. -/
theorem word_of_bounds (w : BitVec 32) (n : ℕ) (hn : n < 8) (h0 : IntOp.cmpi .sge w 0#32 = 1#1)
    (h1 : IntOp.cmpi .sle w (BitVec.ofNat 32 (2 * n)) = 1#1) : ∃ k, k ≤ 2 * n ∧ w = BitVec.ofNat 32 k := by
  have e0 : (BitVec.ofBool ((0#32).sle w)) = 1#1 := h0
  have e1 : (BitVec.ofBool (w.sle (BitVec.ofNat 32 (2 * n)))) = 1#1 := h1
  rw [StableHlo.Predicate.ofBool_eq_one_iff] at e0 e1
  refine ⟨w.toNat, ?_, by simp⟩
  simp only [BitVec.sle, decide_eq_true_eq, BitVec.toInt, BitVec.toNat_ofNat] at e0 e1
  omega

/-- A remainder by eight moved to the divisor's sign, on words. -/
def rem8Word (r : BitVec 32) : BitVec 32 :=
  if IntOp.andi (IntOp.cmpi .ne (IntOp.cmpi .slt r 0#32) (IntOp.cmpi .slt 8#32 0#32)) (IntOp.cmpi .ne r 0#32) = 1#1 then
    IntOp.addi r 8#32 else r

/-- Twice the remainder by eight, as it is computed on words. -/
theorem rem8 : ∀ s : Fin 64,
    IntOp.muli 2#32 (rem8Word (IntOp.remsi .host (BitVec.ofNat 32 s.val) 8#32)) = BitVec.ofNat 32 (2 * (s.val % 8)) := by
  intro s
  rw [IntOp.remsi_of_pos .host (by decide)]
  revert s
  decide +kernel

/-- The bound the precondition compares the words with. -/
theorem bound_first [Cert.Pre_first_in_range.Facts] : ∀ s : Fin 64,
    IntOp.muli 2#32 (Cert.Pre_first_in_range.fn_remainder (F := F) (iotaInDim Cert.Pre_first_in_range.S64 32 0)
      (constantI Cert.Pre_first_in_range.S_ 32 8#32) (Shape.Idx.ofFin s)) = BitVec.ofNat 32 (2 * (s.val % 8)) := by
  intro s
  refine Eq.trans ?_ (rem8 s)
  unfold Cert.Pre_first_in_range.fn_remainder Cert.Pre_first_in_range.fn_where
  rfl

/-- The table's words bounded one by one are in range at every step. -/
theorem inRange_of (m : (ℓ : Loc nD τ sig) → Buf (Elt F) ℓ)
    (h : ∀ s : Fin 64, ∃ k, k ≤ 2 * (s.val % 8) ∧ (m (((0 : Dev nD) : Thread nD τ).loc main_arg0) : IVec S64 32) (Shape.Idx.ofFin s) = BitVec.ofNat 32 k) :
    InRange m := by
  intro i
  have hb : (((i 0).val * 4 + (i 1).val) * 8 + (i 2).val) < 64 := by
    have h0 : (i 0).val < 2 := (i 0).isLt
    have h1 : (i 1).val < 4 := (i 1).isLt
    have h2 : (i 2).val < 8 := (i 2).isLt
    omega
  obtain ⟨k, hk, e⟩ := h ⟨_, hb⟩
  have h2 : (i 2).val < 8 := (i 2).isLt
  refine ⟨k, by simp only at hk; omega, ?_⟩
  refine Eq.trans ?_ e
  unfold word
  rw [View.read_apply, cast_eq]
  congr 1
  funext a
  apply Fin.ext
  have ho := congrFun (off1 i) 0
  obtain ⟨_ | a, ha⟩ := a
  · refine Eq.trans ?_ (ho.trans rfl)
    rfl
  · exact absurd ha (by show ¬ (a + 1 < 1); omega)

theorem inRange_first [Cert.Pre_first_in_range.Facts] (m : (ℓ : Loc nD τ sig) → Buf (Elt F) ℓ) (b c d e f)
    (h : Cert.Pre_first_in_range.fn (F := F) (m (((0 : Dev nD) : Thread nD τ).loc main_arg0)) b c d e f = fun _ => 1#1) :
    InRange m := by
  refine inRange_of m fun s => ?_
  have e := congrFun h (Shape.Idx.ofFin s)
  obtain ⟨e0, e1⟩ := andi_one (show IntOp.andi _ _ = 1#1 from e)
  refine word_of_bounds _ _ (Nat.mod_lt _ (by decide)) e0 ?_
  rw [← bound_first (F := F) s]
  exact e1

end Cert.Proof.FoxBits
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_first_in_range
public import proofs.«01_k».proof.Proof.Gen.Pre_finite
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Ffn.Equation
public import proofs.«01_k».proof.Proof.Out.Equation
public import proofs.«01_k».proof.Proof.Proj.Equation
public import proofs.«01_k».proof.Proof.Fox.Pre
public import proofs.«01_k».proof.Proof.Fox.Equation
public import proofs.«01_k».proof.Proof.FoxBits.Pre
public import Idealize.ShloMosaic.Lib.Quiescent
public import Idealize.ShloMosaic.Adequacy
public import Idealize.ShloMosaic.Init

@[expose] public section

set_option maxRecDepth 16384
set_option maxHeartbeats 8000000

noncomputable section

namespace Cert.Proof

open Idealize.ShloMosaic Idealize.SL.Sem Cert.Kernel

/-- The kernel at the machine's floats, and at the reals. -/
theorem run_bits : Cert.quiescent_Kernel (hKernel := Cert.Kernel.Gen.facts) (hPre_first_in_range := Cert.Pre_first_in_range.Gen.facts) :=
  fun m g h => (θ_run Cert.Kernel.defs _ _).mono (fun _ h => h.1)
    (FoxBits.run_args (F := Bits) m g (FoxBits.inRange_first (F := Bits) m _ _ _ _ _ (h 0)))

theorem run_ideal : Cert.quiescent_KernelIdeal (hKernelIdeal := Cert.KernelIdeal.Gen.facts) (hPre_first_in_range := Cert.Pre_first_in_range.Gen.facts) :=
  fun m g h => (θ_run Cert.KernelIdeal.defs _ _).mono (fun _ h => h.1)
    (Fox.run_args (F := Ideal) m g (Fox.inRange_first (F := Ideal) m _ _ _ _ _ (h 0)))

theorem run_ideal_finite : Cert.quiescent_KernelIdeal_pre_finite (hKernelIdeal := Cert.KernelIdeal.Gen.facts) (hPre_finite := Cert.Pre_finite.Gen.facts) :=
  fun m g h => (θ_run Cert.KernelIdeal.defs _ _).mono (fun _ h => h.1)
    (Fox.run_args (F := Ideal) m g (Fox.of_finite m (h 0)).1)

theorem run_reference : Cert.quiescent_ReferenceIdeal (hReferenceIdeal := Cert.ReferenceIdeal.Gen.facts) :=
  fun m g _ => (θ_run Cert.ReferenceIdeal.defs _ _).mono (fun r h => ⟨fun c => (h c).2, sem_eq_zero_of_no_sems rfl _⟩) (Cert.ReferenceIdeal.Value.run m g)

theorem named_kept : Cert.preserves_Kernel_KernelIdeal :=
  IdealRules.named_const.statement Cert.KernelIdeal.κ "log2e" .f32 0x3FB8AA3B#32 _ rfl

/-- From finite arguments the kernel and the reference leave the same array. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  obtain ⟨H, hq, hk, hv, hd, hb⟩ := Fox.of_finite m (hpre 0)
  have hf : ∀ c, Fox.Finite m c := fun c => by
    obtain rfl : c = 0 := Subsingleton.elim _ _
    exact ⟨hq, hk, hv, hd, hb⟩
  refine ⟨fun c => Fox.resultArr m c, ?_, ?_⟩
  · refine (θ_run Cert.KernelIdeal.defs _ _).mono (fun r h c => ⟨?_, h.1.1 c⟩) (Fox.run_args (F := Ideal) m g H)
    exact (h.2 c).trans (Fox.final m c (hf c) H)
  · refine (θ_run Cert.ReferenceIdeal.defs _ _).mono (fun r h c => ⟨?_, (h c).2⟩) (Cert.ReferenceIdeal.Value.run m' g')
    obtain ⟨e0, e1, e2, e3, e4, _⟩ := hargs c
    exact (h c).1.trans (Fox.reference_result m m' c H (hf c) e0 e1 e2 e3 e4)

/-- The feed-forward kernel and its idealization have the same body table: the two programs have the same text. -/
theorem bodies2 : Cert.Kernel2.defs₀ (F := Bits) = Cert.Kernel2Ideal.defs₀ (F := Bits) := by
  refine congrArg Defs.onTc ?_
  funext k a
  match k, a with
  | 0, (t, s) => rfl

theorem tables2 : Cert.Kernel2.defs (F := Bits) = Cert.Kernel2Ideal.defs (F := Bits) :=
  congrArg (Pipeline.defs (Cert.Kernel2Ideal.pcfgs (F := Bits))) bodies2

/-- So a run of the idealization over the machine's floats is a run of the kernel. -/
theorem run2_bits : Cert.quiescent_Kernel2 (hKernel2 := Cert.Kernel2.Gen.facts) := by
  intro m g _
  rw [tables2]
  exact Cert.Kernel2Ideal.Gen.frame (F := Bits) m g

theorem run2_ideal : Cert.quiescent_Kernel2Ideal (hKernel2Ideal := Cert.Kernel2Ideal.Gen.facts) :=
  fun m g _ => Cert.Kernel2Ideal.Gen.frame (F := Ideal) m g

theorem run2_reference : Cert.quiescent_Reference2Ideal (hReference2Ideal := Cert.Reference2Ideal.Gen.facts) :=
  fun m g _ => (θ_run Cert.Reference2Ideal.defs _ _).mono (fun r h => ⟨fun c => (h c).2, sem_eq_zero_of_no_sems rfl _⟩) (Cert.Reference2Ideal.Value.run m g)

/-- From the same arguments the feed-forward kernel and its reference leave the same array. -/
theorem same_result2 : Cert.algebraic_Kernel2Ideal_Reference2Ideal (hKernel2Ideal := Cert.Kernel2Ideal.Gen.facts)
    (hReference2Ideal := Cert.Reference2Ideal.Gen.facts) := by
  intro m g m' g' _ hargs
  refine ⟨fun c => Ffn.totalArr m c, ?_, ?_⟩
  · exact (θ_run Cert.Kernel2Ideal.defs _ _).mono (fun r h c => ⟨(h c).1.trans (Ffn.final m c), (h c).2⟩) (Cert.Kernel2Ideal.Value.run_blocks (F := Ideal) m g)
  · refine (θ_run Cert.Reference2Ideal.defs _ _).mono (fun r h c => ⟨?_, (h c).2⟩) (Cert.Reference2Ideal.Value.run m' g')
    obtain ⟨e0, e1, e2, e3, e4, e5⟩ := hargs c
    exact (h c).1.trans (Ffn.reference_result m m' c e0 e1 e2 e3 e4 e5)

/-- The output projection's kernel and its idealization have the same body table: the two programs have the same text. -/
theorem bodies3 : Cert.Kernel3.defs₀ (F := Bits) = Cert.Kernel3Ideal.defs₀ (F := Bits) := by
  refine congrArg Defs.onTc ?_
  funext k a
  match k, a with
  | 0, (t, s) => rfl

theorem tables3 : Cert.Kernel3.defs (F := Bits) = Cert.Kernel3Ideal.defs (F := Bits) :=
  congrArg (Pipeline.defs (Cert.Kernel3Ideal.pcfgs (F := Bits))) bodies3

/-- So a run of the idealization over the machine's floats is a run of the kernel. -/
theorem run3_bits : Cert.quiescent_Kernel3 (hKernel3 := Cert.Kernel3.Gen.facts) := by
  intro m g _
  rw [tables3]
  exact Cert.Kernel3Ideal.Gen.frame (F := Bits) m g

theorem run3_ideal : Cert.quiescent_Kernel3Ideal (hKernel3Ideal := Cert.Kernel3Ideal.Gen.facts) :=
  fun m g _ => Cert.Kernel3Ideal.Gen.frame (F := Ideal) m g

theorem run3_reference : Cert.quiescent_Reference3Ideal (hReference3Ideal := Cert.Reference3Ideal.Gen.facts) :=
  fun m g _ => (θ_run Cert.Reference3Ideal.defs _ _).mono (fun r h => ⟨fun c => (h c).2, sem_eq_zero_of_no_sems rfl _⟩) (Cert.Reference3Ideal.Value.run m g)

/-- From the same arguments the output projection's kernel and its reference leave the same array. -/
theorem same_result3 : Cert.algebraic_Kernel3Ideal_Reference3Ideal (hKernel3Ideal := Cert.Kernel3Ideal.Gen.facts)
    (hReference3Ideal := Cert.Reference3Ideal.Gen.facts) := by
  intro m g m' g' _ hargs
  refine ⟨fun c => Out.totalArr m c, ?_, ?_⟩
  · exact (θ_run Cert.Kernel3Ideal.defs _ _).mono (fun r h c => ⟨(h c).1.trans (Out.final m c), (h c).2⟩) (Cert.Kernel3Ideal.Value.run_blocks (F := Ideal) m g)
  · refine (θ_run Cert.Reference3Ideal.defs _ _).mono (fun r h c => ⟨?_, (h c).2⟩) (Cert.Reference3Ideal.Value.run m' g')
    obtain ⟨e0, e1, e2, e3, e4, e5, e6⟩ := hargs c
    exact (h c).1.trans (Out.reference_result m m' c e0 e1 e2 e3 e4 e5 e6)

/-- The input projection's kernel and its idealization have the same body table: the two programs have the same text. -/
theorem bodies4 : Cert.Kernel4.defs₀ (F := Bits) = Cert.Kernel4Ideal.defs₀ (F := Bits) := by
  refine congrArg Defs.onTc ?_
  funext k a
  match k, a with
  | 0, (t, s) => rfl

theorem tables4 : Cert.Kernel4.defs (F := Bits) = Cert.Kernel4Ideal.defs (F := Bits) :=
  congrArg (Pipeline.defs (Cert.Kernel4Ideal.pcfgs (F := Bits))) bodies4

/-- So a run of the idealization over the machine's floats is a run of the kernel. -/
theorem run4_bits : Cert.quiescent_Kernel4 (hKernel4 := Cert.Kernel4.Gen.facts) := by
  intro m g _
  rw [tables4]
  exact Cert.Kernel4Ideal.Gen.frame (F := Bits) m g

theorem run4_ideal : Cert.quiescent_Kernel4Ideal (hKernel4Ideal := Cert.Kernel4Ideal.Gen.facts) :=
  fun m g _ => Cert.Kernel4Ideal.Gen.frame (F := Ideal) m g

theorem run4_reference : Cert.quiescent_Reference4Ideal (hReference4Ideal := Cert.Reference4Ideal.Gen.facts) :=
  fun m g _ => (θ_run Cert.Reference4Ideal.defs _ _).mono (fun r h => ⟨fun c => (h c).2.2.2, sem_eq_zero_of_no_sems rfl _⟩) (Cert.Reference4Ideal.Value.run m g)

/-- From the same arguments the input projection's kernel and its reference leave the same two arrays. -/
theorem same_result4 : Cert.algebraic_Kernel4Ideal_Reference4Ideal (hKernel4Ideal := Cert.Kernel4Ideal.Gen.facts)
    (hReference4Ideal := Cert.Reference4Ideal.Gen.facts) := by
  intro m g m' g' _ hargs
  refine ⟨fun c => Proj.restArr m c, fun c => Proj.gateArr m c, fun c => Proj.valueArr m c, ?_, ?_⟩
  · refine (θ_run Cert.Kernel4Ideal.defs _ _).mono (fun r h c => ?_) (Cert.Kernel4Ideal.Value.run_blocks (F := Ideal) m g)
    obtain ⟨_, _, hv, hr, hg, _, rest⟩ := h c
    exact ⟨hr.trans (Proj.rest_final m c), hg.trans (Proj.gates_final m c), hv.trans (Proj.values_final m c), rest⟩
  · refine (θ_run Cert.Reference4Ideal.defs _ _).mono (fun r h c => ?_) (Cert.Reference4Ideal.Value.run m' g')
    obtain ⟨e0, e1, e2, e3, _⟩ := hargs c
    obtain ⟨hr, hg, hv, rest⟩ := h c
    exact ⟨hr.trans (Proj.rRest_same m c _ _ _ _ e0 e1 e2 e3), hg.trans (Proj.rGates_same m c _ _ _ _ e0 e1 e2 e3), hv.trans (Proj.rValues_same m c _ _ _ _ e0 e1 e2 e3), rest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_first_in_range.Gen.facts, Cert.Pre_finite.Gen.facts,
  run_bits, run_ideal, run_ideal_finite, run_reference, fun m g _ => run_reference m g trivial, run2_bits, run2_ideal, run2_reference,
  run3_bits, run3_ideal, run3_reference, run4_bits, run4_ideal, run4_reference,
  named_kept, same_result, trivial, same_result2, trivial, same_result3, trivial, same_result4⟩

end Cert.Proof

end
